-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024x2048 : Shape := ⟨2, ![1024, 2048]⟩
abbrev S1024 : Shape := ⟨1, ![1024]⟩
abbrev S2048 : Shape := ⟨1, ![2048]⟩
abbrev S4x1024 : Shape := ⟨2, ![4, 1024]⟩
abbrev S4x2048 : Shape := ⟨2, ![4, 2048]⟩
abbrev S1024x16 : Shape := ⟨2, ![1024, 16]⟩
abbrev S2048x1024 : Shape := ⟨2, ![2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2048 : S_.BroadcastsInDim S2048 (![] : Fin 0 → Fin S2048.rank)
  reducesTo_S2048_S_d0 : S2048.ReducesTo [0] S_
  bcast_S_S4x1024 : S_.BroadcastsInDim S4x1024 (![] : Fin 0 → Fin S4x1024.rank)
  reducesTo_S4x1024_S_d0_1 : S4x1024.ReducesTo [0, 1] S_
  bcast_S_S4x2048 : S_.BroadcastsInDim S4x2048 (![] : Fin 0 → Fin S4x2048.rank)
  reducesTo_S4x2048_S_d0_1 : S4x2048.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part3 {F : FTy → Type} [FloatOps F] (main_v48 : IVec S_ 1) (main_v49 : FVec F S1024x16 .f32) (main_v50 : FVec F S1024x16 .f32) : IVec S_ 1 :=
  let main_v51 : IVec S1024x16 1 := cmpf .olt main_v49 main_v50
  let main_c_19 : IVec S_ 1 := constantI S_ 1 1#1
  let main_v52 : IVec S_ 1 := (fun x v => Host.reduce IntOp.andi x v reducesTo_S1024x16_S_d0_1 h_S_) main_v51 main_c_19
  let main_v53 : IVec S_ 1 := andi main_v48 main_v52
  main_v53

def fn_part2 {F : FTy → Type} [FloatOps F] (main_arg10 : FVec F S1024 .f32) (main_arg11 : FVec F S4x2048 .f32) (main_arg12 : FVec F S2048 .f32) (main_arg13 : FVec F S1024x16 .f32) (main_v33 : IVec S_ 1) : IVec S_ 1 :=
  let main_v34 : FVec F S1024 .f32 := Host.absf main_arg10
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S4x2048 .f32 := Host.absf main_arg11
  let main_cst_14 : FVec F S_ .f32 := constant S_ .f32 0x7F800000#32
  let main_v40 : FVec F S4x2048 .f32 := broadcastInDim S4x2048 ![] bcast_S_S4x2048 main_cst_14
  let main_v41 : IVec S4x2048 1 := cmpf .olt main_v39 main_v40
  let main_c_15 : IVec S_ 1 := constantI S_ 1 1#1
  let main_v42 : IVec S_ 1 := (fun x v => Host.reduce IntOp.andi x v reducesTo_S4x2048_S_d0_1 h_S_) main_v41 main_c_15
  let main_v43 : IVec S_ 1 := andi main_v38 main_v42
  let main_v44 : FVec F S2048 .f32 := Host.absf main_arg12
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S1024x16 .f32 := Host.absf main_arg13
  let main_cst_18 : FVec F S_ .f32 := constant S_ .f32 0x7F800000#32
  let main_v50 : FVec F S1024x16 .f32 := broadcastInDim S1024x16 ![] bcast_S_S1024x16 main_cst_18
  fn_part3 (F := F) main_v48 main_v49 main_v50

def fn_part1 {F : FTy → Type} [FloatOps F] (main_arg7 : FVec F S4x1024 .f32) (main_arg8 : FVec F S1024 .f32) (main_arg9 : FVec F S4x1024 .f32) (main_arg10 : FVec F S1024 .f32) (main_arg11 : FVec F S4x2048 .f32) (main_arg12 : FVec F S2048 .f32) (main_arg13 : FVec F S1024x16 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4x1024 .f32 := Host.absf main_arg7
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S1024 .f32 := Host.absf main_arg8
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4x1024 .f32 := Host.absf main_arg9
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg10 main_arg11 main_arg12 main_arg13 main_v33

def fn {F : FTy → Type} [FloatOps F] (main_arg0 : FVec F S4x2048x1024 .f32) (main_arg1 : FVec F S1024x1024 .f32) (main_arg2 : FVec F S1024x1024 .f32) (main_arg3 : FVec F S1024x2048 .f32) (main_arg4 : FVec F S1024 .f32) (main_arg5 : FVec F S1024 .f32) (main_arg6 : FVec F S2048 .f32) (main_arg7 : FVec F S4x1024 .f32) (main_arg8 : FVec F S1024 .f32) (main_arg9 : FVec F S4x1024 .f32) (main_arg10 : FVec F S1024 .f32) (main_arg11 : FVec F S4x2048 .f32) (main_arg12 : FVec F S2048 .f32) (main_arg13 : FVec F S1024x16 .f32) (main_arg14 : FVec F S1024x16 .f32) (main_arg15 : FVec F S2048x1024 .f32) (main_arg16 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg4
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2048 .f32 := Host.absf main_arg6
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg7 main_arg8 main_arg9 main_arg10 main_arg11 main_arg12 main_arg13 main_v13 main_v16
-- ==== Kernel.lean ====
abbrev S4x2048x1024 : Shape := ⟨3, ![4, 2048, 1024]⟩
abbrev S1024x1024 : Shape := ⟨2, ![1024, 1024]⟩
abbrev S1024x2048 : Shape := ⟨2, ![1024, 2048]⟩
abbrev S1024 : Shape := ⟨1, ![1024]⟩
abbrev S2048 : Shape := ⟨1, ![2048]⟩
abbrev S4x1024 : Shape := ⟨2, ![4, 1024]⟩
abbrev S4x2048 : Shape := ⟨2, ![4, 2048]⟩
abbrev S1024x16 : Shape := ⟨2, ![1024, 16]⟩
abbrev S2048x1024 : Shape := ⟨2, ![2048, 1024]⟩
abbrev S1x1024 : Shape := ⟨2, ![1, 1024]⟩
abbrev S1x2048 : Shape := ⟨2, ![1, 2048]⟩
abbrev S4x16x2048x64 : Shape := ⟨4, ![4, 16, 2048, 64]⟩
abbrev S4x16x2048x128 : Shape := ⟨4, ![4, 16, 2048, 128]⟩
abbrev S4x16x2048x1 : Shape := ⟨4, ![4, 16, 2048, 1]⟩
abbrev S1x256x1024 : Shape := ⟨3, ![1, 256, 1024]⟩
abbrev S1x16x256x64 : Shape := ⟨4, ![1, 16, 256, 64]⟩
abbrev S1x16x256x128 : Shape := ⟨4, ![1, 16, 256, 128]⟩
abbrev S1x16x256x1 : Shape := ⟨4, ![1, 16, 256, 1]⟩
abbrev S256x1024 : Shape := ⟨2, ![256, 1024]⟩
abbrev S8x1024 : Shape := ⟨2, ![8, 1024]⟩
abbrev S264x1024 : Shape := ⟨2, ![264, 1024]⟩
abbrev S264x1 : Shape := ⟨2, ![264, 1]⟩
abbrev S264 : Shape := ⟨1, ![264]⟩
abbrev S264x2048 : Shape := ⟨2, ![264, 2048]⟩
abbrev S256x2048 : Shape := ⟨2, ![256, 2048]⟩
abbrev S256x64 : Shape := ⟨2, ![256, 64]⟩
abbrev S1x1x256x64 : Shape := ⟨4, ![1, 1, 256, 64]⟩
abbrev S256x128 : Shape := ⟨2, ![256, 128]⟩
abbrev S1x1x256x128 : Shape := ⟨4, ![1, 1, 256, 128]⟩
abbrev S256x16 : Shape := ⟨2, ![256, 16]⟩
abbrev S256x256 : Shape := ⟨2, ![256, 256]⟩
abbrev S256x1 : Shape := ⟨2, ![256, 1]⟩
abbrev S1x1x256x1 : Shape := ⟨4, ![1, 1, 256, 1]⟩
abbrev S64x2048x64 : Shape := ⟨3, ![64, 2048, 64]⟩
abbrev S64x2048x128 : Shape := ⟨3, ![64, 2048, 128]⟩
abbrev S64x2048x1 : Shape := ⟨3, ![64, 2048, 1]⟩
abbrev S64x32x64 : Shape := ⟨3, ![64, 32, 64]⟩
abbrev S32x64x64 : Shape := ⟨3, ![32, 64, 64]⟩
abbrev S32x64x128 : Shape := ⟨3, ![32, 64, 128]⟩
abbrev S32x64x1 : Shape := ⟨3, ![32, 64, 1]⟩
abbrev S32x32x64 : Shape := ⟨3, ![32, 32, 64]⟩
abbrev S64x64 : Shape := ⟨2, ![64, 64]⟩
abbrev S1x64x64 : Shape := ⟨3, ![1, 64, 64]⟩
abbrev S1x64x1 : Shape := ⟨3, ![1, 64, 1]⟩
abbrev S64x1 : Shape := ⟨2, ![64, 1]⟩
abbrev S1x1 : Shape := ⟨2, ![1, 1]⟩
abbrev S1x1x64 : Shape := ⟨3, ![1, 1, 64]⟩
abbrev S1x64 : Shape := ⟨2, ![1, 64]⟩
abbrev S128x64 : Shape := ⟨2, ![128, 64]⟩
abbrev S128x1 : Shape := ⟨2, ![128, 1]⟩
abbrev S1x64x128 : Shape := ⟨3, ![1, 64, 128]⟩
abbrev S64x128 : Shape := ⟨2, ![64, 128]⟩
abbrev S128x128 : Shape := ⟨2, ![128, 128]⟩

abbrev nBuf : Space → Nat
  | .hbm => 45
  | .vmem => 53
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024, .f32⟩
  | .hbm, ⟨5, _⟩ => ⟨S1024, .f32⟩
  | .hbm, ⟨6, _⟩ => ⟨S2048, .f32⟩
  | .hbm, ⟨7, _⟩ => ⟨S4x1024, .f32⟩
  | .hbm, ⟨8, _⟩ => ⟨S1024, .f32⟩
  | .hbm, ⟨9, _⟩ => ⟨S4x1024, .f32⟩
  | .hbm, ⟨10, _⟩ => ⟨S1024, .f32⟩
  | .hbm, ⟨11, _⟩ => ⟨S4x2048, .f32⟩
  | .hbm, ⟨12, _⟩ => ⟨S2048, .f32⟩
  | .hbm, ⟨13, _⟩ => ⟨S1024x16, .f32⟩
  | .hbm, ⟨14, _⟩ => ⟨S1024x16, .f32⟩
  | .hbm, ⟨15, _⟩ => ⟨S2048x1024, .f32⟩
  | .hbm, ⟨16, _⟩ => ⟨S1024x1024, .f32⟩
  | .hbm, ⟨17, _⟩ => ⟨S1024x1024, .bf16⟩
  | .hbm, ⟨18, _⟩ => ⟨S1024x1024, .bf16⟩
  | .hbm, ⟨19, _⟩ => ⟨S1024x2048, .bf16⟩
  | .hbm, ⟨20, _⟩ => ⟨S1024x16, .bf16⟩
  | .hbm, ⟨21, _⟩ => ⟨S1024x16, .bf16⟩
  | .hbm, ⟨22, _⟩ => ⟨S2048x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S1x1024, .f32⟩
  | .hbm, ⟨28, _⟩ => ⟨S1x1024, .f32⟩
  | .hbm, ⟨29, _⟩ => ⟨S1x2048, .f32⟩
  | .hbm, ⟨30, _⟩ => ⟨S4x16x2048x64, .f32⟩
  | .hbm, ⟨31, _⟩ => ⟨S4x16x2048x64, .f32⟩
  | .hbm, ⟨32, _⟩ => ⟨S4x16x2048x128, .f32⟩
  | .hbm, ⟨33, _⟩ => ⟨S4x16x2048x1, .f32⟩
  | .hbm, ⟨34, _⟩ => ⟨S4x16x2048x1, .f32⟩
  | .hbm, ⟨35, _⟩ => ⟨S64x2048x64, .f32⟩
  | .hbm, ⟨36, _⟩ => ⟨S64x2048x64, .f32⟩
  | .hbm, ⟨37, _⟩ => ⟨S64x2048x128, .f32⟩
  | .hbm, ⟨38, _⟩ => ⟨S64x2048x1, .f32⟩
  | .hbm, ⟨39, _⟩ => ⟨S64x2048x1, .f32⟩
  | .hbm, ⟨40, _⟩ => ⟨S64x32x64, .f32⟩
  | .hbm, ⟨41, _⟩ => ⟨S64x32x64, .f32⟩
  | .hbm, ⟨42, _⟩ => ⟨S64x2048x128, .f32⟩
  | .hbm, ⟨43, _⟩ => ⟨S4x16x2048x128, .f32⟩
  | .hbm, ⟨44, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1x1024, .f32⟩
  | .local _ .vmem, ⟨8, _⟩ => ⟨S1x1024, .f32⟩
  | .local _ .vmem, ⟨9, _⟩ => ⟨S1x2048, .f32⟩
  | .local _ .vmem, ⟨10, _⟩ => ⟨S4x1024, .f32⟩
  | .local _ .vmem, ⟨11, _⟩ => ⟨S1x1024, .f32⟩
  | .local _ .vmem, ⟨12, _⟩ => ⟨S4x1024, .f32⟩
  | .local _ .vmem, ⟨13, _⟩ => ⟨S1x1024, .f32⟩
  | .local _ .vmem, ⟨14, _⟩ => ⟨S4x2048, .f32⟩
  | .local _ .vmem, ⟨15, _⟩ => ⟨S1x2048, .f32⟩
  | .local _ .vmem, ⟨16, _⟩ => ⟨S1024x16, .bf16⟩
  | .local _ .vmem, ⟨17, _⟩ => ⟨S1024x16, .bf16⟩
  | .local _ .vmem, ⟨18, _⟩ => ⟨S1x16x256x64, .f32⟩
  | .local _ .vmem, ⟨19, _⟩ => ⟨S1x16x256x64, .f32⟩
  | .local _ .vmem, ⟨20, _⟩ => ⟨S1x16x256x64, .f32⟩
  | .local _ .vmem, ⟨21, _⟩ => ⟨S1x16x256x64, .f32⟩
  | .local _ .vmem, ⟨22, _⟩ => ⟨S1x16x256x128, .f32⟩
  | .local _ .vmem, ⟨23, _⟩ => ⟨S1x16x256x128, .f32⟩
  | .local _ .vmem, ⟨24, _⟩ => ⟨S1x16x256x1, .f32⟩
  | .local _ .vmem, ⟨25, _⟩ => ⟨S1x16x256x1, .f32⟩
  | .local _ .vmem, ⟨26, _⟩ => ⟨S1x16x256x1, .f32⟩
  | .local _ .vmem, ⟨27, _⟩ => ⟨S1x16x256x1, .f32⟩
  | .local _ .vmem, ⟨28, _⟩ => ⟨S32x64x64, .f32⟩
  | .local _ .vmem, ⟨29, _⟩ => ⟨S32x64x64, .f32⟩
  | .local _ .vmem, ⟨30, _⟩ => ⟨S32x64x64, .f32⟩
  | .local _ .vmem, ⟨31, _⟩ => ⟨S32x64x64, .f32⟩
  | .local _ .vmem, ⟨32, _⟩ => ⟨S32x64x128, .f32⟩
  | .local _ .vmem, ⟨33, _⟩ => ⟨S32x64x128, .f32⟩
  | .local _ .vmem, ⟨34, _⟩ => ⟨S32x64x1, .f32⟩
  | .local _ .vmem, ⟨35, _⟩ => ⟨S32x64x1, .f32⟩
  | .local _ .vmem, ⟨36, _⟩ => ⟨S32x64x1, .f32⟩
  | .local _ .vmem, ⟨37, _⟩ => ⟨S32x64x1, .f32⟩
  | .local _ .vmem, ⟨38, _⟩ => ⟨S32x32x64, .f32⟩
  | .local _ .vmem, ⟨39, _⟩ => ⟨S32x32x64, .f32⟩
  | .local _ .vmem, ⟨40, _⟩ => ⟨S32x32x64, .f32⟩
  | .local _ .vmem, ⟨41, _⟩ => ⟨S32x32x64, .f32⟩
  | .local _ .vmem, ⟨42, _⟩ => ⟨S32x64x128, .f32⟩
  | .local _ .vmem, ⟨43, _⟩ => ⟨S32x64x128, .f32⟩
  | .local _ .vmem, ⟨44, _⟩ => ⟨S32x64x128, .f32⟩
  | .local _ .vmem, ⟨45, _⟩ => ⟨S1x16x256x128, .f32⟩
  | .local _ .vmem, ⟨46, _⟩ => ⟨S1x16x256x128, .f32⟩
  | .local _ .vmem, ⟨47, _⟩ => ⟨S1x256x1024, .f32⟩
  | .local _ .vmem, ⟨48, _⟩ => ⟨S1x256x1024, .f32⟩
  | .local _ .vmem, ⟨49, _⟩ => ⟨S2048x1024, .bf16⟩
  | .local _ .vmem, ⟨50, _⟩ => ⟨S1024x1024, .bf16⟩
  | .local _ .vmem, ⟨51, _⟩ => ⟨S1x256x1024, .f32⟩
  | .local _ .vmem, ⟨52, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_v13_3 : Ref sig .tc := ⟨.hbm, 33, rfl⟩
abbrev main_v13_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc1_stg5_0 : Ref sig .tc := ⟨.vmem, 38, rfl⟩
abbrev cc1_stg5_1 : Ref sig .tc := ⟨.vmem, 39, rfl⟩
abbrev cc1_stg6_0 : Ref sig .tc := ⟨.vmem, 40, rfl⟩
abbrev cc1_stg6_1 : Ref sig .tc := ⟨.vmem, 41, rfl⟩
abbrev cc1_stg7_0 : Ref sig .tc := ⟨.vmem, 42, rfl⟩
abbrev cc1_stg7_1 : Ref sig .tc := ⟨.vmem, 43, rfl⟩
abbrev cc1_scratch0 : Ref sig .tc := ⟨.vmem, 44, rfl⟩
abbrev cc2_stg0_0 : Ref sig .tc := ⟨.vmem, 45, rfl⟩
abbrev cc2_stg0_1 : Ref sig .tc := ⟨.vmem, 46, rfl⟩
abbrev cc2_stg1_0 : Ref sig .tc := ⟨.vmem, 47, rfl⟩
abbrev cc2_stg1_1 : Ref sig .tc := ⟨.vmem, 48, rfl⟩
abbrev cc2_stg2_0 : Ref sig .tc := ⟨.vmem, 49, rfl⟩
abbrev cc2_stg3_0 : Ref sig .tc := ⟨.vmem, 50, rfl⟩
abbrev cc2_stg4_0 : Ref sig .tc := ⟨.vmem, 51, rfl⟩
abbrev cc2_stg4_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem3_0 : DmaSem sig := 49
abbrev cc2_sem4_0 : DmaSem sig := 50
abbrev cc2_sem4_1 : DmaSem sig := 51

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.subi arg2 c1_i32
  let c0_i32 : BitVec 32 := 0#32
  let v3 : BitVec 32 := Scalar.maxsi v2 c0_i32
  let c0_i32_0 : BitVec 32 := 0#32
  let c0_i32_1 : BitVec 32 := 0#32
  ![v1.toNat, v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_18 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_19 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_20 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S4x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1024x16 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1024x16 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S1x16x256x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x16x256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x16x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S1x16x256x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S1x16x256x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev grid1 : Pipeline.Grid := ⟨2, ![2, 32], ![false, false]⟩

def k1_off1 (i : grid1.Coords) : Fin 3 → Nat :=
  let c0_353 : Index := 0#32
  let arg1 : BitVec 32 := BitVec.ofNat 32 (i 1).val
  let v489 : Index := Scalar.indexCast arg1
  let c0_354 : Index := 0#32
  ![0, v489.toNat, 0]
def k1_off2 (i : grid1.Coords) : Fin 3 → Nat :=
  let c1_355 : Index := 1#32
  let arg1 : BitVec 32 := BitVec.ofNat 32 (i 1).val
  let v498 : Index := Scalar.indexCast arg1
  let c0_356 : Index := 0#32
  ![1, v498.toNat, 0]
def k1_off3 (i : grid1.Coords) : Fin 3 → Nat :=
  let c2_358 : Index := 2#32
  let arg1 : BitVec 32 := BitVec.ofNat 32 (i 1).val
  let v507 : Index := Scalar.indexCast arg1
  let c0_359 : Index := 0#32
  ![2, v507.toNat, 0]
def k1_off4 (i : grid1.Coords) : Fin 3 → Nat :=
  let c3_361 : Index := 3#32
  let arg1 : BitVec 32 := BitVec.ofNat 32 (i 1).val
  let v516 : Index := Scalar.indexCast arg1
  let c0_362 : Index := 0#32
  ![3, v516.toNat, 0]
def k1_off5 (i : grid1.Coords) : Fin 3 → Nat :=
  let c4_364 : Index := 4#32
  let arg1 : BitVec 32 := BitVec.ofNat 32 (i 1).val
  let v525 : Index := Scalar.indexCast arg1
  let c0_365 : Index := 0#32
  ![4, v525.toNat, 0]
def k1_off6 (i : grid1.Coords) : Fin 3 → Nat :=
  let c5_367 : Index := 5#32
  let arg1 : BitVec 32 := BitVec.ofNat 32 (i 1).val
  let v534 : Index := Scalar.indexCast arg1
  let c0_368 : Index := 0#32
  ![5, v534.toNat, 0]
def k1_off7 (i : grid1.Coords) : Fin 3 → Nat :=
  let c6_370 : Index := 6#32
  let arg1 : BitVec 32 := BitVec.ofNat 32 (i 1).val
  let v543 : Index := Scalar.indexCast arg1
  let c0_371 : Index := 0#32
  ![6, v543.toNat, 0]
def k1_off8 (i : grid1.Coords) : Fin 3 → Nat :=
  let c7_373 : Index := 7#32
  let arg1 : BitVec 32 := BitVec.ofNat 32 (i 1).val
  let v552 : Index := Scalar.indexCast arg1
  let c0_374 : Index := 0#32
  ![7, v552.toNat, 0]
def k1_off9 (i : grid1.Coords) : Fin 3 → Nat :=
  let c8_376 : Index := 8#32
  let arg1 : BitVec 32 := BitVec.ofNat 32 (i 1).val
  let v561 : Index := Scalar.indexCast arg1
  let c0_377 : Index := 0#32
  ![8, v561.toNat, 0]
def k1_off10 (i : grid1.Coords) : Fin 3 → Nat :=
  let c9_379 : Index := 9#32
  let arg1 : BitVec 32 := BitVec.ofNat 32 (i 1).val
  let v570 : Index := Scalar.indexCast arg1
  let c0_380 : Index := 0#32
  ![9, v570.toNat, 0]
def k1_off11 (i : grid1.Coords) : Fin 3 → Nat :=
  let c10_382 : Index := 10#32
  let arg1 : BitVec 32 := BitVec.ofNat 32 (i 1).val
  let v579 : Index := Scalar.indexCast arg1
  let c0_383 : Index := 0#32
  ![10, v579.toNat, 0]
def k1_off12 (i : grid1.Coords) : Fin 3 → Nat :=
  let c11_385 : Index := 11#32
  let arg1 : BitVec 32 := BitVec.ofNat 32 (i 1).val
  let v588 : Index := Scalar.indexCast arg1
  let c0_386 : Index := 0#32
  ![11, v588.toNat, 0]
def k1_off13 (i : grid1.Coords) : Fin 3 → Nat :=
  let c12_388 : Index := 12#32
  let arg1 : BitVec 32 := BitVec.ofNat 32 (i 1).val
  let v597 : Index := Scalar.indexCast arg1
  let c0_389 : Index := 0#32
  ![12, v597.toNat, 0]
def k1_off14 (i : grid1.Coords) : Fin 3 → Nat :=
  let c13_391 : Index := 13#32
  let arg1 : BitVec 32 := BitVec.ofNat 32 (i 1).val
  let v606 : Index := Scalar.indexCast arg1
  let c0_392 : Index := 0#32
  ![13, v606.toNat, 0]
def k1_off15 (i : grid1.Coords) : Fin 3 → Nat :=
  let c14_394 : Index := 14#32
  let arg1 : BitVec 32 := BitVec.ofNat 32 (i 1).val
  let v615 : Index := Scalar.indexCast arg1
  let c0_395 : Index := 0#32
  ![14, v615.toNat, 0]
def k1_off16 (i : grid1.Coords) : Fin 3 → Nat :=
  let c15_397 : Index := 15#32
  let arg1 : BitVec 32 := BitVec.ofNat 32 (i 1).val
  let v624 : Index := Scalar.indexCast arg1
  let c0_398 : Index := 0#32
  ![15, v624.toNat, 0]
def k1_off17 (i : grid1.Coords) : Fin 3 → Nat :=
  let c16_400 : Index := 16#32
  let arg1 : BitVec 32 := BitVec.ofNat 32 (i 1).val
  let v633 : Index := Scalar.indexCast arg1
  let c0_401 : Index := 0#32
  ![16, v633.toNat, 0]
def k1_off18 (i : grid1.Coords) : Fin 3 → Nat :=
  let c17_403 : Index := 17#32
  let arg1 : BitVec 32 := BitVec.ofNat 32 (i 1).val
  let v642 : Index := Scalar.indexCast arg1
  let c0_404 : Index := 0#32
  ![17, v642.toNat, 0]
def k1_off19 (i : grid1.Coords) : Fin 3 → Nat :=
  let c18_406 : Index := 18#32
  let arg1 : BitVec 32 := BitVec.ofNat 32 (i 1).val
  let v651 : Index := Scalar.indexCast arg1
  let c0_407 : Index := 0#32
  ![18, v651.toNat, 0]
def k1_off20 (i : grid1.Coords) : Fin 3 → Nat :=
  let c19_409 : Index := 19#32
  let arg1 : BitVec 32 := BitVec.ofNat 32 (i 1).val
  let v660 : Index := Scalar.indexCast arg1
  let c0_410 : Index := 0#32
  ![19, v660.toNat, 0]
def k1_off21 (i : grid1.Coords) : Fin 3 → Nat :=
  let c20_412 : Index := 20#32
  let arg1 : BitVec 32 := BitVec.ofNat 32 (i 1).val
  let v669 : Index := Scalar.indexCast arg1
  let c0_413 : Index := 0#32
  ![20, v669.toNat, 0]
def k1_off22 (i : grid1.Coords) : Fin 3 → Nat :=
  let c21_415 : Index := 21#32
  let arg1 : BitVec 32 := BitVec.ofNat 32 (i 1).val
  let v678 : Index := Scalar.indexCast arg1
  let c0_416 : Index := 0#32
  ![21, v678.toNat, 0]
def k1_off23 (i : grid1.Coords) : Fin 3 → Nat :=
  let c22_418 : Index := 22#32
  let arg1 : BitVec 32 := BitVec.ofNat 32 (i 1).val
  let v687 : Index := Scalar.indexCast arg1
  let c0_419 : Index := 0#32
  ![22, v687.toNat, 0]
def k1_off24 (i : grid1.Coords) : Fin 3 → Nat :=
  let c23_421 : Index := 23#32
  let arg1 : BitVec 32 := BitVec.ofNat 32 (i 1).val
  let v696 : Index := Scalar.indexCast arg1
  let c0_422 : Index := 0#32
  ![23, v696.toNat, 0]
def k1_off25 (i : grid1.Coords) : Fin 3 → Nat :=
  let c24_424 : Index := 24#32
  let arg1 : BitVec 32 := BitVec.ofNat 32 (i 1).val
  let v705 : Index := Scalar.indexCast arg1
  let c0_425 : Index := 0#32
  ![24, v705.toNat, 0]
def k1_off26 (i : grid1.Coords) : Fin 3 → Nat :=
  let c25_427 : Index := 25#32
  let arg1 : BitVec 32 := BitVec.ofNat 32 (i 1).val
  let v714 : Index := Scalar.indexCast arg1
  let c0_428 : Index := 0#32
  ![25, v714.toNat, 0]
def k1_off27 (i : grid1.Coords) : Fin 3 → Nat :=
  let c26_430 : Index := 26#32
  let arg1 : BitVec 32 := BitVec.ofNat 32 (i 1).val
  let v723 : Index := Scalar.indexCast arg1
  let c0_431 : Index := 0#32
  ![26, v723.toNat, 0]
def k1_off28 (i : grid1.Coords) : Fin 3 → Nat :=
  let c27_433 : Index := 27#32
  let arg1 : BitVec 32 := BitVec.ofNat 32 (i 1).val
  let v732 : Index := Scalar.indexCast arg1
  let c0_434 : Index := 0#32
  ![27, v732.toNat, 0]
def k1_off29 (i : grid1.Coords) : Fin 3 → Nat :=
  let c28_436 : Index := 28#32
  let arg1 : BitVec 32 := BitVec.ofNat 32 (i 1).val
  let v741 : Index := Scalar.indexCast arg1
  let c0_437 : Index := 0#32
  ![28, v741.toNat, 0]
def k1_off30 (i : grid1.Coords) : Fin 3 → Nat :=
  let c29_439 : Index := 29#32
  let arg1 : BitVec 32 := BitVec.ofNat 32 (i 1).val
  let v750 : Index := Scalar.indexCast arg1
  let c0_440 : Index := 0#32
  ![29, v750.toNat, 0]
def k1_off31 (i : grid1.Coords) : Fin 3 → Nat :=
  let c30_442 : Index := 30#32
  let arg1 : BitVec 32 := BitVec.ofNat 32 (i 1).val
  let v759 : Index := Scalar.indexCast arg1
  let c0_443 : Index := 0#32
  ![30, v759.toNat, 0]
def k1_off32 (i : grid1.Coords) : Fin 3 → Nat :=
  let c31_445 : Index := 31#32
  let arg1 : BitVec 32 := BitVec.ofNat 32 (i 1).val
  let v768 : Index := Scalar.indexCast arg1
  let c0_446 : Index := 0#32
  ![31, v768.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S32x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S32x64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S32x32x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S32x32x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S32x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨3, ![2, 2, 8], ![false, false, false]⟩

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

abbrev stage2_0 : Fin 2 → Memref sig .tc .vmem S1x16x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 1 → Memref sig .tc .vmem S2048x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S1x256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x1024 : Shape := ⟨3, ![4, 2048, 1024]⟩
abbrev S1024x1024 : Shape := ⟨2, ![1024, 1024]⟩
abbrev S1024x2048 : Shape := ⟨2, ![1024, 2048]⟩
abbrev S1024 : Shape := ⟨1, ![1024]⟩
abbrev S2048 : Shape := ⟨1, ![2048]⟩
abbrev S4x1024 : Shape := ⟨2, ![4, 1024]⟩
abbrev S4x2048 : Shape := ⟨2, ![4, 2048]⟩
abbrev S1024x16 : Shape := ⟨2, ![1024, 16]⟩
abbrev S2048x1024 : Shape := ⟨2, ![2048, 1024]⟩
abbrev S_ : Shape := ⟨0, ![]⟩
abbrev S4x2048x1 : Shape := ⟨3, ![4, 2048, 1]⟩
abbrev S1x1x1024 : Shape := ⟨3, ![1, 1, 1024]⟩
abbrev S4x2051x1024 : Shape := ⟨3, ![4, 2051, 1024]⟩
abbrev S1x1024 : Shape := ⟨2, ![1, 1024]⟩
abbrev S4x2048x2048 : Shape := ⟨3, ![4, 2048, 2048]⟩
abbrev S1x1x2048 : Shape := ⟨3, ![1, 1, 2048]⟩
abbrev S4x2051x2048 : Shape := ⟨3, ![4, 2051, 2048]⟩
abbrev S1x2048 : Shape := ⟨2, ![1, 2048]⟩
abbrev S4x2048x16x64 : Shape := ⟨4, ![4, 2048, 16, 64]⟩
abbrev S4x2048x16x128 : Shape := ⟨4, ![4, 2048, 16, 128]⟩
abbrev S4x2048x16 : Shape := ⟨3, ![4, 2048, 16]⟩
abbrev S2048x4x16x64 : Shape := ⟨4, ![2048, 4, 16, 64]⟩
abbrev S2048x4x16x128 : Shape := ⟨4, ![2048, 4, 16, 128]⟩
abbrev S2048x4x16 : Shape := ⟨3, ![2048, 4, 16]⟩
abbrev S4x16x64x128 : Shape := ⟨4, ![4, 16, 64, 128]⟩
abbrev S1x4x16x64 : Shape := ⟨4, ![1, 4, 16, 64]⟩
abbrev S4x16x64 : Shape := ⟨3, ![4, 16, 64]⟩
abbrev S1x4x16x128 : Shape := ⟨4, ![1, 4, 16, 128]⟩
abbrev S4x16x128 : Shape := ⟨3, ![4, 16, 128]⟩
abbrev S1x4x16 : Shape := ⟨3, ![1, 4, 16]⟩
abbrev S4x16 : Shape := ⟨2, ![4, 16]⟩
abbrev S4x16x1x1 : Shape := ⟨4, ![4, 16, 1, 1]⟩
abbrev S4x16x64x1 : Shape := ⟨4, ![4, 16, 64, 1]⟩
abbrev S4x16x1x128 : Shape := ⟨4, ![4, 16, 1, 128]⟩

abbrev nBuf : Space → Nat
  | .hbm => 317
  | .vmem => 0
  | .smem => 0
  | _ => 0

abbrev hbmTy0_0 (i : Nat) : BufTy := match i % 128 with
  | 0 => ⟨S4x2048x1024, .f32⟩
  | 1 => ⟨S1024x1024, .f32⟩
  | 2 => ⟨S1024x1024, .f32⟩
  | 3 => ⟨S1024x2048, .f32⟩
  | 4 => ⟨S1024, .f32⟩
  | 5 => ⟨S1024, .f32⟩
  | 6 => ⟨S2048, .f32⟩
  | 7 => ⟨S4x1024, .f32⟩
  | 8 => ⟨S1024, .f32⟩
  | 9 => ⟨S4x1024, .f32⟩
  | 10 => ⟨S1024, .f32⟩
  | 11 => ⟨S4x2048, .f32⟩
  | 12 => ⟨S2048, .f32⟩
  | 13 => ⟨S1024x16, .f32⟩
  | 14 => ⟨S1024x16, .f32⟩
  | 15 => ⟨S2048x1024, .f32⟩
  | 16 => ⟨S1024x1024, .f32⟩
  | 17 => ⟨S4x2048x1024, .f32⟩
  | 18 => ⟨S_, .f32⟩
  | 19 => ⟨S4x2048, .f32⟩
  | 20 => ⟨S4x2048x1, .f32⟩
  | 21 => ⟨S_, .f32⟩
  | 22 => ⟨S4x2048x1, .f32⟩
  | 23 => ⟨S4x2048x1, .f32⟩
  | 24 => ⟨S4x2048x1024, .f32⟩
  | 25 => ⟨S4x2048x1024, .f32⟩
  | 26 => ⟨S4x2048x1024, .f32⟩
  | 27 => ⟨S_, .f32⟩
  | 28 => ⟨S4x2048, .f32⟩
  | 29 => ⟨S4x2048x1, .f32⟩
  | 30 => ⟨S_, .f32⟩
  | 31 => ⟨S4x2048x1, .f32⟩
  | 32 => ⟨S4x2048x1, .f32⟩
  | 33 => ⟨S_, .f32⟩
  | 34 => ⟨S4x2048x1, .f32⟩
  | 35 => ⟨S4x2048x1, .f32⟩
  | 36 => ⟨S4x2048x1, .f32⟩
  | 37 => ⟨S4x2048x1024, .f32⟩
  | 38 => ⟨S4x2048x1024, .f32⟩
  | 39 => ⟨S1x1x1024, .f32⟩
  | 40 => ⟨S4x2048x1024, .f32⟩
  | 41 => ⟨S4x2048x1024, .f32⟩
  | 42 => ⟨S_, .i32⟩
  | 43 => ⟨S_, .f32⟩
  | 44 => ⟨S4x2051x1024, .f32⟩
  | 45 => ⟨S4x2048x1024, .f32⟩
  | 46 => ⟨S1x1024, .f32⟩
  | 47 => ⟨S1024, .f32⟩
  | 48 => ⟨S1x1x1024, .f32⟩
  | 49 => ⟨S4x2048x1024, .f32⟩
  | 50 => ⟨S4x2048x1024, .f32⟩
  | 51 => ⟨S1x1x1024, .f32⟩
  | 52 => ⟨S4x2048x1024, .f32⟩
  | 53 => ⟨S4x2048x1024, .f32⟩
  | 54 => ⟨S4x2048x1024, .f32⟩
  | 55 => ⟨S1x1024, .f32⟩
  | 56 => ⟨S1024, .f32⟩
  | 57 => ⟨S1x1x1024, .f32⟩
  | 58 => ⟨S4x2048x1024, .f32⟩
  | 59 => ⟨S4x2048x1024, .f32⟩
  | 60 => ⟨S4x2048x1024, .f32⟩
  | 61 => ⟨S4x2048x1024, .f32⟩
  | 62 => ⟨S1x1024, .f32⟩
  | 63 => ⟨S1024, .f32⟩
  | 64 => ⟨S1x1x1024, .f32⟩
  | 65 => ⟨S4x2048x1024, .f32⟩
  | 66 => ⟨S4x2048x1024, .f32⟩
  | 67 => ⟨S4x2048x1024, .f32⟩
  | 68 => ⟨S4x2048x1024, .f32⟩
  | 69 => ⟨S1x1024, .f32⟩
  | 70 => ⟨S1024, .f32⟩
  | 71 => ⟨S1x1x1024, .f32⟩
  | 72 => ⟨S4x2048x1024, .f32⟩
  | 73 => ⟨S4x2048x1024, .f32⟩
  | 74 => ⟨S4x2048x1024, .f32⟩
  | 75 => ⟨S4x2048x1024, .f32⟩
  | 76 => ⟨S4x2048x1024, .f32⟩
  | 77 => ⟨S_, .f32⟩
  | 78 => ⟨S4x2048x1024, .f32⟩
  | 79 => ⟨S4x2048x1024, .f32⟩
  | 80 => ⟨S_, .f32⟩
  | 81 => ⟨S4x2048x1024, .f32⟩
  | 82 => ⟨S4x2048x1024, .f32⟩
  | 83 => ⟨S4x2048x1024, .f32⟩
  | 84 => ⟨S4x2048x1024, .f32⟩
  | 85 => ⟨S_, .f32⟩
  | 86 => ⟨S4x2048, .f32⟩
  | 87 => ⟨S4x2048x1, .f32⟩
  | 88 => ⟨S_, .f32⟩
  | 89 => ⟨S4x2048x1, .f32⟩
  | 90 => ⟨S4x2048x1, .f32⟩
  | 91 => ⟨S4x2048x1024, .f32⟩
  | 92 => ⟨S4x2048x1024, .f32⟩
  | 93 => ⟨S4x2048x1024, .f32⟩
  | 94 => ⟨S_, .f32⟩
  | 95 => ⟨S4x2048, .f32⟩
  | 96 => ⟨S4x2048x1, .f32⟩
  | 97 => ⟨S_, .f32⟩
  | 98 => ⟨S4x2048x1, .f32⟩
  | 99 => ⟨S4x2048x1, .f32⟩
  | 100 => ⟨S_, .f32⟩
  | 101 => ⟨S4x2048x1, .f32⟩
  | 102 => ⟨S4x2048x1, .f32⟩
  | 103 => ⟨S4x2048x1, .f32⟩
  | 104 => ⟨S4x2048x1024, .f32⟩
  | 105 => ⟨S4x2048x1024, .f32⟩
  | 106 => ⟨S1x1x1024, .f32⟩
  | 107 => ⟨S4x2048x1024, .f32⟩
  | 108 => ⟨S4x2048x1024, .f32⟩
  | 109 => ⟨S_, .i32⟩
  | 110 => ⟨S_, .f32⟩
  | 111 => ⟨S4x2051x1024, .f32⟩
  | 112 => ⟨S4x2048x1024, .f32⟩
  | 113 => ⟨S1x1024, .f32⟩
  | 114 => ⟨S1024, .f32⟩
  | 115 => ⟨S1x1x1024, .f32⟩
  | 116 => ⟨S4x2048x1024, .f32⟩
  | 117 => ⟨S4x2048x1024, .f32⟩
  | 118 => ⟨S1x1x1024, .f32⟩
  | 119 => ⟨S4x2048x1024, .f32⟩
  | 120 => ⟨S4x2048x1024, .f32⟩
  | 121 => ⟨S4x2048x1024, .f32⟩
  | 122 => ⟨S1x1024, .f32⟩
  | 123 => ⟨S1024, .f32⟩
  | 124 => ⟨S1x1x1024, .f32⟩
  | 125 => ⟨S4x2048x1024, .f32⟩
  | 126 => ⟨S4x2048x1024, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S1x1024, .f32⟩
  | 2 => ⟨S1024, .f32⟩
  | 3 => ⟨S1x1x1024, .f32⟩
  | 4 => ⟨S4x2048x1024, .f32⟩
  | 5 => ⟨S4x2048x1024, .f32⟩
  | 6 => ⟨S4x2048x1024, .f32⟩
  | 7 => ⟨S4x2048x1024, .f32⟩
  | 8 => ⟨S1x1024, .f32⟩
  | 9 => ⟨S1024, .f32⟩
  | 10 => ⟨S1x1x1024, .f32⟩
  | 11 => ⟨S4x2048x1024, .f32⟩
  | 12 => ⟨S4x2048x1024, .f32⟩
  | 13 => ⟨S4x2048x1024, .f32⟩
  | 14 => ⟨S4x2048x1024, .f32⟩
  | 15 => ⟨S4x2048x1024, .f32⟩
  | 16 => ⟨S_, .f32⟩
  | 17 => ⟨S4x2048x1024, .f32⟩
  | 18 => ⟨S4x2048x1024, .f32⟩
  | 19 => ⟨S_, .f32⟩
  | 20 => ⟨S4x2048x1024, .f32⟩
  | 21 => ⟨S4x2048x1024, .f32⟩
  | 22 => ⟨S4x2048x1024, .f32⟩
  | 23 => ⟨S4x2048x2048, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S4x2048x2048, .f32⟩
  | 31 => ⟨S4x2048x2048, .f32⟩
  | 32 => ⟨S4x2048x2048, .f32⟩
  | 33 => ⟨S_, .f32⟩
  | 34 => ⟨S4x2048, .f32⟩
  | 35 => ⟨S4x2048x1, .f32⟩
  | 36 => ⟨S_, .f32⟩
  | 37 => ⟨S4x2048x1, .f32⟩
  | 38 => ⟨S4x2048x1, .f32⟩
  | 39 => ⟨S_, .f32⟩
  | 40 => ⟨S4x2048x1, .f32⟩
  | 41 => ⟨S4x2048x1, .f32⟩
  | 42 => ⟨S4x2048x1, .f32⟩
  | 43 => ⟨S4x2048x2048, .f32⟩
  | 44 => ⟨S4x2048x2048, .f32⟩
  | 45 => ⟨S1x1x2048, .f32⟩
  | 46 => ⟨S4x2048x2048, .f32⟩
  | 47 => ⟨S4x2048x2048, .f32⟩
  | 48 => ⟨S_, .i32⟩
  | 49 => ⟨S_, .f32⟩
  | 50 => ⟨S4x2051x2048, .f32⟩
  | 51 => ⟨S4x2048x2048, .f32⟩
  | 52 => ⟨S1x2048, .f32⟩
  | 53 => ⟨S2048, .f32⟩
  | 54 => ⟨S1x1x2048, .f32⟩
  | 55 => ⟨S4x2048x2048, .f32⟩
  | 56 => ⟨S4x2048x2048, .f32⟩
  | 57 => ⟨S1x1x2048, .f32⟩
  | 58 => ⟨S4x2048x2048, .f32⟩
  | 59 => ⟨S4x2048x2048, .f32⟩
  | 60 => ⟨S4x2048x2048, .f32⟩
  | 61 => ⟨S1x2048, .f32⟩
  | 62 => ⟨S2048, .f32⟩
  | 63 => ⟨S1x1x2048, .f32⟩
  | 64 => ⟨S4x2048x2048, .f32⟩
  | 65 => ⟨S4x2048x2048, .f32⟩
  | 66 => ⟨S4x2048x2048, .f32⟩
  | 67 => ⟨S4x2048x2048, .f32⟩
  | 68 => ⟨S1x2048, .f32⟩
  | 69 => ⟨S2048, .f32⟩
  | 70 => ⟨S1x1x2048, .f32⟩
  | 71 => ⟨S4x2048x2048, .f32⟩
  | 72 => ⟨S4x2048x2048, .f32⟩
  | 73 => ⟨S4x2048x2048, .f32⟩
  | 74 => ⟨S4x2048x2048, .f32⟩
  | 75 => ⟨S1x2048, .f32⟩
  | 76 => ⟨S2048, .f32⟩
  | 77 => ⟨S1x1x2048, .f32⟩
  | 78 => ⟨S4x2048x2048, .f32⟩
  | 79 => ⟨S4x2048x2048, .f32⟩
  | 80 => ⟨S4x2048x2048, .f32⟩
  | 81 => ⟨S4x2048x2048, .f32⟩
  | 82 => ⟨S4x2048x2048, .f32⟩
  | 83 => ⟨S_, .f32⟩
  | 84 => ⟨S4x2048x2048, .f32⟩
  | 85 => ⟨S4x2048x2048, .f32⟩
  | 86 => ⟨S_, .f32⟩
  | 87 => ⟨S4x2048x2048, .f32⟩
  | 88 => ⟨S4x2048x2048, .f32⟩
  | 89 => ⟨S4x2048x2048, .f32⟩
  | 90 => ⟨S4x2048x16x64, .f32⟩
  | 91 => ⟨S4x2048x16x64, .f32⟩
  | 92 => ⟨S4x2048x16x128, .f32⟩
  | 93 => ⟨S4x2048x16, .f32⟩
  | 94 => ⟨S4x2048x16, .f32⟩
  | 95 => ⟨S4x2048x16, .f32⟩
  | 96 => ⟨S_, .f32⟩
  | 97 => ⟨S4x2048x16, .f32⟩
  | 98 => ⟨S4x2048x16, .f32⟩
  | 99 => ⟨S_, .f32⟩
  | 100 => ⟨S4x2048x16, .f32⟩
  | 101 => ⟨S4x2048x16, .f32⟩
  | 102 => ⟨S4x2048x16, .f32⟩
  | 103 => ⟨S4x2048x16, .f32⟩
  | 104 => ⟨S4x2048x16, .f32⟩
  | 105 => ⟨S_, .f32⟩
  | 106 => ⟨S4x2048x16, .f32⟩
  | 107 => ⟨S4x2048x16, .f32⟩
  | 108 => ⟨S_, .f32⟩
  | 109 => ⟨S4x2048x16, .f32⟩
  | 110 => ⟨S4x2048x16, .f32⟩
  | 111 => ⟨S2048x4x16x64, .f32⟩
  | 112 => ⟨S2048x4x16x64, .f32⟩
  | 113 => ⟨S2048x4x16x128, .f32⟩
  | 114 => ⟨S2048x4x16, .f32⟩
  | 115 => ⟨S2048x4x16, .f32⟩
  | 116 => ⟨S_, .f32⟩
  | 117 => ⟨S4x16x64x128, .f32⟩
  | 118 => ⟨S_, .f32⟩
  | 119 => ⟨S2048x4x16x128, .f32⟩
  | 120 => ⟨S_, .i32⟩
  | 121 => ⟨S2048x4x16x64, .f32⟩
  | 122 => ⟨S2048x4x16x64, .f32⟩
  | 123 => ⟨S2048x4x16x128, .f32⟩
  | 124 => ⟨S2048x4x16, .f32⟩
  | 125 => ⟨S2048x4x16, .f32⟩
  | 126 => ⟨S_, .i32⟩
  | 127 => ⟨S4x16x64x128, .f32⟩
  | _ => ⟨S4x2048x1024, .f32⟩

abbrev hbmTy0_2 (i : Nat) : BufTy := match i % 128 with
  | 0 => ⟨S2048x4x16x128, .f32⟩
  | 1 => ⟨S_, .i32⟩
  | 2 => ⟨S_, .i1⟩
  | 3 => ⟨S_, .i32⟩
  | 4 => ⟨S_, .i32⟩
  | 5 => ⟨S_, .i32⟩
  | 6 => ⟨S1x4x16x64, .f32⟩
  | 7 => ⟨S4x16x64, .f32⟩
  | 8 => ⟨S_, .i32⟩
  | 9 => ⟨S_, .i32⟩
  | 10 => ⟨S_, .i32⟩
  | 11 => ⟨S1x4x16x64, .f32⟩
  | 12 => ⟨S4x16x64, .f32⟩
  | 13 => ⟨S_, .i32⟩
  | 14 => ⟨S_, .i32⟩
  | 15 => ⟨S_, .i32⟩
  | 16 => ⟨S1x4x16x128, .f32⟩
  | 17 => ⟨S4x16x128, .f32⟩
  | 18 => ⟨S_, .i32⟩
  | 19 => ⟨S_, .i32⟩
  | 20 => ⟨S1x4x16, .f32⟩
  | 21 => ⟨S4x16, .f32⟩
  | 22 => ⟨S_, .i32⟩
  | 23 => ⟨S_, .i32⟩
  | 24 => ⟨S1x4x16, .f32⟩
  | 25 => ⟨S4x16, .f32⟩
  | 26 => ⟨S4x16x1x1, .f32⟩
  | 27 => ⟨S4x16x64x128, .f32⟩
  | 28 => ⟨S4x16x64x128, .f32⟩
  | 29 => ⟨S4x16x128, .f32⟩
  | 30 => ⟨S4x16x1x1, .f32⟩
  | 31 => ⟨S4x16x64x1, .f32⟩
  | 32 => ⟨S4x16x128, .f32⟩
  | 33 => ⟨S4x16x1x128, .f32⟩
  | 34 => ⟨S4x16x64x128, .f32⟩
  | 35 => ⟨S4x16x64x128, .f32⟩
  | 36 => ⟨S4x16x64x128, .f32⟩
  | 37 => ⟨S4x16x64x128, .f32⟩
  | 38 => ⟨S4x16x64x128, .f32⟩
  | 39 => ⟨S4x16x64x128, .f32⟩
  | 40 => ⟨S4x16x128, .f32⟩
  | 41 => ⟨S1x4x16x128, .f32⟩
  | 42 => ⟨S_, .i32⟩
  | 43 => ⟨S_, .i32⟩
  | 44 => ⟨S_, .i32⟩
  | 45 => ⟨S2048x4x16x128, .f32⟩
  | 46 => ⟨S_, .i32⟩
  | 47 => ⟨S_, .i32⟩
  | 48 => ⟨S4x2048x16x128, .f32⟩
  | 49 => ⟨S4x2048x2048, .f32⟩
  | 50 => ⟨S4x2048x1024, .f32⟩
  | 51 => ⟨S4x2048x1024, .f32⟩
  | 52 => ⟨S4x2048x1024, .f32⟩
  | 53 => ⟨S4x2048x1024, .f32⟩
  | 54 => ⟨S_, .f32⟩
  | 55 => ⟨S4x2048x1024, .f32⟩
  | 56 => ⟨S4x2048x1024, .f32⟩
  | 57 => ⟨S_, .f32⟩
  | 58 => ⟨S4x2048x1024, .f32⟩
  | 59 => ⟨S4x2048x1024, .f32⟩
  | 60 => ⟨S4x2048x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_call0_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v51 : Ref sig .tc := ⟨.hbm, 83, rfl⟩
abbrev main_v52 : Ref sig .tc := ⟨.hbm, 84, rfl⟩
abbrev main_cst_4 : Ref sig .tc := ⟨.hbm, 85, rfl⟩
abbrev main_v53 : Ref sig .tc := ⟨.hbm, 86, rfl⟩
abbrev main_v54 : Ref sig .tc := ⟨.hbm, 87, rfl⟩
abbrev main_cst_5 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_6 : Ref sig .tc := ⟨.hbm, 94, rfl⟩
abbrev main_v60 : Ref sig .tc := ⟨.hbm, 95, rfl⟩
abbrev main_v61 : Ref sig .tc := ⟨.hbm, 96, rfl⟩
abbrev main_cst_7 : Ref sig .tc := ⟨.hbm, 97, rfl⟩
abbrev main_v62 : Ref sig .tc := ⟨.hbm, 98, rfl⟩
abbrev main_v63 : Ref sig .tc := ⟨.hbm, 99, rfl⟩
abbrev main_cst_8 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_9 : Ref sig .tc := ⟨.hbm, 109, rfl⟩
abbrev main_call2_v0 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call3_v0 : Ref sig .tc := ⟨.hbm, 142, rfl⟩
abbrev main_call3_v1 : Ref sig .tc := ⟨.hbm, 143, rfl⟩
abbrev main_call3_cst : Ref sig .tc := ⟨.hbm, 144, rfl⟩
abbrev main_call3_v2 : Ref sig .tc := ⟨.hbm, 145, rfl⟩
abbrev main_call3_v3 : Ref sig .tc := ⟨.hbm, 146, rfl⟩
abbrev main_call3_cst_0 : Ref sig .tc := ⟨.hbm, 147, rfl⟩
abbrev main_call3_v4 : Ref sig .tc := ⟨.hbm, 148, rfl⟩
abbrev main_call3_v5 : Ref sig .tc := ⟨.hbm, 149, rfl⟩
abbrev main_v103 : Ref sig .tc := ⟨.hbm, 150, rfl⟩
abbrev main_v104 : Ref sig .tc := ⟨.hbm, 151, rfl⟩
abbrev main_cst_10 : Ref sig .tc := ⟨.hbm, 152, rfl⟩
abbrev main_v105 : Ref sig .tc := ⟨.hbm, 153, rfl⟩
abbrev main_v106 : Ref sig .tc := ⟨.hbm, 154, rfl⟩
abbrev main_cst_11 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_12 : Ref sig .tc := ⟨.hbm, 161, rfl⟩
abbrev main_v112 : Ref sig .tc := ⟨.hbm, 162, rfl⟩
abbrev main_v113 : Ref sig .tc := ⟨.hbm, 163, rfl⟩
abbrev main_cst_13 : Ref sig .tc := ⟨.hbm, 164, rfl⟩
abbrev main_v114 : Ref sig .tc := ⟨.hbm, 165, rfl⟩
abbrev main_v115 : Ref sig .tc := ⟨.hbm, 166, rfl⟩
abbrev main_cst_14 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_c_15 : Ref sig .tc := ⟨.hbm, 176, rfl⟩
abbrev main_call4_v0 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_call5_v0 : Ref sig .tc := ⟨.hbm, 209, rfl⟩
abbrev main_call5_v1 : Ref sig .tc := ⟨.hbm, 210, rfl⟩
abbrev main_call5_cst : Ref sig .tc := ⟨.hbm, 211, rfl⟩
abbrev main_call5_v2 : Ref sig .tc := ⟨.hbm, 212, rfl⟩
abbrev main_call5_v3 : Ref sig .tc := ⟨.hbm, 213, rfl⟩
abbrev main_call5_cst_0 : Ref sig .tc := ⟨.hbm, 214, rfl⟩
abbrev main_call5_v4 : Ref sig .tc := ⟨.hbm, 215, rfl⟩
abbrev main_call5_v5 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_cst_16 : Ref sig .tc := ⟨.hbm, 224, rfl⟩
abbrev main_v162 : Ref sig .tc := ⟨.hbm, 225, rfl⟩
abbrev main_v163 : Ref sig .tc := ⟨.hbm, 226, rfl⟩
abbrev main_cst_17 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_cst_18 : Ref sig .tc := ⟨.hbm, 233, rfl⟩
abbrev main_v169 : Ref sig .tc := ⟨.hbm, 234, rfl⟩
abbrev main_v170 : Ref sig .tc := ⟨.hbm, 235, rfl⟩
abbrev main_cst_19 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_20 : Ref sig .tc := ⟨.hbm, 244, rfl⟩
abbrev main_v178 : Ref sig .tc := ⟨.hbm, 245, rfl⟩
abbrev main_cst_21 : Ref sig .tc := ⟨.hbm, 246, rfl⟩
abbrev main_v179 : Ref sig .tc := ⟨.hbm, 247, rfl⟩
abbrev main_c_22 : Ref sig .tc := ⟨.hbm, 248, rfl⟩
abbrev main_v180_0 : Ref sig .tc := ⟨.hbm, 249, rfl⟩
abbrev main_v180_1 : Ref sig .tc := ⟨.hbm, 250, rfl⟩
abbrev main_v180_2 : Ref sig .tc := ⟨.hbm, 251, rfl⟩
abbrev main_v180_3 : Ref sig .tc := ⟨.hbm, 252, rfl⟩
abbrev main_v180_4 : Ref sig .tc := ⟨.hbm, 253, rfl⟩
abbrev main_v180_5 : Ref sig .tc := ⟨.hbm, 254, rfl⟩
abbrev main_v180_6 : Ref sig .tc := ⟨.hbm, 255, rfl⟩
abbrev main_v180_7 : Ref sig .tc := ⟨.hbm, 256, rfl⟩
abbrev main_while0c_c_32 : Ref sig .tc := ⟨.hbm, 257, rfl⟩
abbrev main_while0c_v192 : Ref sig .tc := ⟨.hbm, 258, rfl⟩
abbrev main_while0b_call6_c : Ref sig .tc := ⟨.hbm, 259, rfl⟩
abbrev main_while0b_call6_c_0 : Ref sig .tc := ⟨.hbm, 260, rfl⟩
abbrev main_while0b_call6_c_1 : Ref sig .tc := ⟨.hbm, 261, rfl⟩
abbrev main_while0b_call6_v0 : Ref sig .tc := ⟨.hbm, 262, rfl⟩
abbrev main_while0b_v192 : Ref sig .tc := ⟨.hbm, 263, rfl⟩
abbrev main_while0b_call7_c : Ref sig .tc := ⟨.hbm, 264, rfl⟩
abbrev main_while0b_call7_c_0 : Ref sig .tc := ⟨.hbm, 265, rfl⟩
abbrev main_while0b_call7_c_1 : Ref sig .tc := ⟨.hbm, 266, rfl⟩
abbrev main_while0b_call7_v0 : Ref sig .tc := ⟨.hbm, 267, rfl⟩
abbrev main_while0b_v193 : Ref sig .tc := ⟨.hbm, 268, rfl⟩
abbrev main_while0b_call8_c : Ref sig .tc := ⟨.hbm, 269, rfl⟩
abbrev main_while0b_call8_c_0 : Ref sig .tc := ⟨.hbm, 270, rfl⟩
abbrev main_while0b_call8_c_1 : Ref sig .tc := ⟨.hbm, 271, rfl⟩
abbrev main_while0b_call8_v0 : Ref sig .tc := ⟨.hbm, 272, rfl⟩
abbrev main_while0b_v194 : Ref sig .tc := ⟨.hbm, 273, rfl⟩
abbrev main_while0b_call9_c : Ref sig .tc := ⟨.hbm, 274, rfl⟩
abbrev main_while0b_call9_c_0 : Ref sig .tc := ⟨.hbm, 275, rfl⟩
abbrev main_while0b_call9_v0 : Ref sig .tc := ⟨.hbm, 276, rfl⟩
abbrev main_while0b_v195 : Ref sig .tc := ⟨.hbm, 277, rfl⟩
abbrev main_while0b_call10_c : Ref sig .tc := ⟨.hbm, 278, rfl⟩
abbrev main_while0b_call10_c_0 : Ref sig .tc := ⟨.hbm, 279, rfl⟩
abbrev main_while0b_call10_v0 : Ref sig .tc := ⟨.hbm, 280, rfl⟩
abbrev main_while0b_v196 : Ref sig .tc := ⟨.hbm, 281, rfl⟩
abbrev main_while0b_v197 : Ref sig .tc := ⟨.hbm, 282, rfl⟩
abbrev main_while0b_v198 : Ref sig .tc := ⟨.hbm, 283, rfl⟩
abbrev main_while0b_v199 : Ref sig .tc := ⟨.hbm, 284, rfl⟩
abbrev main_while0b_v200 : Ref sig .tc := ⟨.hbm, 285, rfl⟩
abbrev main_while0b_v201 : Ref sig .tc := ⟨.hbm, 286, rfl⟩
abbrev main_while0b_v202 : Ref sig .tc := ⟨.hbm, 287, rfl⟩
abbrev main_while0b_v203 : Ref sig .tc := ⟨.hbm, 288, rfl⟩
abbrev main_while0b_v204 : Ref sig .tc := ⟨.hbm, 289, rfl⟩
abbrev main_while0b_v205 : Ref sig .tc := ⟨.hbm, 290, rfl⟩
abbrev main_while0b_v206 : Ref sig .tc := ⟨.hbm, 291, rfl⟩
abbrev main_while0b_v207 : Ref sig .tc := ⟨.hbm, 292, rfl⟩
abbrev main_while0b_v208 : Ref sig .tc := ⟨.hbm, 293, rfl⟩
abbrev main_while0b_v209 : Ref sig .tc := ⟨.hbm, 294, rfl⟩
abbrev main_while0b_v210 : Ref sig .tc := ⟨.hbm, 295, rfl⟩
abbrev main_while0b_v211 : Ref sig .tc := ⟨.hbm, 296, rfl⟩
abbrev main_while0b_call11_v0 : Ref sig .tc := ⟨.hbm, 297, rfl⟩
abbrev main_while0b_call11_c : Ref sig .tc := ⟨.hbm, 298, rfl⟩
abbrev main_while0b_call11_c_0 : Ref sig .tc := ⟨.hbm, 299, rfl⟩
abbrev main_while0b_call11_c_1 : Ref sig .tc := ⟨.hbm, 300, rfl⟩
abbrev main_while0b_v212 : Ref sig .tc := ⟨.hbm, 301, rfl⟩
abbrev main_while0b_c_32 : Ref sig .tc := ⟨.hbm, 302, rfl⟩
abbrev main_while0b_v213 : Ref sig .tc := ⟨.hbm, 303, rfl⟩
abbrev main_v181 : Ref sig .tc := ⟨.hbm, 304, rfl⟩
abbrev main_v182 : Ref sig .tc := ⟨.hbm, 305, rfl⟩
abbrev main_v183 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_cst_23 : Ref sig .tc := ⟨.hbm, 310, rfl⟩
abbrev main_v187 : Ref sig .tc := ⟨.hbm, 311, rfl⟩
abbrev main_v188 : Ref sig .tc := ⟨.hbm, 312, rfl⟩
abbrev main_cst_24 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩

abbrev nD : Nat := 1
abbrev τ : Topo := Topo.v7x

variable {F : FTy → Type} [FloatOps F]

abbrev main_while0_count : Scf.Loop 32 := ⟨0#32, 2048#32, 1#32⟩
-- ==== Proof.KernelIdeal.Region0.lean ====
/- The projection call (region 0): its windows, what its body leaves, and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_gdn_proj` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window that is uncut and never idle holds at every point what a fetch there would bring, fetched there or not,
    if the body leaves its block in place. -/
theorem before0_of {c : Dev nD} (dat : Dat τ (Elt F) Unit ℕ (UR sig nD τ) ℕ cfg0 c) (w : Fin cfg0.W) (hw : (cfg0.win w).isOut = false)
    (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V c (Pipeline.arrRef spec0 w)) (hafter : ∀ t, (cfg0.win w).cut (cfg0.grid.coords t) (dat.after w t) = iblk0 V c w t)
    (t : Fin cfg0.N) (d) : dat.before w t d = dat.fetched w t d :=
  dat.before_in_eq_fetched w hw hlive hclip (fun t => by rw [hafter]; unfold Dat.blockOf iblk0; rw [hA]) t d

/-! ## The body's accesses -/

abbrev r0_0 : Rect S1x256x1024 := Rect.unit (s := S1x256x1024) ![0, 0, 0] S1x256x1024.size inb_S1x256x1024_S1x256x1024_0_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S4x1024 := Rect.unit (s := S4x1024) ![0, 0] S1x1024.size inb_S4x1024_S1x1024_0_0
abbrev r0_4 : Rect S4x1024 := Rect.unit (s := S4x1024) ![1, 0] S1x1024.size inb_S4x1024_S1x1024_1_0
abbrev r0_5 : Rect S4x1024 := Rect.unit (s := S4x1024) ![2, 0] S1x1024.size inb_S4x1024_S1x1024_2_0
abbrev r0_6 : Rect S4x1024 := Rect.unit (s := S4x1024) ![3, 0] S1x1024.size inb_S4x1024_S1x1024_3_0
abbrev r0_7 : Rect S1024x2048 := Rect.unit (s := S1024x2048) ![0, 0] S1024x2048.size inb_S1024x2048_S1024x2048_0_0
abbrev r0_8 : Rect S1x2048 := Rect.unit (s := S1x2048) ![0, 0] S1x2048.size inb_S1x2048_S1x2048_0_0
abbrev r0_9 : Rect S4x2048 := Rect.unit (s := S4x2048) ![0, 0] S1x2048.size inb_S4x2048_S1x2048_0_0
abbrev r0_10 : Rect S4x2048 := Rect.unit (s := S4x2048) ![1, 0] S1x2048.size inb_S4x2048_S1x2048_1_0
abbrev r0_11 : Rect S4x2048 := Rect.unit (s := S4x2048) ![2, 0] S1x2048.size inb_S4x2048_S1x2048_2_0
abbrev r0_12 : Rect S4x2048 := Rect.unit (s := S4x2048) ![3, 0] S1x2048.size inb_S4x2048_S1x2048_3_0
abbrev r0_13 : Rect S1x16x256x64 := Rect.unit (s := S1x16x256x64) ![0, 0, 0, 0] S1x1x256x64.size inb_S1x16x256x64_S1x1x256x64_0_0_0_0
abbrev r0_14 : Rect S1x16x256x128 := Rect.unit (s := S1x16x256x128) ![0, 0, 0, 0] S1x1x256x128.size inb_S1x16x256x128_S1x1x256x128_0_0_0_0
abbrev r0_15 : Rect S1x16x256x64 := Rect.unit (s := S1x16x256x64) ![0, 1, 0, 0] S1x1x256x64.size inb_S1x16x256x64_S1x1x256x64_0_1_0_0
abbrev r0_16 : Rect S1x16x256x128 := Rect.unit (s := S1x16x256x128) ![0, 1, 0, 0] S1x1x256x128.size inb_S1x16x256x128_S1x1x256x128_0_1_0_0
abbrev r0_17 : Rect S1x16x256x64 := Rect.unit (s := S1x16x256x64) ![0, 2, 0, 0] S1x1x256x64.size inb_S1x16x256x64_S1x1x256x64_0_2_0_0
abbrev r0_18 : Rect S1x16x256x128 := Rect.unit (s := S1x16x256x128) ![0, 2, 0, 0] S1x1x256x128.size inb_S1x16x256x128_S1x1x256x128_0_2_0_0
abbrev r0_19 : Rect S1x16x256x64 := Rect.unit (s := S1x16x256x64) ![0, 3, 0, 0] S1x1x256x64.size inb_S1x16x256x64_S1x1x256x64_0_3_0_0
abbrev r0_20 : Rect S1x16x256x128 := Rect.unit (s := S1x16x256x128) ![0, 3, 0, 0] S1x1x256x128.size inb_S1x16x256x128_S1x1x256x128_0_3_0_0
abbrev r0_21 : Rect S1x16x256x64 := Rect.unit (s := S1x16x256x64) ![0, 4, 0, 0] S1x1x256x64.size inb_S1x16x256x64_S1x1x256x64_0_4_0_0
abbrev r0_22 : Rect S1x16x256x128 := Rect.unit (s := S1x16x256x128) ![0, 4, 0, 0] S1x1x256x128.size inb_S1x16x256x128_S1x1x256x128_0_4_0_0
abbrev r0_23 : Rect S1x16x256x64 := Rect.unit (s := S1x16x256x64) ![0, 5, 0, 0] S1x1x256x64.size inb_S1x16x256x64_S1x1x256x64_0_5_0_0
abbrev r0_24 : Rect S1x16x256x128 := Rect.unit (s := S1x16x256x128) ![0, 5, 0, 0] S1x1x256x128.size inb_S1x16x256x128_S1x1x256x128_0_5_0_0
abbrev r0_25 : Rect S1x16x256x64 := Rect.unit (s := S1x16x256x64) ![0, 6, 0, 0] S1x1x256x64.size inb_S1x16x256x64_S1x1x256x64_0_6_0_0
abbrev r0_26 : Rect S1x16x256x128 := Rect.unit (s := S1x16x256x128) ![0, 6, 0, 0] S1x1x256x128.size inb_S1x16x256x128_S1x1x256x128_0_6_0_0
abbrev r0_27 : Rect S1x16x256x64 := Rect.unit (s := S1x16x256x64) ![0, 7, 0, 0] S1x1x256x64.size inb_S1x16x256x64_S1x1x256x64_0_7_0_0
abbrev r0_28 : Rect S1x16x256x128 := Rect.unit (s := S1x16x256x128) ![0, 7, 0, 0] S1x1x256x128.size inb_S1x16x256x128_S1x1x256x128_0_7_0_0
abbrev r0_29 : Rect S1x16x256x64 := Rect.unit (s := S1x16x256x64) ![0, 8, 0, 0] S1x1x256x64.size inb_S1x16x256x64_S1x1x256x64_0_8_0_0
abbrev r0_30 : Rect S1x16x256x128 := Rect.unit (s := S1x16x256x128) ![0, 8, 0, 0] S1x1x256x128.size inb_S1x16x256x128_S1x1x256x128_0_8_0_0
abbrev r0_31 : Rect S1x16x256x64 := Rect.unit (s := S1x16x256x64) ![0, 9, 0, 0] S1x1x256x64.size inb_S1x16x256x64_S1x1x256x64_0_9_0_0
abbrev r0_32 : Rect S1x16x256x128 := Rect.unit (s := S1x16x256x128) ![0, 9, 0, 0] S1x1x256x128.size inb_S1x16x256x128_S1x1x256x128_0_9_0_0
abbrev r0_33 : Rect S1x16x256x64 := Rect.unit (s := S1x16x256x64) ![0, 10, 0, 0] S1x1x256x64.size inb_S1x16x256x64_S1x1x256x64_0_10_0_0
abbrev r0_34 : Rect S1x16x256x128 := Rect.unit (s := S1x16x256x128) ![0, 10, 0, 0] S1x1x256x128.size inb_S1x16x256x128_S1x1x256x128_0_10_0_0
abbrev r0_35 : Rect S1x16x256x64 := Rect.unit (s := S1x16x256x64) ![0, 11, 0, 0] S1x1x256x64.size inb_S1x16x256x64_S1x1x256x64_0_11_0_0
abbrev r0_36 : Rect S1x16x256x128 := Rect.unit (s := S1x16x256x128) ![0, 11, 0, 0] S1x1x256x128.size inb_S1x16x256x128_S1x1x256x128_0_11_0_0
abbrev r0_37 : Rect S1x16x256x64 := Rect.unit (s := S1x16x256x64) ![0, 12, 0, 0] S1x1x256x64.size inb_S1x16x256x64_S1x1x256x64_0_12_0_0
abbrev r0_38 : Rect S1x16x256x128 := Rect.unit (s := S1x16x256x128) ![0, 12, 0, 0] S1x1x256x128.size inb_S1x16x256x128_S1x1x256x128_0_12_0_0
abbrev r0_39 : Rect S1x16x256x64 := Rect.unit (s := S1x16x256x64) ![0, 13, 0, 0] S1x1x256x64.size inb_S1x16x256x64_S1x1x256x64_0_13_0_0
abbrev r0_40 : Rect S1x16x256x128 := Rect.unit (s := S1x16x256x128) ![0, 13, 0, 0] S1x1x256x128.size inb_S1x16x256x128_S1x1x256x128_0_13_0_0
abbrev r0_41 : Rect S1x16x256x64 := Rect.unit (s := S1x16x256x64) ![0, 14, 0, 0] S1x1x256x64.size inb_S1x16x256x64_S1x1x256x64_0_14_0_0
abbrev r0_42 : Rect S1x16x256x128 := Rect.unit (s := S1x16x256x128) ![0, 14, 0, 0] S1x1x256x128.size inb_S1x16x256x128_S1x1x256x128_0_14_0_0
abbrev r0_43 : Rect S1x16x256x64 := Rect.unit (s := S1x16x256x64) ![0, 15, 0, 0] S1x1x256x64.size inb_S1x16x256x64_S1x1x256x64_0_15_0_0
abbrev r0_44 : Rect S1x16x256x128 := Rect.unit (s := S1x16x256x128) ![0, 15, 0, 0] S1x1x256x128.size inb_S1x16x256x128_S1x1x256x128_0_15_0_0
abbrev r0_45 : Rect S1024x16 := Rect.unit (s := S1024x16) ![0, 0] S1024x16.size inb_S1024x16_S1024x16_0_0
abbrev r0_46 : Rect S1x16x256x1 := Rect.unit (s := S1x16x256x1) ![0, 0, 0, 0] S1x1x256x1.size inb_S1x16x256x1_S1x1x256x1_0_0_0_0
abbrev r0_47 : Rect S1x16x256x1 := Rect.unit (s := S1x16x256x1) ![0, 1, 0, 0] S1x1x256x1.size inb_S1x16x256x1_S1x1x256x1_0_1_0_0
abbrev r0_48 : Rect S1x16x256x1 := Rect.unit (s := S1x16x256x1) ![0, 2, 0, 0] S1x1x256x1.size inb_S1x16x256x1_S1x1x256x1_0_2_0_0
abbrev r0_49 : Rect S1x16x256x1 := Rect.unit (s := S1x16x256x1) ![0, 3, 0, 0] S1x1x256x1.size inb_S1x16x256x1_S1x1x256x1_0_3_0_0
abbrev r0_50 : Rect S1x16x256x1 := Rect.unit (s := S1x16x256x1) ![0, 4, 0, 0] S1x1x256x1.size inb_S1x16x256x1_S1x1x256x1_0_4_0_0
abbrev r0_51 : Rect S1x16x256x1 := Rect.unit (s := S1x16x256x1) ![0, 5, 0, 0] S1x1x256x1.size inb_S1x16x256x1_S1x1x256x1_0_5_0_0
abbrev r0_52 : Rect S1x16x256x1 := Rect.unit (s := S1x16x256x1) ![0, 6, 0, 0] S1x1x256x1.size inb_S1x16x256x1_S1x1x256x1_0_6_0_0
abbrev r0_53 : Rect S1x16x256x1 := Rect.unit (s := S1x16x256x1) ![0, 7, 0, 0] S1x1x256x1.size inb_S1x16x256x1_S1x1x256x1_0_7_0_0
abbrev r0_54 : Rect S1x16x256x1 := Rect.unit (s := S1x16x256x1) ![0, 8, 0, 0] S1x1x256x1.size inb_S1x16x256x1_S1x1x256x1_0_8_0_0
abbrev r0_55 : Rect S1x16x256x1 := Rect.unit (s := S1x16x256x1) ![0, 9, 0, 0] S1x1x256x1.size inb_S1x16x256x1_S1x1x256x1_0_9_0_0
abbrev r0_56 : Rect S1x16x256x1 := Rect.unit (s := S1x16x256x1) ![0, 10, 0, 0] S1x1x256x1.size inb_S1x16x256x1_S1x1x256x1_0_10_0_0
abbrev r0_57 : Rect S1x16x256x1 := Rect.unit (s := S1x16x256x1) ![0, 11, 0, 0] S1x1x256x1.size inb_S1x16x256x1_S1x1x256x1_0_11_0_0
abbrev r0_58 : Rect S1x16x256x1 := Rect.unit (s := S1x16x256x1) ![0, 12, 0, 0] S1x1x256x1.size inb_S1x16x256x1_S1x1x256x1_0_12_0_0
abbrev r0_59 : Rect S1x16x256x1 := Rect.unit (s := S1x16x256x1) ![0, 13, 0, 0] S1x1x256x1.size inb_S1x16x256x1_S1x1x256x1_0_13_0_0
abbrev r0_60 : Rect S1x16x256x1 := Rect.unit (s := S1x16x256x1) ![0, 14, 0, 0] S1x1x256x1.size inb_S1x16x256x1_S1x1x256x1_0_14_0_0
abbrev r0_61 : Rect S1x16x256x1 := Rect.unit (s := S1x16x256x1) ![0, 15, 0, 0] S1x1x256x1.size inb_S1x16x256x1_S1x1x256x1_0_15_0_0

/-! ## What the body leaves in each output window's buffer -/

/-! ### Values of the body that the stores' payloads, spelt out, would write more than once

    Each is a vector the body binds (often a part call's result), stated over the input windows' blocks and
    numbered on from the skeleton's payload functions (`k0_pay111` …, after `k0_pay110`), so that
    `out0_W` and the values after it name it instead of spelling it out (`unfold_out out0_W` opens a canon
    with them, `unfold_payloads` opens them with the payloads); the comment after each is the printed function's
    name for the value (a count appended where that name is bound again). -/

def k0_pay111 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : FVec F S264x1024 .bf16 :=
  k0_pay6 (View.ld x0 r0_0) (View.ld x1 r0_0) -- `v6`
def k0_pay112 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : FVec F S264x1 .f32 :=
  k0_pay7 (F := F) i -- `v16`
def k0_pay113 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : FVec F S256x1024 .f32 :=
  k0_pay9 (k0_pay8 i (View.ld x0 r0_0) (View.ld x1 r0_0) (View.ld x2 r0_1)) (View.ld x5 r0_2) (View.ld x9 r0_2) (View.ld x8 r0_3) (View.ld x8 r0_4) (View.ld x8 r0_5) (View.ld x8 r0_6) -- `v65`
def k0_pay114 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : FVec F S256x1024 .f32 :=
  k0_pay12 (k0_pay112 i x0 x1 x2 x3 x4 x5 x6 x7 x8 x9 x10 x11 x12 x13 x14 x15) (k0_pay10 (k0_pay111 i x0 x1 x2 x3 x4 x5 x6 x7 x8 x9 x10 x11 x12 x13 x14 x15) (View.ld x3 r0_1)) (k0_pay11 (k0_pay111 i x0 x1 x2 x3 x4 x5 x6 x7 x8 x9 x10 x11 x12 x13 x14 x15) (View.ld x3 r0_1)) (Scalar.ofBits .f32 0x3727C5AC#32) (View.ld x6 r0_2) (View.ld x11 r0_2) (View.ld x10 r0_3) (View.ld x10 r0_4) (View.ld x10 r0_5) (View.ld x10 r0_6) -- `v114`
def k0_pay115 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : FVec F S256x2048 .f32 :=
  k0_pay15 (k0_pay112 i x0 x1 x2 x3 x4 x5 x6 x7 x8 x9 x10 x11 x12 x13 x14 x15) (k0_pay13 (k0_pay111 i x0 x1 x2 x3 x4 x5 x6 x7 x8 x9 x10 x11 x12 x13 x14 x15) (View.ld x4 r0_7)) (k0_pay14 (k0_pay111 i x0 x1 x2 x3 x4 x5 x6 x7 x8 x9 x10 x11 x12 x13 x14 x15) (View.ld x4 r0_7)) (View.ld x7 r0_8) (View.ld x13 r0_8) (View.ld x12 r0_9) (View.ld x12 r0_10) (View.ld x12 r0_11) (View.ld x12 r0_12) -- `v163`
def k0_pay116 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : IVec S256x256 32 :=
  iota .tc S256x256 32 [0] iota_S256x256_d0_w32 -- `v374`
def k0_pay117 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : IVec S256x256 32 :=
  iota .tc S256x256 32 [1] iota_S256x256_d1_w32 -- `v375`
def k0_pay118 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : FVec F S256x16 .f32 :=
  k0_pay73 (k0_pay111 i x0 x1 x2 x3 x4 x5 x6 x7 x8 x9 x10 x11 x12 x13 x14 x15) (View.ld x14 r0_45) -- `v372`
def k0_pay119 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : FVec F S256x16 .f32 :=
  k0_pay74 (k0_pay111 i x0 x1 x2 x3 x4 x5 x6 x7 x8 x9 x10 x11 x12 x13 x14 x15) (View.ld x15 r0_45) -- `v373`
def k0_pay120 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : IVec S256x256 1 :=
  k0_pay75 -- `v376`
def k0_pay121 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : IVec S256x256 32 :=
  k0_pay76 -- `v378`
def k0_pay122 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : IVec S256x256 1 :=
  k0_pay77 -- `v392`
def k0_pay123 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : IVec S256x256 32 :=
  k0_pay78 -- `v393`
def k0_pay124 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : FVec F S256x16 .f32 :=
  k0_pay79 (k0_pay118 i x0 x1 x2 x3 x4 x5 x6 x7 x8 x9 x10 x11 x12 x13 x14 x15) (k0_pay116 i x0 x1 x2 x3 x4 x5 x6 x7 x8 x9 x10 x11 x12 x13 x14 x15) (k0_pay117 i x0 x1 x2 x3 x4 x5 x6 x7 x8 x9 x10 x11 x12 x13 x14 x15) (k0_pay120 i x0 x1 x2 x3 x4 x5 x6 x7 x8 x9 x10 x11 x12 x13 x14 x15) (k0_pay121 i x0 x1 x2 x3 x4 x5 x6 x7 x8 x9 x10 x11 x12 x13 x14 x15) (k0_pay122 i x0 x1 x2 x3 x4 x5 x6 x7 x8 x9 x10 x11 x12 x13 x14 x15) (k0_pay123 i x0 x1 x2 x3 x4 x5 x6 x7 x8 x9 x10 x11 x12 x13 x14 x15) -- `v436`

/-- Window 16's staging buffer after the body, from the input windows' blocks: its 16 stores as pieces, LAST
    FIRST (Lib/Pipeline/FrameBody.lean `View.canon`; the payloads are the skeleton's and the values stated above). -/
def out0_16 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : Vec F S1x16x256x64 .f32 :=
  View.canon [⟨r0_43, k0_pay68 (k0_pay113 i x0 x1 x2 x3 x4 x5 x6 x7 x8 x9 x10 x11 x12 x13 x14 x15)⟩,
    ⟨r0_41, k0_pay65 (k0_pay113 i x0 x1 x2 x3 x4 x5 x6 x7 x8 x9 x10 x11 x12 x13 x14 x15)⟩,
    ⟨r0_39, k0_pay61 (k0_pay113 i x0 x1 x2 x3 x4 x5 x6 x7 x8 x9 x10 x11 x12 x13 x14 x15)⟩,
    ⟨r0_37, k0_pay58 (k0_pay113 i x0 x1 x2 x3 x4 x5 x6 x7 x8 x9 x10 x11 x12 x13 x14 x15)⟩,
    ⟨r0_35, k0_pay55 (k0_pay54 (k0_pay113 i x0 x1 x2 x3 x4 x5 x6 x7 x8 x9 x10 x11 x12 x13 x14 x15))⟩,
    ⟨r0_33, k0_pay51 (k0_pay113 i x0 x1 x2 x3 x4 x5 x6 x7 x8 x9 x10 x11 x12 x13 x14 x15)⟩,
    ⟨r0_31, k0_pay48 (k0_pay47 (k0_pay113 i x0 x1 x2 x3 x4 x5 x6 x7 x8 x9 x10 x11 x12 x13 x14 x15))⟩,
    ⟨r0_29, k0_pay44 (k0_pay113 i x0 x1 x2 x3 x4 x5 x6 x7 x8 x9 x10 x11 x12 x13 x14 x15)⟩,
    ⟨r0_27, k0_pay41 (k0_pay113 i x0 x1 x2 x3 x4 x5 x6 x7 x8 x9 x10 x11 x12 x13 x14 x15)⟩,
    ⟨r0_25, k0_pay37 (k0_pay113 i x0 x1 x2 x3 x4 x5 x6 x7 x8 x9 x10 x11 x12 x13 x14 x15)⟩,
    ⟨r0_23, k0_pay34 (k0_pay113 i x0 x1 x2 x3 x4 x5 x6 x7 x8 x9 x10 x11 x12 x13 x14 x15)⟩,
    ⟨r0_21, k0_pay30 (k0_pay113 i x0 x1 x2 x3 x4 x5 x6 x7 x8 x9 x10 x11 x12 x13 x14 x15)⟩,
    ⟨r0_19, k0_pay27 (k0_pay113 i x0 x1 x2 x3 x4 x5 x6 x7 x8 x9 x10 x11 x12 x13 x14 x15)⟩,
    ⟨r0_17, k0_pay23 (k0_pay113 i x0 x1 x2 x3 x4 x5 x6 x7 x8 x9 x10 x11 x12 x13 x14 x15)⟩,
    ⟨r0_15, k0_pay20 (k0_pay113 i x0 x1 x2 x3 x4 x5 x6 x7 x8 x9 x10 x11 x12 x13 x14 x15)⟩,
    ⟨r0_13, k0_pay17 (k0_pay16 (k0_pay113 i x0 x1 x2 x3 x4 x5 x6 x7 x8 x9 x10 x11 x12 x13 x14 x15))⟩]

/-- Its stores tile the buffer (checked by evaluation), so they cover it. -/
theorem cover0_16 (p0 : Vec F S1x1x256x64 .f32) (p1 : Vec F S1x1x256x64 .f32) (p2 : Vec F S1x1x256x64 .f32) (p3 : Vec F S1x1x256x64 .f32) (p4 : Vec F S1x1x256x64 .f32) (p5 : Vec F S1x1x256x64 .f32) (p6 : Vec F S1x1x256x64 .f32) (p7 : Vec F S1x1x256x64 .f32) (p8 : Vec F S1x1x256x64 .f32) (p9 : Vec F S1x1x256x64 .f32) (p10 : Vec F S1x1x256x64 .f32) (p11 : Vec F S1x1x256x64 .f32) (p12 : Vec F S1x1x256x64 .f32) (p13 : Vec F S1x1x256x64 .f32) (p14 : Vec F S1x1x256x64 .f32) (p15 : Vec F S1x1x256x64 .f32) (y : S1x16x256x64.Idx) :
    ∃ pc ∈ ([⟨r0_43, p0⟩, ⟨r0_41, p1⟩, ⟨r0_39, p2⟩, ⟨r0_37, p3⟩, ⟨r0_35, p4⟩, ⟨r0_33, p5⟩, ⟨r0_31, p6⟩, ⟨r0_29, p7⟩, ⟨r0_27, p8⟩, ⟨r0_25, p9⟩, ⟨r0_23, p10⟩, ⟨r0_21, p11⟩, ⟨r0_19, p12⟩, ⟨r0_17, p13⟩, ⟨r0_15, p14⟩, ⟨r0_13, p15⟩] : List (View.Piece (Elt F) S1x16x256x64 .f32)), y ∈ pc.1.set :=
  View.cover_of_tiled [⟨r0_43, p0⟩, ⟨r0_41, p1⟩, ⟨r0_39, p2⟩, ⟨r0_37, p3⟩, ⟨r0_35, p4⟩, ⟨r0_33, p5⟩, ⟨r0_31, p6⟩, ⟨r0_29, p7⟩, ⟨r0_27, p8⟩, ⟨r0_25, p9⟩, ⟨r0_23, p10⟩, ⟨r0_21, p11⟩, ⟨r0_19, p12⟩, ⟨r0_17, p13⟩, ⟨r0_15, p14⟩, ⟨r0_13, p15⟩] S1x1x256x64.size (by rfl) y

/-- Window 17's staging buffer after the body, from the input windows' blocks: its 16 stores as pieces, LAST
    FIRST (Lib/Pipeline/FrameBody.lean `View.canon`; the payloads are the skeleton's and the values stated above). -/
def out0_17 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : Vec F S1x16x256x64 .f32 :=
  View.canon [⟨r0_43, k0_pay69 (k0_pay114 i x0 x1 x2 x3 x4 x5 x6 x7 x8 x9 x10 x11 x12 x13 x14 x15)⟩,
    ⟨r0_41, k0_pay66 (k0_pay114 i x0 x1 x2 x3 x4 x5 x6 x7 x8 x9 x10 x11 x12 x13 x14 x15)⟩,
    ⟨r0_39, k0_pay63 (k0_pay62 (k0_pay114 i x0 x1 x2 x3 x4 x5 x6 x7 x8 x9 x10 x11 x12 x13 x14 x15))⟩,
    ⟨r0_37, k0_pay59 (k0_pay114 i x0 x1 x2 x3 x4 x5 x6 x7 x8 x9 x10 x11 x12 x13 x14 x15)⟩,
    ⟨r0_35, k0_pay56 (k0_pay114 i x0 x1 x2 x3 x4 x5 x6 x7 x8 x9 x10 x11 x12 x13 x14 x15)⟩,
    ⟨r0_33, k0_pay52 (k0_pay114 i x0 x1 x2 x3 x4 x5 x6 x7 x8 x9 x10 x11 x12 x13 x14 x15)⟩,
    ⟨r0_31, k0_pay49 (k0_pay114 i x0 x1 x2 x3 x4 x5 x6 x7 x8 x9 x10 x11 x12 x13 x14 x15)⟩,
    ⟨r0_29, k0_pay45 (k0_pay114 i x0 x1 x2 x3 x4 x5 x6 x7 x8 x9 x10 x11 x12 x13 x14 x15)⟩,
    ⟨r0_27, k0_pay42 (k0_pay114 i x0 x1 x2 x3 x4 x5 x6 x7 x8 x9 x10 x11 x12 x13 x14 x15)⟩,
    ⟨r0_25, k0_pay38 (k0_pay114 i x0 x1 x2 x3 x4 x5 x6 x7 x8 x9 x10 x11 x12 x13 x14 x15)⟩,
    ⟨r0_23, k0_pay35 (k0_pay114 i x0 x1 x2 x3 x4 x5 x6 x7 x8 x9 x10 x11 x12 x13 x14 x15)⟩,
    ⟨r0_21, k0_pay32 (k0_pay31 (k0_pay114 i x0 x1 x2 x3 x4 x5 x6 x7 x8 x9 x10 x11 x12 x13 x14 x15))⟩,
    ⟨r0_19, k0_pay28 (k0_pay114 i x0 x1 x2 x3 x4 x5 x6 x7 x8 x9 x10 x11 x12 x13 x14 x15)⟩,
    ⟨r0_17, k0_pay25 (k0_pay24 (k0_pay114 i x0 x1 x2 x3 x4 x5 x6 x7 x8 x9 x10 x11 x12 x13 x14 x15))⟩,
    ⟨r0_15, k0_pay21 (k0_pay114 i x0 x1 x2 x3 x4 x5 x6 x7 x8 x9 x10 x11 x12 x13 x14 x15)⟩,
    ⟨r0_13, k0_pay18 (k0_pay114 i x0 x1 x2 x3 x4 x5 x6 x7 x8 x9 x10 x11 x12 x13 x14 x15)⟩]

/-- Its stores tile the buffer (checked by evaluation), so they cover it. -/
theorem cover0_17 (p0 : Vec F S1x1x256x64 .f32) (p1 : Vec F S1x1x256x64 .f32) (p2 : Vec F S1x1x256x64 .f32) (p3 : Vec F S1x1x256x64 .f32) (p4 : Vec F S1x1x256x64 .f32) (p5 : Vec F S1x1x256x64 .f32) (p6 : Vec F S1x1x256x64 .f32) (p7 : Vec F S1x1x256x64 .f32) (p8 : Vec F S1x1x256x64 .f32) (p9 : Vec F S1x1x256x64 .f32) (p10 : Vec F S1x1x256x64 .f32) (p11 : Vec F S1x1x256x64 .f32) (p12 : Vec F S1x1x256x64 .f32) (p13 : Vec F S1x1x256x64 .f32) (p14 : Vec F S1x1x256x64 .f32) (p15 : Vec F S1x1x256x64 .f32) (y : S1x16x256x64.Idx) :
    ∃ pc ∈ ([⟨r0_43, p0⟩, ⟨r0_41, p1⟩, ⟨r0_39, p2⟩, ⟨r0_37, p3⟩, ⟨r0_35, p4⟩, ⟨r0_33, p5⟩, ⟨r0_31, p6⟩, ⟨r0_29, p7⟩, ⟨r0_27, p8⟩, ⟨r0_25, p9⟩, ⟨r0_23, p10⟩, ⟨r0_21, p11⟩, ⟨r0_19, p12⟩, ⟨r0_17, p13⟩, ⟨r0_15, p14⟩, ⟨r0_13, p15⟩] : List (View.Piece (Elt F) S1x16x256x64 .f32)), y ∈ pc.1.set :=
  View.cover_of_tiled [⟨r0_43, p0⟩, ⟨r0_41, p1⟩, ⟨r0_39, p2⟩, ⟨r0_37, p3⟩, ⟨r0_35, p4⟩, ⟨r0_33, p5⟩, ⟨r0_31, p6⟩, ⟨r0_29, p7⟩, ⟨r0_27, p8⟩, ⟨r0_25, p9⟩, ⟨r0_23, p10⟩, ⟨r0_21, p11⟩, ⟨r0_19, p12⟩, ⟨r0_17, p13⟩, ⟨r0_15, p14⟩, ⟨r0_13, p15⟩] S1x1x256x64.size (by rfl) y

/-- Window 18's staging buffer after the body, from the input windows' blocks: its 16 stores as pieces, LAST
    FIRST (Lib/Pipeline/FrameBody.lean `View.canon`; the payloads are the skeleton's and the values stated above). -/
def out0_18 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : Vec F S1x16x256x128 .f32 :=
  View.canon [⟨r0_44, k0_pay71 (k0_pay70 (k0_pay115 i x0 x1 x2 x3 x4 x5 x6 x7 x8 x9 x10 x11 x12 x13 x14 x15))⟩,
    ⟨r0_42, k0_pay67 (k0_pay115 i x0 x1 x2 x3 x4 x5 x6 x7 x8 x9 x10 x11 x12 x13 x14 x15)⟩,
    ⟨r0_40, k0_pay64 (k0_pay115 i x0 x1 x2 x3 x4 x5 x6 x7 x8 x9 x10 x11 x12 x13 x14 x15)⟩,
    ⟨r0_38, k0_pay60 (k0_pay115 i x0 x1 x2 x3 x4 x5 x6 x7 x8 x9 x10 x11 x12 x13 x14 x15)⟩,
    ⟨r0_36, k0_pay57 (k0_pay115 i x0 x1 x2 x3 x4 x5 x6 x7 x8 x9 x10 x11 x12 x13 x14 x15)⟩,
    ⟨r0_34, k0_pay53 (k0_pay115 i x0 x1 x2 x3 x4 x5 x6 x7 x8 x9 x10 x11 x12 x13 x14 x15)⟩,
    ⟨r0_32, k0_pay50 (k0_pay115 i x0 x1 x2 x3 x4 x5 x6 x7 x8 x9 x10 x11 x12 x13 x14 x15)⟩,
    ⟨r0_30, k0_pay46 (k0_pay115 i x0 x1 x2 x3 x4 x5 x6 x7 x8 x9 x10 x11 x12 x13 x14 x15)⟩,
    ⟨r0_28, k0_pay43 (k0_pay115 i x0 x1 x2 x3 x4 x5 x6 x7 x8 x9 x10 x11 x12 x13 x14 x15)⟩,
    ⟨r0_26, k0_pay40 (k0_pay39 (k0_pay115 i x0 x1 x2 x3 x4 x5 x6 x7 x8 x9 x10 x11 x12 x13 x14 x15))⟩,
    ⟨r0_24, k0_pay36 (k0_pay115 i x0 x1 x2 x3 x4 x5 x6 x7 x8 x9 x10 x11 x12 x13 x14 x15)⟩,
    ⟨r0_22, k0_pay33 (k0_pay115 i x0 x1 x2 x3 x4 x5 x6 x7 x8 x9 x10 x11 x12 x13 x14 x15)⟩,
    ⟨r0_20, k0_pay29 (k0_pay115 i x0 x1 x2 x3 x4 x5 x6 x7 x8 x9 x10 x11 x12 x13 x14 x15)⟩,
    ⟨r0_18, k0_pay26 (k0_pay115 i x0 x1 x2 x3 x4 x5 x6 x7 x8 x9 x10 x11 x12 x13 x14 x15)⟩,
    ⟨r0_16, k0_pay22 (k0_pay115 i x0 x1 x2 x3 x4 x5 x6 x7 x8 x9 x10 x11 x12 x13 x14 x15)⟩,
    ⟨r0_14, k0_pay19 (k0_pay115 i x0 x1 x2 x3 x4 x5 x6 x7 x8 x9 x10 x11 x12 x13 x14 x15)⟩]

/-- Its stores tile the buffer (checked by evaluation), so they cover it. -/
theorem cover0_18 (p0 : Vec F S1x1x256x128 .f32) (p1 : Vec F S1x1x256x128 .f32) (p2 : Vec F S1x1x256x128 .f32) (p3 : Vec F S1x1x256x128 .f32) (p4 : Vec F S1x1x256x128 .f32) (p5 : Vec F S1x1x256x128 .f32) (p6 : Vec F S1x1x256x128 .f32) (p7 : Vec F S1x1x256x128 .f32) (p8 : Vec F S1x1x256x128 .f32) (p9 : Vec F S1x1x256x128 .f32) (p10 : Vec F S1x1x256x128 .f32) (p11 : Vec F S1x1x256x128 .f32) (p12 : Vec F S1x1x256x128 .f32) (p13 : Vec F S1x1x256x128 .f32) (p14 : Vec F S1x1x256x128 .f32) (p15 : Vec F S1x1x256x128 .f32) (y : S1x16x256x128.Idx) :
    ∃ pc ∈ ([⟨r0_44, p0⟩, ⟨r0_42, p1⟩, ⟨r0_40, p2⟩, ⟨r0_38, p3⟩, ⟨r0_36, p4⟩, ⟨r0_34, p5⟩, ⟨r0_32, p6⟩, ⟨r0_30, p7⟩, ⟨r0_28, p8⟩, ⟨r0_26, p9⟩, ⟨r0_24, p10⟩, ⟨r0_22, p11⟩, ⟨r0_20, p12⟩, ⟨r0_18, p13⟩, ⟨r0_16, p14⟩, ⟨r0_14, p15⟩] : List (View.Piece (Elt F) S1x16x256x128 .f32)), y ∈ pc.1.set :=
  View.cover_of_tiled [⟨r0_44, p0⟩, ⟨r0_42, p1⟩, ⟨r0_40, p2⟩, ⟨r0_38, p3⟩, ⟨r0_36, p4⟩, ⟨r0_34, p5⟩, ⟨r0_32, p6⟩, ⟨r0_30, p7⟩, ⟨r0_28, p8⟩, ⟨r0_26, p9⟩, ⟨r0_24, p10⟩, ⟨r0_22, p11⟩, ⟨r0_20, p12⟩, ⟨r0_18, p13⟩, ⟨r0_16, p14⟩, ⟨r0_14, p15⟩] S1x1x256x128.size (by rfl) y

/-- Window 19's staging buffer after the body, from the input windows' blocks: its 16 stores as pieces, LAST
    FIRST (Lib/Pipeline/FrameBody.lean `View.canon`; the payloads are the skeleton's and the values stated above). -/
def out0_19 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : Vec F S1x16x256x1 .f32 :=
  View.canon [⟨r0_61, k0_pay4 (k0_pay124 i x0 x1 x2 x3 x4 x5 x6 x7 x8 x9 x10 x11 x12 x13 x14 x15)⟩,
    ⟨r0_60, k0_pay2 (k0_pay124 i x0 x1 x2 x3 x4 x5 x6 x7 x8 x9 x10 x11 x12 x13 x14 x15)⟩,
    ⟨r0_59, k0_pay109 (k0_pay124 i x0 x1 x2 x3 x4 x5 x6 x7 x8 x9 x10 x11 x12 x13 x14 x15)⟩,
    ⟨r0_58, k0_pay107 (k0_pay124 i x0 x1 x2 x3 x4 x5 x6 x7 x8 x9 x10 x11 x12 x13 x14 x15)⟩,
    ⟨r0_57, k0_pay105 (k0_pay124 i x0 x1 x2 x3 x4 x5 x6 x7 x8 x9 x10 x11 x12 x13 x14 x15)⟩,
    ⟨r0_56, k0_pay103 (k0_pay102 (k0_pay124 i x0 x1 x2 x3 x4 x5 x6 x7 x8 x9 x10 x11 x12 x13 x14 x15))⟩,
    ⟨r0_55, k0_pay100 (k0_pay124 i x0 x1 x2 x3 x4 x5 x6 x7 x8 x9 x10 x11 x12 x13 x14 x15)⟩,
    ⟨r0_54, k0_pay98 (k0_pay124 i x0 x1 x2 x3 x4 x5 x6 x7 x8 x9 x10 x11 x12 x13 x14 x15)⟩,
    ⟨r0_53, k0_pay96 (k0_pay124 i x0 x1 x2 x3 x4 x5 x6 x7 x8 x9 x10 x11 x12 x13 x14 x15)⟩,
    ⟨r0_52, k0_pay94 (k0_pay124 i x0 x1 x2 x3 x4 x5 x6 x7 x8 x9 x10 x11 x12 x13 x14 x15)⟩,
    ⟨r0_51, k0_pay92 (k0_pay124 i x0 x1 x2 x3 x4 x5 x6 x7 x8 x9 x10 x11 x12 x13 x14 x15)⟩,
    ⟨r0_50, k0_pay90 (k0_pay124 i x0 x1 x2 x3 x4 x5 x6 x7 x8 x9 x10 x11 x12 x13 x14 x15)⟩,
    ⟨r0_49, k0_pay87 (k0_pay124 i x0 x1 x2 x3 x4 x5 x6 x7 x8 x9 x10 x11 x12 x13 x14 x15)⟩,
    ⟨r0_48, k0_pay85 (k0_pay124 i x0 x1 x2 x3 x4 x5 x6 x7 x8 x9 x10 x11 x12 x13 x14 x15)⟩,
    ⟨r0_47, k0_pay83 (k0_pay124 i x0 x1 x2 x3 x4 x5 x6 x7 x8 x9 x10 x11 x12 x13 x14 x15)⟩,
    ⟨r0_46, k0_pay81 (k0_pay80 (k0_pay118 i x0 x1 x2 x3 x4 x5 x6 x7 x8 x9 x10 x11 x12 x13 x14 x15) (k0_pay116 i x0 x1 x2 x3 x4 x5 x6 x7 x8 x9 x10 x11 x12 x13 x14 x15) (k0_pay117 i x0 x1 x2 x3 x4 x5 x6 x7 x8 x9 x10 x11 x12 x13 x14 x15) (k0_pay120 i x0 x1 x2 x3 x4 x5 x6 x7 x8 x9 x10 x11 x12 x13 x14 x15) (k0_pay121 i x0 x1 x2 x3 x4 x5 x6 x7 x8 x9 x10 x11 x12 x13 x14 x15) (k0_pay122 i x0 x1 x2 x3 x4 x5 x6 x7 x8 x9 x10 x11 x12 x13 x14 x15) (k0_pay123 i x0 x1 x2 x3 x4 x5 x6 x7 x8 x9 x10 x11 x12 x13 x14 x15))⟩]

/-- Its stores tile the buffer (checked by evaluation), so they cover it. -/
theorem cover0_19 (p0 : Vec F S1x1x256x1 .f32) (p1 : Vec F S1x1x256x1 .f32) (p2 : Vec F S1x1x256x1 .f32) (p3 : Vec F S1x1x256x1 .f32) (p4 : Vec F S1x1x256x1 .f32) (p5 : Vec F S1x1x256x1 .f32) (p6 : Vec F S1x1x256x1 .f32) (p7 : Vec F S1x1x256x1 .f32) (p8 : Vec F S1x1x256x1 .f32) (p9 : Vec F S1x1x256x1 .f32) (p10 : Vec F S1x1x256x1 .f32) (p11 : Vec F S1x1x256x1 .f32) (p12 : Vec F S1x1x256x1 .f32) (p13 : Vec F S1x1x256x1 .f32) (p14 : Vec F S1x1x256x1 .f32) (p15 : Vec F S1x1x256x1 .f32) (y : S1x16x256x1.Idx) :
    ∃ pc ∈ ([⟨r0_61, p0⟩, ⟨r0_60, p1⟩, ⟨r0_59, p2⟩, ⟨r0_58, p3⟩, ⟨r0_57, p4⟩, ⟨r0_56, p5⟩, ⟨r0_55, p6⟩, ⟨r0_54, p7⟩, ⟨r0_53, p8⟩, ⟨r0_52, p9⟩, ⟨r0_51, p10⟩, ⟨r0_50, p11⟩, ⟨r0_49, p12⟩, ⟨r0_48, p13⟩, ⟨r0_47, p14⟩, ⟨r0_46, p15⟩] : List (View.Piece (Elt F) S1x16x256x1 .f32)), y ∈ pc.1.set :=
  View.cover_of_tiled [⟨r0_61, p0⟩, ⟨r0_60, p1⟩, ⟨r0_59, p2⟩, ⟨r0_58, p3⟩, ⟨r0_57, p4⟩, ⟨r0_56, p5⟩, ⟨r0_55, p6⟩, ⟨r0_54, p7⟩, ⟨r0_53, p8⟩, ⟨r0_52, p9⟩, ⟨r0_51, p10⟩, ⟨r0_50, p11⟩, ⟨r0_49, p12⟩, ⟨r0_48, p13⟩, ⟨r0_47, p14⟩, ⟨r0_46, p15⟩] S1x1x256x1.size (by rfl) y

/-- Window 20's staging buffer after the body, from the input windows' blocks: its 16 stores as pieces, LAST
    FIRST (Lib/Pipeline/FrameBody.lean `View.canon`; the payloads are the skeleton's and the values stated above). -/
def out0_20 (i : grid0.Coords) (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) : Vec F S1x16x256x1 .f32 :=
  View.canon [⟨r0_61, k0_pay5 (k0_pay119 i x0 x1 x2 x3 x4 x5 x6 x7 x8 x9 x10 x11 x12 x13 x14 x15)⟩,
    ⟨r0_60, k0_pay3 (k0_pay119 i x0 x1 x2 x3 x4 x5 x6 x7 x8 x9 x10 x11 x12 x13 x14 x15)⟩,
    ⟨r0_59, k0_pay1 (k0_pay110 (k0_pay119 i x0 x1 x2 x3 x4 x5 x6 x7 x8 x9 x10 x11 x12 x13 x14 x15))⟩,
    ⟨r0_58, k0_pay108 (k0_pay119 i x0 x1 x2 x3 x4 x5 x6 x7 x8 x9 x10 x11 x12 x13 x14 x15)⟩,
    ⟨r0_57, k0_pay106 (k0_pay119 i x0 x1 x2 x3 x4 x5 x6 x7 x8 x9 x10 x11 x12 x13 x14 x15)⟩,
    ⟨r0_56, k0_pay104 (k0_pay119 i x0 x1 x2 x3 x4 x5 x6 x7 x8 x9 x10 x11 x12 x13 x14 x15)⟩,
    ⟨r0_55, k0_pay101 (k0_pay119 i x0 x1 x2 x3 x4 x5 x6 x7 x8 x9 x10 x11 x12 x13 x14 x15)⟩,
    ⟨r0_54, k0_pay99 (k0_pay119 i x0 x1 x2 x3 x4 x5 x6 x7 x8 x9 x10 x11 x12 x13 x14 x15)⟩,
    ⟨r0_53, k0_pay97 (k0_pay119 i x0 x1 x2 x3 x4 x5 x6 x7 x8 x9 x10 x11 x12 x13 x14 x15)⟩,
    ⟨r0_52, k0_pay95 (k0_pay119 i x0 x1 x2 x3 x4 x5 x6 x7 x8 x9 x10 x11 x12 x13 x14 x15)⟩,
    ⟨r0_51, k0_pay93 (k0_pay119 i x0 x1 x2 x3 x4 x5 x6 x7 x8 x9 x10 x11 x12 x13 x14 x15)⟩,
    ⟨r0_50, k0_pay91 (k0_pay119 i x0 x1 x2 x3 x4 x5 x6 x7 x8 x9 x10 x11 x12 x13 x14 x15)⟩,
    ⟨r0_49, k0_pay89 (k0_pay88 (k0_pay119 i x0 x1 x2 x3 x4 x5 x6 x7 x8 x9 x10 x11 x12 x13 x14 x15))⟩,
    ⟨r0_48, k0_pay86 (k0_pay119 i x0 x1 x2 x3 x4 x5 x6 x7 x8 x9 x10 x11 x12 x13 x14 x15)⟩,
    ⟨r0_47, k0_pay84 (k0_pay119 i x0 x1 x2 x3 x4 x5 x6 x7 x8 x9 x10 x11 x12 x13 x14 x15)⟩,
    ⟨r0_46, k0_pay82 (k0_pay119 i x0 x1 x2 x3 x4 x5 x6 x7 x8 x9 x10 x11 x12 x13 x14 x15)⟩]

/-- Its stores tile the buffer (checked by evaluation), so they cover it. -/
theorem cover0_20 (p0 : Vec F S1x1x256x1 .f32) (p1 : Vec F S1x1x256x1 .f32) (p2 : Vec F S1x1x256x1 .f32) (p3 : Vec F S1x1x256x1 .f32) (p4 : Vec F S1x1x256x1 .f32) (p5 : Vec F S1x1x256x1 .f32) (p6 : Vec F S1x1x256x1 .f32) (p7 : Vec F S1x1x256x1 .f32) (p8 : Vec F S1x1x256x1 .f32) (p9 : Vec F S1x1x256x1 .f32) (p10 : Vec F S1x1x256x1 .f32) (p11 : Vec F S1x1x256x1 .f32) (p12 : Vec F S1x1x256x1 .f32) (p13 : Vec F S1x1x256x1 .f32) (p14 : Vec F S1x1x256x1 .f32) (p15 : Vec F S1x1x256x1 .f32) (y : S1x16x256x1.Idx) :
    ∃ pc ∈ ([⟨r0_61, p0⟩, ⟨r0_60, p1⟩, ⟨r0_59, p2⟩, ⟨r0_58, p3⟩, ⟨r0_57, p4⟩, ⟨r0_56, p5⟩, ⟨r0_55, p6⟩, ⟨r0_54, p7⟩, ⟨r0_53, p8⟩, ⟨r0_52, p9⟩, ⟨r0_51, p10⟩, ⟨r0_50, p11⟩, ⟨r0_49, p12⟩, ⟨r0_48, p13⟩, ⟨r0_47, p14⟩, ⟨r0_46, p15⟩] : List (View.Piece (Elt F) S1x16x256x1 .f32)), y ∈ pc.1.set :=
  View.cover_of_tiled [⟨r0_61, p0⟩, ⟨r0_60, p1⟩, ⟨r0_59, p2⟩, ⟨r0_58, p3⟩, ⟨r0_57, p4⟩, ⟨r0_56, p5⟩, ⟨r0_55, p6⟩, ⟨r0_54, p7⟩, ⟨r0_53, p8⟩, ⟨r0_52, p9⟩, ⟨r0_51, p10⟩, ⟨r0_50, p11⟩, ⟨r0_49, p12⟩, ⟨r0_48, p13⟩, ⟨r0_47, p14⟩, ⟨r0_46, p15⟩] S1x1x256x1.size (by rfl) y

/-! ## The body's triple -/

set_option maxHeartbeats 1244000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x2048 .f32) (harg10 : arg10.IsWhole) (arg11 : Memref sig .tc .vmem S4x1024 .f32) (harg11 : arg11.IsWhole) (arg12 : Memref sig .tc .vmem S1x1024 .f32) (harg12 : arg12.IsWhole) (arg13 : Memref sig .tc .vmem S4x1024 .f32) (harg13 : arg13.IsWhole) (arg14 : Memref sig .tc .vmem S1x1024 .f32) (harg14 : arg14.IsWhole) (arg15 : Memref sig .tc .vmem S4x2048 .f32) (harg15 : arg15.IsWhole) (arg16 : Memref sig .tc .vmem S1x2048 .f32) (harg16 : arg16.IsWhole) (arg17 : Memref sig .tc .vmem S1024x16 .bf16) (harg17 : arg17.IsWhole) (arg18 : Memref sig .tc .vmem S1024x16 .bf16) (harg18 : arg18.IsWhole) (arg19 : Memref sig .tc .vmem S1x16x256x64 .f32) (harg19 : arg19.IsWhole) (arg20 : Memref sig .tc .vmem S1x16x256x64 .f32) (harg20 : arg20.IsWhole) (arg21 : Memref sig .tc .vmem S1x16x256x128 .f32) (harg21 : arg21.IsWhole) (arg22 : Memref sig .tc .vmem S1x16x256x1 .f32) (harg22 : arg22.IsWhole) (arg23 : Memref sig .tc .vmem S1x16x256x1 .f32) (harg23 : arg23.IsWhole)
    (x0 : Vec F S1x256x1024 .f32) (x1 : Vec F S1x256x1024 .f32) (x2 : Vec F S1024x1024 .bf16) (x3 : Vec F S1024x1024 .bf16) (x4 : Vec F S1024x2048 .bf16) (x5 : Vec F S1x1024 .f32) (x6 : Vec F S1x1024 .f32) (x7 : Vec F S1x2048 .f32) (x8 : Vec F S4x1024 .f32) (x9 : Vec F S1x1024 .f32) (x10 : Vec F S4x1024 .f32) (x11 : Vec F S1x1024 .f32) (x12 : Vec F S4x2048 .f32) (x13 : Vec F S1x2048 .f32) (x14 : Vec F S1024x16 .bf16) (x15 : Vec F S1024x16 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare (out0_16 i x0 x1 x2 x3 x4 x5 x6 x7 x8 x9 x10 x11 x12 x13 x14 x15) ∗ owns (c : Thread nD τ) arg20 fullShare (out0_17 i x0 x1 x2 x3 x4 x5 x6 x7 x8 x9 x10 x11 x12 x13 x14 x15) ∗ owns (c : Thread nD τ) arg21 fullShare (out0_18 i x0 x1 x2 x3 x4 x5 x6 x7 x8 x9 x10 x11 x12 x13 x14 x15) ∗ owns (c : Thread nD τ) arg22 fullShare (out0_19 i x0 x1 x2 x3 x4 x5 x6 x7 x8 x9 x10 x11 x12 x13 x14 x15) ∗ owns (c : Thread nD τ) arg23 fullShare (out0_20 i x0 x1 x2 x3 x4 x5 x6 x7 x8 x9 x10 x11 x12 x13 x14 x15)) -∗ K ⟨⟩))
      ⊢ wp frame (wpE (defs₀ (F := F)) Variants.none c none) E (cc0_gdn_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_gdn_proj_eq_skeleton]; unfold cc0_gdn_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0_16 _ _ _ _ _ _ _ _ _ _ _ _ _ _ _ _)).trans ?_
    rfl
  isplitl [H17]
  · iexists _; isplitr
    swap; · iexact H17
    ipureintro
    refine (View.read_writes_eq_canon _ _ _ (cover0_17 _ _ _ _ _ _ _ _ _ _ _ _ _ _ _ _)).trans ?_
    rfl
  isplitl [H18]
  · iexists _; isplitr
    swap; · iexact H18
    ipureintro
    refine (View.read_writes_eq_canon _ _ _ (cover0_18 _ _ _ _ _ _ _ _ _ _ _ _ _ _ _ _)).trans ?_
    rfl
  isplitl [H19]
  · iexists _; isplitr
    swap; · iexact H19
    ipureintro
    refine (View.read_writes_eq_canon _ _ _ (cover0_19 _ _ _ _ _ _ _ _ _ _ _ _ _ _ _ _)).trans ?_
    rfl
  iexists _; isplitr
  swap; · iexact H20
  ipureintro
  refine (View.read_writes_eq_canon _ _ _ (cover0_20 _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    each input's share of its array as the launch deals it out. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => out0_16 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)
    | ⟨17, _⟩ => out0_17 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)
    | ⟨18, _⟩ => out0_18 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)
    | ⟨19, _⟩ => out0_19 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)
    | ⟨20, _⟩ => out0_20 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)
    | ⟨_ + 21, h⟩ => absurd h (Nat.not_lt.2 (Nat.le_add_left _ _))
  Φ _ := Pipeline.ΦA spec0 c
  q w := Pipeline.shareOf spec0 w
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What the body leaves in window 1. -/
theorem after0_1 (c : Dev nD) (t : Fin cfg0.N) : (dat0 V c).after 1 t = iblk0 V c 1 t := by dsimp only [dat0]
/-- What the body leaves in window 2. -/
theorem after0_2 (c : Dev nD) (t : Fin cfg0.N) : (dat0 V c).after 2 t = iblk0 V c 2 t := by dsimp only [dat0]
/-- What the body leaves in window 3. -/
theorem after0_3 (c : Dev nD) (t : Fin cfg0.N) : (dat0 V c).after 3 t = iblk0 V c 3 t := by dsimp only [dat0]
/-- What the body leaves in window 4. -/
theorem after0_4 (c : Dev nD) (t : Fin cfg0.N) : (dat0 V c).after 4 t = iblk0 V c 4 t := by dsimp only [dat0]
/-- What the body leaves in window 5. -/
theorem after0_5 (c : Dev nD) (t : Fin cfg0.N) : (dat0 V c).after 5 t = iblk0 V c 5 t := by dsimp only [dat0]
/-- What the body leaves in window 6. -/
theorem after0_6 (c : Dev nD) (t : Fin cfg0.N) : (dat0 V c).after 6 t = iblk0 V c 6 t := by dsimp only [dat0]
/-- What the body leaves in window 7. -/
theorem after0_7 (c : Dev nD) (t : Fin cfg0.N) : (dat0 V c).after 7 t = iblk0 V c 7 t := by dsimp only [dat0]
/-- What the body leaves in window 8. -/
theorem after0_8 (c : Dev nD) (t : Fin cfg0.N) : (dat0 V c).after 8 t = iblk0 V c 8 t := by dsimp only [dat0]
/-- What the body leaves in window 9. -/
theorem after0_9 (c : Dev nD) (t : Fin cfg0.N) : (dat0 V c).after 9 t = iblk0 V c 9 t := by dsimp only [dat0]
/-- What the body leaves in window 10. -/
theorem after0_10 (c : Dev nD) (t : Fin cfg0.N) : (dat0 V c).after 10 t = iblk0 V c 10 t := by dsimp only [dat0]
/-- What the body leaves in window 11. -/
theorem after0_11 (c : Dev nD) (t : Fin cfg0.N) : (dat0 V c).after 11 t = iblk0 V c 11 t := by dsimp only [dat0]
/-- What the body leaves in window 12. -/
theorem after0_12 (c : Dev nD) (t : Fin cfg0.N) : (dat0 V c).after 12 t = iblk0 V c 12 t := by dsimp only [dat0]
/-- What the body leaves in window 13. -/
theorem after0_13 (c : Dev nD) (t : Fin cfg0.N) : (dat0 V c).after 13 t = iblk0 V c 13 t := by dsimp only [dat0]
/-- What the body leaves in window 14. -/
theorem after0_14 (c : Dev nD) (t : Fin cfg0.N) : (dat0 V c).after 14 t = iblk0 V c 14 t := by dsimp only [dat0]
/-- What the body leaves in window 15. -/
theorem after0_15 (c : Dev nD) (t : Fin cfg0.N) : (dat0 V c).after 15 t = iblk0 V c 15 t := by dsimp only [dat0]
/-- What the body leaves in window 16. -/
theorem after0_16 (c : Dev nD) (t : Fin cfg0.N) : (dat0 V c).after 16 t = out0_16 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) := by dsimp only [dat0]
/-- What the body leaves in window 17. -/
theorem after0_17 (c : Dev nD) (t : Fin cfg0.N) : (dat0 V c).after 17 t = out0_17 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) := by dsimp only [dat0]
/-- What the body leaves in window 18. -/
theorem after0_18 (c : Dev nD) (t : Fin cfg0.N) : (dat0 V c).after 18 t = out0_18 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) := by dsimp only [dat0]
/-- What the body leaves in window 19. -/
theorem after0_19 (c : Dev nD) (t : Fin cfg0.N) : (dat0 V c).after 19 t = out0_19 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) := by dsimp only [dat0]
/-- What the body leaves in window 20. -/
theorem after0_20 (c : Dev nD) (t : Fin cfg0.N) : (dat0 V c).after 20 t = out0_20 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) := by dsimp only [dat0]

/-- Each input's current staging buffer holds its block at every point, fetched there or not (`before0_of`). -/
theorem before0_0 (c : Dev nD) (t : Fin cfg0.N) (d) : (dat0 V c).before 0 t d = iblk0 V c 0 t :=
  (before0_of V (dat0 V c) 0 rfl (fun _ => rfl) (fun _ _ _ => rfl) (A_eq0 V c 0) (after0_0 V c) t d).trans
    (by unfold Dat.fetched Dat.blockOf iblk0; rw [A_eq0]; rfl)

/-- What it finds in window 1. -/
theorem before0_1 (c : Dev nD) (t : Fin cfg0.N) (d) : (dat0 V c).before 1 t d = iblk0 V c 1 t :=
  (before0_of V (dat0 V c) 1 rfl (fun _ => rfl) (fun _ _ _ => rfl) (A_eq0 V c 1) (after0_1 V c) t d).trans
    (by unfold Dat.fetched Dat.blockOf iblk0; rw [A_eq0]; rfl)

/-- What it finds in window 2. -/
theorem before0_2 (c : Dev nD) (t : Fin cfg0.N) (d) : (dat0 V c).before 2 t d = iblk0 V c 2 t :=
  (before0_of V (dat0 V c) 2 rfl (fun _ => rfl) (fun _ _ _ => rfl) (A_eq0 V c 2) (after0_2 V c) t d).trans
    (by unfold Dat.fetched Dat.blockOf iblk0; rw [A_eq0]; rfl)

/-- What it finds in window 3. -/
theorem before0_3 (c : Dev nD) (t : Fin cfg0.N) (d) : (dat0 V c).before 3 t d = iblk0 V c 3 t :=
  (before0_of V (dat0 V c) 3 rfl (fun _ => rfl) (fun _ _ _ => rfl) (A_eq0 V c 3) (after0_3 V c) t d).trans
    (by unfold Dat.fetched Dat.blockOf iblk0; rw [A_eq0]; rfl)

/-- What it finds in window 4. -/
theorem before0_4 (c : Dev nD) (t : Fin cfg0.N) (d) : (dat0 V c).before 4 t d = iblk0 V c 4 t :=
  (before0_of V (dat0 V c) 4 rfl (fun _ => rfl) (fun _ _ _ => rfl) (A_eq0 V c 4) (after0_4 V c) t d).trans
    (by unfold Dat.fetched Dat.blockOf iblk0; rw [A_eq0]; rfl)

/-- What it finds in window 5. -/
theorem before0_5 (c : Dev nD) (t : Fin cfg0.N) (d) : (dat0 V c).before 5 t d = iblk0 V c 5 t :=
  (before0_of V (dat0 V c) 5 rfl (fun _ => rfl) (fun _ _ _ => rfl) (A_eq0 V c 5) (after0_5 V c) t d).trans
    (by unfold Dat.fetched Dat.blockOf iblk0; rw [A_eq0]; rfl)

/-- What it finds in window 6. -/
theorem before0_6 (c : Dev nD) (t : Fin cfg0.N) (d) : (dat0 V c).before 6 t d = iblk0 V c 6 t :=
  (before0_of V (dat0 V c) 6 rfl (fun _ => rfl) (fun _ _ _ => rfl) (A_eq0 V c 6) (after0_6 V c) t d).trans
    (by unfold Dat.fetched Dat.blockOf iblk0; rw [A_eq0]; rfl)

/-- What it finds in window 7. -/
theorem before0_7 (c : Dev nD) (t : Fin cfg0.N) (d) : (dat0 V c).before 7 t d = iblk0 V c 7 t :=
  (before0_of V (dat0 V c) 7 rfl (fun _ => rfl) (fun _ _ _ => rfl) (A_eq0 V c 7) (after0_7 V c) t d).trans
    (by unfold Dat.fetched Dat.blockOf iblk0; rw [A_eq0]; rfl)

/-- What it finds in window 8. -/
theorem before0_8 (c : Dev nD) (t : Fin cfg0.N) (d) : (dat0 V c).before 8 t d = iblk0 V c 8 t :=
  (before0_of V (dat0 V c) 8 rfl (fun _ => rfl) (fun _ _ _ => rfl) (A_eq0 V c 8) (after0_8 V c) t d).trans
    (by unfold Dat.fetched Dat.blockOf iblk0; rw [A_eq0]; rfl)

/-- What it finds in window 9. -/
theorem before0_9 (c : Dev nD) (t : Fin cfg0.N) (d) : (dat0 V c).before 9 t d = iblk0 V c 9 t :=
  (before0_of V (dat0 V c) 9 rfl (fun _ => rfl) (fun _ _ _ => rfl) (A_eq0 V c 9) (after0_9 V c) t d).trans
    (by unfold Dat.fetched Dat.blockOf iblk0; rw [A_eq0]; rfl)

/-- What it finds in window 10. -/
theorem before0_10 (c : Dev nD) (t : Fin cfg0.N) (d) : (dat0 V c).before 10 t d = iblk0 V c 10 t :=
  (before0_of V (dat0 V c) 10 rfl (fun _ => rfl) (fun _ _ _ => rfl) (A_eq0 V c 10) (after0_10 V c) t d).trans
    (by unfold Dat.fetched Dat.blockOf iblk0; rw [A_eq0]; rfl)

/-- What it finds in window 11. -/
theorem before0_11 (c : Dev nD) (t : Fin cfg0.N) (d) : (dat0 V c).before 11 t d = iblk0 V c 11 t :=
  (before0_of V (dat0 V c) 11 rfl (fun _ => rfl) (fun _ _ _ => rfl) (A_eq0 V c 11) (after0_11 V c) t d).trans
    (by unfold Dat.fetched Dat.blockOf iblk0; rw [A_eq0]; rfl)

/-- What it finds in window 12. -/
theorem before0_12 (c : Dev nD) (t : Fin cfg0.N) (d) : (dat0 V c).before 12 t d = iblk0 V c 12 t :=
  (before0_of V (dat0 V c) 12 rfl (fun _ => rfl) (fun _ _ _ => rfl) (A_eq0 V c 12) (after0_12 V c) t d).trans
    (by unfold Dat.fetched Dat.blockOf iblk0; rw [A_eq0]; rfl)

/-- What it finds in window 13. -/
theorem before0_13 (c : Dev nD) (t : Fin cfg0.N) (d) : (dat0 V c).before 13 t d = iblk0 V c 13 t :=
  (before0_of V (dat0 V c) 13 rfl (fun _ => rfl) (fun _ _ _ => rfl) (A_eq0 V c 13) (after0_13 V c) t d).trans
    (by unfold Dat.fetched Dat.blockOf iblk0; rw [A_eq0]; rfl)

/-- What it finds in window 14. -/
theorem before0_14 (c : Dev nD) (t : Fin cfg0.N) (d) : (dat0 V c).before 14 t d = iblk0 V c 14 t :=
  (before0_of V (dat0 V c) 14 rfl (fun _ => rfl) (fun _ _ _ => rfl) (A_eq0 V c 14) (after0_14 V c) t d).trans
    (by unfold Dat.fetched Dat.blockOf iblk0; rw [A_eq0]; rfl)

/-- What it finds in window 15. -/
theorem before0_15 (c : Dev nD) (t : Fin cfg0.N) (d) : (dat0 V c).before 15 t d = iblk0 V c 15 t :=
  (before0_of V (dat0 V c) 15 rfl (fun _ => rfl) (fun _ _ _ => rfl) (A_eq0 V c 15) (after0_15 V c) t d).trans
    (by unfold Dat.fetched Dat.blockOf iblk0; rw [A_eq0]; rfl)

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel0 c Set.univ (grid0.coords t) _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdeal.ScanRuns.lean ====
/- The scan call (region 1): its windows and its branch condition. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1_gdn_scan` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window that is uncut and never idle holds at every point what a fetch there would bring, fetched there or not,
    if the body leaves its block in place. -/
theorem before1_of {c : Dev nD} (dat : Dat τ (Elt F) Unit ℕ (UR sig nD τ) ℕ cfg1 c) (w : Fin cfg1.W) (hw : (cfg1.win w).isOut = false)
    (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hA : dat.A w = V c (Pipeline.arrRef spec1 w)) (hafter : ∀ t, (cfg1.win w).cut (cfg1.grid.coords t) (dat.after w t) = iblk1 V c w t)
    (t : Fin cfg1.N) (d) : dat.before w t d = dat.fetched w t d :=
  dat.before_in_eq_fetched w hw hlive hclip (fun t => by rw [hafter]; unfold Dat.blockOf iblk1; rw [hA]) t d

/-! ## The kernel body on any staging memrefs: a subtype the run finds -/

/-- One staging buffer of output window 7, through which its contents are stated (`View.read_writes_of_cover`: the
    choice does not matter). -/
abbrev VO1_7 : View sig .tc .vmem S32x64x128 .f32 := (Memref.whole cc1_stg7_0 : Memref sig .tc .vmem S32x64x128 .f32).view
/-- Each window's current staging memref at point `t`, spelled as the pipeline passes it (`bodyAt1`), and its wholeness. -/
abbrev ms1_0 (t : Fin cfg1.N) : Memref sig .tc .vmem S32x64x64 .f32 := win1_0.stage (cfg1.slots t 0)
/-- It is a whole buffer. -/
abbrev hs1_0 (t : Fin cfg1.N) : (ms1_0 t).IsWhole := hstage1_0 ((cfg1.slots t 0).cast nbuf1_0)
/-- Window 1's staging buffer at point `t`. -/
abbrev ms1_1 (t : Fin cfg1.N) : Memref sig .tc .vmem S32x64x64 .f32 := win1_1.stage (cfg1.slots t 1)
/-- It is a whole buffer. -/
abbrev hs1_1 (t : Fin cfg1.N) : (ms1_1 t).IsWhole := hstage1_1 ((cfg1.slots t 1).cast nbuf1_1)
/-- Window 2's staging buffer at point `t`. -/
abbrev ms1_2 (t : Fin cfg1.N) : Memref sig .tc .vmem S32x64x128 .f32 := win1_2.stage (cfg1.slots t 2)
/-- It is a whole buffer. -/
abbrev hs1_2 (t : Fin cfg1.N) : (ms1_2 t).IsWhole := hstage1_2 ((cfg1.slots t 2).cast nbuf1_2)
/-- Window 3's staging buffer at point `t`. -/
abbrev ms1_3 (t : Fin cfg1.N) : Memref sig .tc .vmem S32x64x1 .f32 := win1_3.stage (cfg1.slots t 3)
/-- It is a whole buffer. -/
abbrev hs1_3 (t : Fin cfg1.N) : (ms1_3 t).IsWhole := hstage1_3 ((cfg1.slots t 3).cast nbuf1_3)
/-- Window 4's staging buffer at point `t`. -/
abbrev ms1_4 (t : Fin cfg1.N) : Memref sig .tc .vmem S32x64x1 .f32 := win1_4.stage (cfg1.slots t 4)
/-- It is a whole buffer. -/
abbrev hs1_4 (t : Fin cfg1.N) : (ms1_4 t).IsWhole := hstage1_4 ((cfg1.slots t 4).cast nbuf1_4)
/-- Window 5's staging buffer at point `t`. -/
abbrev ms1_5 (t : Fin cfg1.N) : Memref sig .tc .vmem S32x32x64 .f32 := win1_5.stage (cfg1.slots t 5)
/-- It is a whole buffer. -/
abbrev hs1_5 (t : Fin cfg1.N) : (ms1_5 t).IsWhole := hstage1_5 ((cfg1.slots t 5).cast nbuf1_5)
/-- Window 6's staging buffer at point `t`. -/
abbrev ms1_6 (t : Fin cfg1.N) : Memref sig .tc .vmem S32x32x64 .f32 := win1_6.stage (cfg1.slots t 6)
/-- It is a whole buffer. -/
abbrev hs1_6 (t : Fin cfg1.N) : (ms1_6 t).IsWhole := hstage1_6 ((cfg1.slots t 6).cast nbuf1_6)
/-- Window 7's staging buffer at point `t`. -/
abbrev ms1_7 (t : Fin cfg1.N) : Memref sig .tc .vmem S32x64x128 .f32 := win1_7.stage (cfg1.slots t 7)
/-- It is a whole buffer. -/
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S32x64x128 .f32 := Memref.whole cc1_scratch0

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

/-- The frame kit's invariant with the scratch operands as memrefs owned at some contents (`Gen.scopedRest1_flat`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 32) — by arithmetic of the point. -/
theorem hcond1_0 : ∀ t : Fin cfg1.N, cond1_0 (grid1.coords t) ↔ t.val % 32 = 0 :=
  (fun t => by
    have ht : t.val < 64 := Nat.lt_of_lt_of_eq t.isLt N_1
    have e0 : (grid1.coords t 0).val = t.val / 32 % 2 := Pipeline.Grid.coords_val t 0 (by decide) rfl
    have e1 : (grid1.coords t 1).val = t.val / 1 % 32 := Pipeline.Grid.coords_val t 1 (by decide) rfl
    simp only [cond1_0, e0, e1]
    word_cmp
   : ∀ t : Fin grid1.N, cond1_0 (grid1.coords t) ↔ t.val % 32 = 0)

/-- The scratch `arg10` the kernel carries between points, as a view: what it holds is stated through it. -/
abbrev VS1_0 : View sig .tc .vmem S32x64x128 .f32 := scM1_0.view

end Cert.KernelIdeal.Run

end
-- ==== Proof.KernelIdeal.ScanRunA.lean ====
/- The scan body run once in full, at a first chunk. -/
module

public import proofs.«01_k».proof.Proof.KernelIdeal.ScanRuns

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2544000 in
/-- What the body's stores leave in each output's staging memref, as pieces (last first) IN CASE A (`scf.if` 0 taken: points 0, 32), WITH the
    proof that on whole staging memrefs — the inputs' at their contents, the other outputs' at
    anything, a carried scratch at the contents the point before left (`xs·`) or at anything, the other scratch at anything, the body runs to t -/
noncomputable def kernelRun1_A (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) :
    Σ' (L7 : List (View.Piece (Elt F) S32x64x128 .f32)), { LS0 : List (View.Piece (Elt F) S32x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1_gdn_scan i arg2 harg2 arg3 harg3 arg4 harg4 arg5 harg5 arg6 harg6 arg7 harg7 arg8 harg8 arg9 harg9 arg10 harg10) K } := by
  refine ⟨?_, ?_, fun E K => ?run⟩
  case run =>
    simp only [cc1_gdn_scan_eq_skeleton]; unfold cc1_gdn_scan_skel
    simp only [k1_part72_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Run

end
-- ==== Proof.KernelIdeal.ScanRunB.lean ====
/- The scan body run once in full, at a later chunk. -/
module

public import proofs.«01_k».proof.Proof.KernelIdeal.ScanRunA

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2532000 in
/-- What the body's stores leave in each output's staging memref, as pieces (last first) IN CASE B (`scf.if` 0 not taken: points 1, 2, … 63: 62 of 64), WITH the
    proof that on whole staging memrefs — the inputs' at their contents, the other outputs' at
    anything, a carried scratch at the contents the point before left (`xs·`) or at anything, the other scratch at anything, -/
noncomputable def kernelRun1_B (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : ¬cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (xs0 : Vec F S32x64x128 .f32) :
    Σ' (L7 : List (View.Piece (Elt F) S32x64x128 .f32)), { LS0 : List (View.Piece (Elt F) S32x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1_gdn_scan i arg2 harg2 arg3 harg3 arg4 harg4 arg5 harg5 arg6 harg6 arg7 harg7 arg8 harg8 arg9 harg9 arg10 harg10) K } := by
  refine ⟨?_, ?_, fun E K => ?run⟩
  case run =>
    simp only [cc1_gdn_scan_eq_skeleton]; unfold cc1_gdn_scan_skel
    simp only [k1_part72_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Run

end
-- ==== Proof.KernelIdeal.Region1.lean ====
/- The scan call (region 1): what its points leave, and its body obligation. -/
module

public import proofs.«01_k».proof.Proof.KernelIdeal.ScanRunB

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Case A's pieces for output 7 tile its block (32 stores of `S1x64x128`, checked by the kernel's evaluation: Lib/Ring.lean `Piece.tiledL`, linear in the pieces, through a loop's `@[irreducible]` trip theorem too), so they cover it. -/
theorem cover1_A_7 (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (y : S32x64x128.Idx) :
    ∃ pc ∈ (kernelRun1_A c i arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3 x4 x5 x6).1 S1x64x128.size (by sl_kernel_rfl) y

/-- What case A leaves in output 7's staging buffer: its pieces read back over junk. -/
def out1_A_7 (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) : Vec F S32x64x128 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 hc0 x0 x1 x2 x3 x4 x5 x6).1)

/-- Case A's pieces for scratch `arg10`, which the kernel carries between points, cover it: one of them a store of the WHOLE buffer (Lib/Ring.lean `sl_whole_mem`). -/
theorem scover1_A_0 (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (y : S32x64x128.Idx) :
    ∃ pc ∈ (kernelRun1_A c i arg2 harg2 arg3 harg3 arg4 harg4 arg5 harg5 arg6 harg6 arg7 harg7 arg8 harg8 arg9 harg9 arg10 harg10 hc0 x0 x1 x2 x3 x4 x5 x6).2.1, y ∈ pc.1.set :=
  View.cover_of_wholeMem (kernelRun1_A c i arg2 harg2 arg3 harg3 arg4 harg4 arg5 harg5 arg6 harg6 arg7 harg7 arg8 harg8 arg9 harg9 arg10 harg10 hc0 x0 x1 x2 x3 x4 x5 x6).2.1 (by sl_whole_mem) y

/-- What case A leaves in scratch `arg10`: its pieces read back over junk. -/
def sout1_A_0 (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) : Vec F S32x64x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 x0 x1 x2 x3 x4 x5 x6).2.1)

/-- Case B's pieces for output 7 tile its block (32 stores of `S1x64x128`, checked by the kernel's evaluation: Lib/Ring.lean `Piece.tiledL`, linear in the pieces, through a loop's `@[irreducible]` trip theorem too), so they cover it. -/
theorem cover1_B_7 (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : ¬cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (xs0 : Vec F S32x64x128 .f32) (y : S32x64x128.Idx) :
    ∃ pc ∈ (kernelRun1_B c i arg2 harg2 arg3 harg3 arg4 harg4 arg5 harg5 arg6 harg6 arg7 harg7 arg8 harg8 arg9 harg9 arg10 harg10 hc0 x0 x1 x2 x3 x4 x5 x6 xs0).1, y ∈ pc.1.set :=
  View.cover_of_tiledL (kernelRun1_B c i arg2 harg2 arg3 harg3 arg4 harg4 arg5 harg5 arg6 harg6 arg7 harg7 arg8 harg8 arg9 harg9 arg10 harg10 hc0 x0 x1 x2 x3 x4 x5 x6 xs0).1 S1x64x128.size (by sl_kernel_rfl) y

/-- What case B leaves in output 7's staging buffer: its pieces read back over junk. -/
def out1_B_7 (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : ¬cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (xs0 : Vec F S32x64x128 .f32) : Vec F S32x64x128 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 hc0 x0 x1 x2 x3 x4 x5 x6 xs0).1)

/-- Case B's pieces for scratch `arg10`, which the kernel carries between points, cover it: 32 pieces of `S1x64x128` tiling it (Lib/Ring.lean `Piece.tiledL`). -/
theorem scover1_B_0 (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : ¬cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (xs0 : Vec F S32x64x128 .f32) (y : S32x64x128.Idx) :
    ∃ pc ∈ (kernelRun1_B c i arg2 harg2 arg3 harg3 arg4 harg4 arg5 harg5 arg6 harg6 arg7 harg7 arg8 harg8 arg9 harg9 arg10 harg10 hc0 x0 x1 x2 x3 x4 x5 x6 xs0).2.1, y ∈ pc.1.set :=
  View.cover_of_tiledL (kernelRun1_B c i arg2 harg2 arg3 harg3 arg4 harg4 arg5 harg5 arg6 harg6 arg7 harg7 arg8 harg8 arg9 harg9 arg10 harg10 hc0 x0 x1 x2 x3 x4 x5 x6 xs0).2.1 S1x64x128.size (by sl_kernel_rfl) y

/-- What case B leaves in scratch `arg10`: its pieces read back over junk. -/
def sout1_B_0 (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : ¬cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (xs0 : Vec F S32x64x128 .f32) : Vec F S32x64x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 x0 x1 x2 x3 x4 x5 x6 xs0).2.1)

/-! ## What the outputs hold after each point -/

/-- THE ACCUMULATION. -/
def outsAt1 (c : Dev nD) : (n : ℕ) → n < cfg1.N → Vec F S32x64x128 .f32 × Vec F S32x64x128 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 32 = 0 then
      (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point of case A: that case's contents. -/
theorem outsAt1_A (c : Dev nD) (t : Fin cfg1.N) (h0 : t.val % 32 = 0) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 32 = 0) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut spec1 c [cc1_scratch0]) ∗ (∃ r, prngReg c r))

/-- The invariant at the start. -/
theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2) ∗ Pipeline.scopedRestBut spec1 c [cc1_scratch0]) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ Pipeline.scopedRestBut spec1 c [cc1_scratch0]) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
/-- What the body leaves in window 1. -/
theorem after1_1 (c : Dev nD) (t : Fin cfg1.N) : (dat1 V c).after 1 t = iblk1 V c 1 t := by dsimp only [dat1]
/-- What the body leaves in window 2. -/
theorem after1_2 (c : Dev nD) (t : Fin cfg1.N) : (dat1 V c).after 2 t = iblk1 V c 2 t := by dsimp only [dat1]
/-- What the body leaves in window 3. -/
theorem after1_3 (c : Dev nD) (t : Fin cfg1.N) : (dat1 V c).after 3 t = iblk1 V c 3 t := by dsimp only [dat1]
/-- What the body leaves in window 4. -/
theorem after1_4 (c : Dev nD) (t : Fin cfg1.N) : (dat1 V c).after 4 t = iblk1 V c 4 t := by dsimp only [dat1]
/-- What the body leaves in window 5. -/
theorem after1_5 (c : Dev nD) (t : Fin cfg1.N) : (dat1 V c).after 5 t = iblk1 V c 5 t := by dsimp only [dat1]
/-- What the body leaves in window 6. -/
theorem after1_6 (c : Dev nD) (t : Fin cfg1.N) : (dat1 V c).after 6 t = iblk1 V c 6 t := by dsimp only [dat1]
/-- What the body leaves in window 7. -/
theorem after1_7 (c : Dev nD) (t : Fin cfg1.N) : (dat1 V c).after 7 t = (outsAt1 V c t.val t.isLt).1 := by dsimp only [dat1]

/-- Each input's current staging buffer holds its block at every point, fetched there or not (`before1_of`). -/
theorem before1_0 (c : Dev nD) (t : Fin cfg1.N) (d) : (dat1 V c).before 0 t d = iblk1 V c 0 t :=
  (before1_of V (dat1 V c) 0 rfl (fun _ => rfl) (fun _ _ _ => rfl) (A_eq1 V c 0) (after1_0 V c) t d).trans
    (by unfold Dat.fetched Dat.blockOf iblk1; rw [A_eq1]; rfl)

/-- What it finds in window 1. -/
theorem before1_1 (c : Dev nD) (t : Fin cfg1.N) (d) : (dat1 V c).before 1 t d = iblk1 V c 1 t :=
  (before1_of V (dat1 V c) 1 rfl (fun _ => rfl) (fun _ _ _ => rfl) (A_eq1 V c 1) (after1_1 V c) t d).trans
    (by unfold Dat.fetched Dat.blockOf iblk1; rw [A_eq1]; rfl)

/-- What it finds in window 2. -/
theorem before1_2 (c : Dev nD) (t : Fin cfg1.N) (d) : (dat1 V c).before 2 t d = iblk1 V c 2 t :=
  (before1_of V (dat1 V c) 2 rfl (fun _ => rfl) (fun _ _ _ => rfl) (A_eq1 V c 2) (after1_2 V c) t d).trans
    (by unfold Dat.fetched Dat.blockOf iblk1; rw [A_eq1]; rfl)

/-- What it finds in window 3. -/
theorem before1_3 (c : Dev nD) (t : Fin cfg1.N) (d) : (dat1 V c).before 3 t d = iblk1 V c 3 t :=
  (before1_of V (dat1 V c) 3 rfl (fun _ => rfl) (fun _ _ _ => rfl) (A_eq1 V c 3) (after1_3 V c) t d).trans
    (by unfold Dat.fetched Dat.blockOf iblk1; rw [A_eq1]; rfl)

/-- What it finds in window 4. -/
theorem before1_4 (c : Dev nD) (t : Fin cfg1.N) (d) : (dat1 V c).before 4 t d = iblk1 V c 4 t :=
  (before1_of V (dat1 V c) 4 rfl (fun _ => rfl) (fun _ _ _ => rfl) (A_eq1 V c 4) (after1_4 V c) t d).trans
    (by unfold Dat.fetched Dat.blockOf iblk1; rw [A_eq1]; rfl)

/-- What it finds in window 5. -/
theorem before1_5 (c : Dev nD) (t : Fin cfg1.N) (d) : (dat1 V c).before 5 t d = iblk1 V c 5 t :=
  (before1_of V (dat1 V c) 5 rfl (fun _ => rfl) (fun _ _ _ => rfl) (A_eq1 V c 5) (after1_5 V c) t d).trans
    (by unfold Dat.fetched Dat.blockOf iblk1; rw [A_eq1]; rfl)

/-- What it finds in window 6. -/
theorem before1_6 (c : Dev nD) (t : Fin cfg1.N) (d) : (dat1 V c).before 6 t d = iblk1 V c 6 t :=
  (before1_of V (dat1 V c) 6 rfl (fun _ => rfl) (fun _ _ _ => rfl) (A_eq1 V c 6) (after1_6 V c) t d).trans
    (by unfold Dat.fetched Dat.blockOf iblk1; rw [A_eq1]; rfl)

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7]
  rw [show (dat1 V c).Φ t.succ = PhiS V c (t.val + 1) t.isLt from rfl, PhiS_succ]
  have hN : t.val < 64 := lt_of_lt_of_eq t.isLt (show cfg1.N = 64 from N_1)
  by_cases h0 : t.val % 32 = 0
  · by_cases hz : t.val = 0
    · rw [PhiS_castSucc V c t, PhiS_zero V c _ _ hz, PhiA1_eq]
      rw [outsAt1_A V c t h0]
      unfold out1_A_7 sout1_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 HR Hg]
      · isplitl [HS0 HR]
        · isplitr [HR]
          swap; · iexact HR
          unfold owns; iexists _; isplitr
          swap; · iexact HS0
          ipureintro; exact View.read_writes_of_cover _ _ _ _ _ (scover1_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_A_7 c _ _ _ _ _ _ _ _ _ _ _ _ _ _ _ _ _ _ _ _ _ _ _ _ _ _ _)
    · rw [PhiS_castSucc V c t, PhiS_pos V c _ _ hz]
      rw [outsAt1_A V c t h0]
      unfold out1_A_7 sout1_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      iintro ⟨H0, H1, H2, H3, H4, H5, H6, ⟨%e7, H7⟩, ⟨%es0, HS0⟩⟩
      isplitl [HS0 HR Hg]
      · isplitl [HS0 HR]
        · isplitr [HR]
          swap; · iexact HR
          unfold owns; iexists _; isplitr
          swap; · iexact HS0
          ipureintro; exact View.read_writes_of_cover _ _ _ _ _ (scover1_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_A_7 c _ _ _ _ _ _ _ _ _ _ _ _ _ _ _ _ _ _ _ _ _ _ _ _ _ _ _)
  · by_cases hz : t.val = 0
    · exfalso; have hN : t.val < 64 := lt_of_lt_of_eq t.isLt (show cfg1.N = 64 from N_1); omega
    · rw [PhiS_castSucc V c t, PhiS_pos V c _ _ hz]
      rw [outsAt1_B V c t h0]
      unfold out1_B_7 sout1_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 HR Hg]
      · isplitl [HS0 HR]
        · isplitr [HR]
          swap; · iexact HR
          unfold owns; iexists _; isplitr
          swap; · iexact HS0
          ipureintro; exact View.read_writes_of_cover _ _ _ _ _ (scover1_B_0 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_B_7 c _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Run

end
-- ==== Proof.KernelIdeal.Region2.lean ====
/- The output call (region 2): its windows, what its body leaves, and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2_gdn_out` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window that is uncut and never idle holds at every point what a fetch there would bring, fetched there or not,
    if the body leaves its block in place. -/
theorem before2_of {c : Dev nD} (dat : Dat τ (Elt F) Unit ℕ (UR sig nD τ) ℕ cfg2 c) (w : Fin cfg2.W) (hw : (cfg2.win w).isOut = false)
    (hlive : ∀ i, cfg2.idle w i = false)
    (hclip : ∀ t t' : Fin cfg2.N, (cfg2.win w).index t = (cfg2.win w).index t' →
      (cfg2.win w).clip (cfg2.grid.coords t) = (cfg2.win w).clip (cfg2.grid.coords t'))
    (hA : dat.A w = V c (Pipeline.arrRef spec2 w)) (hafter : ∀ t, (cfg2.win w).cut (cfg2.grid.coords t) (dat.after w t) = iblk2 V c w t)
    (t : Fin cfg2.N) (d) : dat.before w t d = dat.fetched w t d :=
  dat.before_in_eq_fetched w hw hlive hclip (fun t => by rw [hafter]; unfold Dat.blockOf iblk2; rw [hA]) t d

/-! ## The body's accesses -/

abbrev r2_0 : Rect S1x16x256x128 := Rect.unit (s := S1x16x256x128) ![0, 0, 0, 0] S1x1x256x128.size inb_S1x16x256x128_S1x1x256x128_0_0_0_0
abbrev r2_1 : Rect S1x16x256x128 := Rect.unit (s := S1x16x256x128) ![0, 1, 0, 0] S1x1x256x128.size inb_S1x16x256x128_S1x1x256x128_0_1_0_0
abbrev r2_2 : Rect S1x16x256x128 := Rect.unit (s := S1x16x256x128) ![0, 2, 0, 0] S1x1x256x128.size inb_S1x16x256x128_S1x1x256x128_0_2_0_0
abbrev r2_3 : Rect S1x16x256x128 := Rect.unit (s := S1x16x256x128) ![0, 3, 0, 0] S1x1x256x128.size inb_S1x16x256x128_S1x1x256x128_0_3_0_0
abbrev r2_4 : Rect S1x16x256x128 := Rect.unit (s := S1x16x256x128) ![0, 4, 0, 0] S1x1x256x128.size inb_S1x16x256x128_S1x1x256x128_0_4_0_0
abbrev r2_5 : Rect S1x16x256x128 := Rect.unit (s := S1x16x256x128) ![0, 5, 0, 0] S1x1x256x128.size inb_S1x16x256x128_S1x1x256x128_0_5_0_0
abbrev r2_6 : Rect S1x16x256x128 := Rect.unit (s := S1x16x256x128) ![0, 6, 0, 0] S1x1x256x128.size inb_S1x16x256x128_S1x1x256x128_0_6_0_0
abbrev r2_7 : Rect S1x16x256x128 := Rect.unit (s := S1x16x256x128) ![0, 7, 0, 0] S1x1x256x128.size inb_S1x16x256x128_S1x1x256x128_0_7_0_0
abbrev r2_8 : Rect S1x16x256x128 := Rect.unit (s := S1x16x256x128) ![0, 8, 0, 0] S1x1x256x128.size inb_S1x16x256x128_S1x1x256x128_0_8_0_0
abbrev r2_9 : Rect S1x16x256x128 := Rect.unit (s := S1x16x256x128) ![0, 9, 0, 0] S1x1x256x128.size inb_S1x16x256x128_S1x1x256x128_0_9_0_0
abbrev r2_10 : Rect S1x16x256x128 := Rect.unit (s := S1x16x256x128) ![0, 10, 0, 0] S1x1x256x128.size inb_S1x16x256x128_S1x1x256x128_0_10_0_0
abbrev r2_11 : Rect S1x16x256x128 := Rect.unit (s := S1x16x256x128) ![0, 11, 0, 0] S1x1x256x128.size inb_S1x16x256x128_S1x1x256x128_0_11_0_0
abbrev r2_12 : Rect S1x16x256x128 := Rect.unit (s := S1x16x256x128) ![0, 12, 0, 0] S1x1x256x128.size inb_S1x16x256x128_S1x1x256x128_0_12_0_0
abbrev r2_13 : Rect S1x16x256x128 := Rect.unit (s := S1x16x256x128) ![0, 13, 0, 0] S1x1x256x128.size inb_S1x16x256x128_S1x1x256x128_0_13_0_0
abbrev r2_14 : Rect S1x16x256x128 := Rect.unit (s := S1x16x256x128) ![0, 14, 0, 0] S1x1x256x128.size inb_S1x16x256x128_S1x1x256x128_0_14_0_0
abbrev r2_15 : Rect S1x16x256x128 := Rect.unit (s := S1x16x256x128) ![0, 15, 0, 0] S1x1x256x128.size inb_S1x16x256x128_S1x1x256x128_0_15_0_0
abbrev r2_16 : Rect S2048x1024 := Rect.unit (s := S2048x1024) ![0, 0] S2048x1024.size inb_S2048x1024_S2048x1024_0_0
abbrev r2_17 : Rect S1x256x1024 := Rect.unit (s := S1x256x1024) ![0, 0, 0] S1x256x1024.size inb_S1x256x1024_S1x256x1024_0_0_0
abbrev r2_18 : Rect S1024x1024 := Rect.unit (s := S1024x1024) ![0, 0] S1024x1024.size inb_S1024x1024_S1024x1024_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S1x16x256x128 .f32) (x1 : Vec F S1x256x1024 .f32) (x2 : Vec F S2048x1024 .bf16) (x3 : Vec F S1024x1024 .bf16) : Vec F S1x256x1024 .f32 :=
  View.canon [⟨r2_17, k2_pay1 (k2_pay11 (k2_pay2 (View.ld x0 r2_0)) (k2_pay3 (View.ld x0 r2_1)) (k2_pay4 (View.ld x0 r2_2)) (k2_pay5 (View.ld x0 r2_3)) (k2_pay6 (View.ld x0 r2_4)) (k2_pay7 (View.ld x0 r2_5)) (k2_pay8 (View.ld x0 r2_6)) (k2_pay9 (View.ld x0 r2_7)) (k2_pay10 (View.ld x0 r2_8)) (View.ld x0 r2_9) (View.ld x0 r2_10) (View.ld x0 r2_11) (View.ld x0 r2_12) (View.ld x0 r2_13) (View.ld x0 r2_14) (View.ld x0 r2_15) (View.ld x2 r2_16)) (k2_pay12 (View.ld x1 r2_17) (View.ld x3 r2_18))⟩]

/-- Its stores tile the buffer (checked by evaluation), so they cover it. -/
theorem cover2_4 (p0 : Vec F S1x256x1024 .f32) (y : S1x256x1024.Idx) :
    ∃ pc ∈ ([⟨r2_17, p0⟩] : List (View.Piece (Elt F) S1x256x1024 .f32)), y ∈ pc.1.set :=
  View.cover_of_tiled [⟨r2_17, p0⟩] S1x256x1024.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg3 : Memref sig .tc .vmem S1x16x256x128 .f32) (harg3 : arg3.IsWhole) (arg4 : Memref sig .tc .vmem S1x256x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1x256x1024 .f32) (harg7 : arg7.IsWhole)
    (x0 : Vec F S1x16x256x128 .f32) (x1 : Vec F S1x256x1024 .f32) (x2 : Vec F S2048x1024 .bf16) (x3 : Vec F S1024x1024 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out2_4 x0 x1 x2 x3)) -∗ K ⟨⟩))
      ⊢ wp frame (wpE (defs₀ (F := F)) Variants.none c none) E (cc2_gdn_out i arg3 harg3 arg4 harg4 arg5 harg5 arg6 harg6 arg7 harg7) K := by
  simp only [cc2_gdn_out_eq_skeleton]; unfold cc2_gdn_out_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
/-- What the body leaves in window 1. -/
theorem after2_1 (c : Dev nD) (t : Fin cfg2.N) : (dat2 V c).after 1 t = iblk2 V c 1 t := by dsimp only [dat2]
/-- What the body leaves in window 2. -/
theorem after2_2 (c : Dev nD) (t : Fin cfg2.N) : (dat2 V c).after 2 t = iblk2 V c 2 t := by dsimp only [dat2]
/-- What the body leaves in window 3. -/
theorem after2_3 (c : Dev nD) (t : Fin cfg2.N) : (dat2 V c).after 3 t = iblk2 V c 3 t := by dsimp only [dat2]
/-- What the body leaves in window 4. -/
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`before2_of`). -/
theorem before2_0 (c : Dev nD) (t : Fin cfg2.N) (d) : (dat2 V c).before 0 t d = iblk2 V c 0 t :=
  (before2_of V (dat2 V c) 0 rfl (fun _ => rfl) (fun _ _ _ => rfl) (A_eq2 V c 0) (after2_0 V c) t d).trans
    (by unfold Dat.fetched Dat.blockOf iblk2; rw [A_eq2]; rfl)

/-- What it finds in window 1. -/
theorem before2_1 (c : Dev nD) (t : Fin cfg2.N) (d) : (dat2 V c).before 1 t d = iblk2 V c 1 t :=
  (before2_of V (dat2 V c) 1 rfl (fun _ => rfl) (fun _ _ _ => rfl) (A_eq2 V c 1) (after2_1 V c) t d).trans
    (by unfold Dat.fetched Dat.blockOf iblk2; rw [A_eq2]; rfl)

/-- What it finds in window 2. -/
theorem before2_2 (c : Dev nD) (t : Fin cfg2.N) (d) : (dat2 V c).before 2 t d = iblk2 V c 2 t :=
  (before2_of V (dat2 V c) 2 rfl (fun _ => rfl) (fun _ _ _ => rfl) (A_eq2 V c 2) (after2_2 V c) t d).trans
    (by unfold Dat.fetched Dat.blockOf iblk2; rw [A_eq2]; rfl)

/-- What it finds in window 3. -/
theorem before2_3 (c : Dev nD) (t : Fin cfg2.N) (d) : (dat2 V c).before 3 t d = iblk2 V c 3 t :=
  (before2_of V (dat2 V c) 3 rfl (fun _ => rfl) (fun _ _ _ => rfl) (A_eq2 V c 3) (after2_3 V c) t d).trans
    (by unfold Dat.fetched Dat.blockOf iblk2; rw [A_eq2]; rfl)

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.KernelIdeal.Run.lean ====
/- The whole program: its segments, the buffers at each boundary, and the run. -/
module

public import proofs.«01_k».proof.Proof.KernelIdeal.Region0
public import proofs.«01_k».proof.Proof.KernelIdeal.Region1
public import proofs.«01_k».proof.Proof.KernelIdeal.Region2

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12]

/-- What the first stretch of host operations writes. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v14, main_v15, main_v16, main_v17, main_v18, main_v19, main_v20]

/-- What the second stretch writes. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v22]

/-- What the third stretch writes. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)

/-- At boundary 0 the arguments are as at the start. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- At boundary 1 the arguments are as at the start. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N

/-- After region 0 each of its arrays holds what its pipeline leaves. -/
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w

/-- Every other buffer is kept by region 0. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)

/-- At boundary 2 the arguments are as at the start. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm

/-- Every other buffer is as at its entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- At boundary 3 the arguments are as at the start. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N

/-- After region 1 each of its arrays holds what its pipeline leaves. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

/-- Every other buffer is kept by region 1. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)

/-- At boundary 4 the arguments are as at the start. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm

/-- Every other buffer is as at its entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- At boundary 5 the arguments are as at the start. -/
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N

/-- After region 2 each of its arrays holds what its pipeline leaves. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w

/-- Every other buffer is kept by region 2. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)

/-- At boundary 6 the arguments are as at the start. -/
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm

/-- Every other buffer is as at its entry. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
/-- No variants. -/
abbrev 𝒱₀ : Variants := Variants.none
/-- No core owes another anything: no level is assigned. -/
abbrev L : GSem nD τ sig → Finset Unit := fun _ => ∅
/-- Every level is zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c); unfold Pipeline.ΦA
    iintro ⟨Hp, -, Hr⟩
    isplitl [Hr]; · iexact Hr
    iexact Hp
  hout c := by
    rw [Pipeline.ownSems0_none]; refine .trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of the whole program ends, with every buffer at the contents the fold of its segments
    names and every counter at zero. -/
theorem runAll : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: the argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ hr => ⟨fun c => by
    have h := hr.1
    exact
      ⟨(h c _ (mem_uc main_arg0 (by decide))).trans (W6_args m ρ c main_arg0 (by decide)),
       (h c _ (mem_uc main_arg1 (by decide))).trans (W6_args m ρ c main_arg1 (by decide)),
       (h c _ (mem_uc main_arg2 (by decide))).trans (W6_args m ρ c main_arg2 (by decide)),
       (h c _ (mem_uc main_arg3 (by decide))).trans (W6_args m ρ c main_arg3 (by decide)),
       (h c _ (mem_uc main_arg4 (by decide))).trans (W6_args m ρ c main_arg4 (by decide)),
       (h c _ (mem_uc main_arg5 (by decide))).trans (W6_args m ρ c main_arg5 (by decide)),
       (h c _ (mem_uc main_arg6 (by decide))).trans (W6_args m ρ c main_arg6 (by decide)),
       (h c _ (mem_uc main_arg7 (by decide))).trans (W6_args m ρ c main_arg7 (by decide)),
       (h c _ (mem_uc main_arg8 (by decide))).trans (W6_args m ρ c main_arg8 (by decide)),
       (h c _ (mem_uc main_arg9 (by decide))).trans (W6_args m ρ c main_arg9 (by decide)),
       (h c _ (mem_uc main_arg10 (by decide))).trans (W6_args m ρ c main_arg10 (by decide)),
       (h c _ (mem_uc main_arg11 (by decide))).trans (W6_args m ρ c main_arg11 (by decide)),
       (h c _ (mem_uc main_arg12 (by decide))).trans (W6_args m ρ c main_arg12 (by decide)),
       (h c _ (mem_uc main_arg13 (by decide))).trans (W6_args m ρ c main_arg13 (by decide)),
       (h c _ (mem_uc main_arg14 (by decide))).trans (W6_args m ρ c main_arg14 (by decide)),
       (h c _ (mem_uc main_arg15 (by decide))).trans (W6_args m ρ c main_arg15 (by decide)),
       (h c _ (mem_uc main_arg16 (by decide))).trans (W6_args m ρ c main_arg16 (by decide))⟩, hr.2⟩) (runAll m ρ)

/-- The result array after the run, beside the arguments unchanged. -/
theorem valued : θ_run defs (onTc (τ := τ) (main (F := F))) ⟨m, fun _ => 0, ρ⟩ (fun r => ∀ c : Dev nD,
      r.2.mem ((c.tc : Thread nD τ).loc main_v23) = W6 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ hr c => by
    have h := hr.1
    exact ⟨h c _ (mem_uc main_v23 (by decide)),(h c _ (mem_uc main_arg0 (by decide))).trans (W6_args m ρ c main_arg0 (by decide)),
       (h c _ (mem_uc main_arg1 (by decide))).trans (W6_args m ρ c main_arg1 (by decide)),
       (h c _ (mem_uc main_arg2 (by decide))).trans (W6_args m ρ c main_arg2 (by decide)),
       (h c _ (mem_uc main_arg3 (by decide))).trans (W6_args m ρ c main_arg3 (by decide)),
       (h c _ (mem_uc main_arg4 (by decide))).trans (W6_args m ρ c main_arg4 (by decide)),
       (h c _ (mem_uc main_arg5 (by decide))).trans (W6_args m ρ c main_arg5 (by decide)),
       (h c _ (mem_uc main_arg6 (by decide))).trans (W6_args m ρ c main_arg6 (by decide)),
       (h c _ (mem_uc main_arg7 (by decide))).trans (W6_args m ρ c main_arg7 (by decide)),
       (h c _ (mem_uc main_arg8 (by decide))).trans (W6_args m ρ c main_arg8 (by decide)),
       (h c _ (mem_uc main_arg9 (by decide))).trans (W6_args m ρ c main_arg9 (by decide)),
       (h c _ (mem_uc main_arg10 (by decide))).trans (W6_args m ρ c main_arg10 (by decide)),
       (h c _ (mem_uc main_arg11 (by decide))).trans (W6_args m ρ c main_arg11 (by decide)),
       (h c _ (mem_uc main_arg12 (by decide))).trans (W6_args m ρ c main_arg12 (by decide)),
       (h c _ (mem_uc main_arg13 (by decide))).trans (W6_args m ρ c main_arg13 (by decide)),
       (h c _ (mem_uc main_arg14 (by decide))).trans (W6_args m ρ c main_arg14 (by decide)),
       (h c _ (mem_uc main_arg15 (by decide))).trans (W6_args m ρ c main_arg15 (by decide)),
       (h c _ (mem_uc main_arg16 (by decide))).trans (W6_args m ρ c main_arg16 (by decide))⟩) (runAll m ρ)

end Cert.KernelIdeal.Run

end
-- ==== Proof.Layer.Spec.lean ====
/- The layer's mathematics, row by row, over the extended reals: what the projections, the norm, the
   causal convolution and the activation make of the rows of the input. -/
module

public import Idealize.ShloMosaic.Lib.Pointwise
@[expose] public section

noncomputable section

namespace Cert.Layer

open Idealize.ShloMosaic

/-- The small number added to a mean square. -/
def eps : EReal := Ideal.ofBits .f32 0x3727C5AC#32

section
variable {N : ℕ} (cnt : EReal)

/-- A row's mean, `cnt` the number of its entries. -/
def mean (p : Fin N → EReal) : EReal := Ideal.div (∑ n, p n) cnt

/-- A row less its mean. -/
def centred (p : Fin N → EReal) (n : Fin N) : EReal := p n - mean cnt p

/-- The reciprocal root of a row's variance. -/
def scaleOf (p : Fin N → EReal) : EReal := Ideal.rsqrt (mean cnt (fun n => centred cnt p n * centred cnt p n) + eps)

/-- A row normalised about its mean, each column scaled. -/
def normed (p s : Fin N → EReal) (n : Fin N) : EReal := centred cnt p n * scaleOf cnt p * s n

/-- A row against a matrix. -/
def dotRow {K : ℕ} (u : Fin K → EReal) (w : Fin K → Fin N → EReal) (n : Fin N) : EReal := ∑ d, u d * w d n

/-- What the convolution's tap `i` reads at time `t`: the row three less `i` times before, nothing before the first time. -/
def tap (z : Fin 2048 → Fin N → EReal) (t : Fin 2048) (i : Fin 4) (n : Fin N) : EReal :=
  if h : 3 ≤ t.val + i.val then z ⟨t.val + i.val - 3, by omega⟩ n else 0

/-- The causal convolution of four taps. -/
def conv (z : Fin 2048 → Fin N → EReal) (ck : Fin 4 → Fin N → EReal) (bias : Fin N → EReal) (t : Fin 2048) (n : Fin N) : EReal :=
  bias n + tap z t 0 n * ck 0 n + tap z t 1 n * ck 1 n + tap z t 2 n * ck 2 n + tap z t 3 n * ck 3 n

/-- One projection of the layer: product, norm, convolution, activation. -/
def branch {K : ℕ} (x : Fin 2048 → Fin K → EReal) (w : Fin K → Fin N → EReal) (s : Fin N → EReal) (ck : Fin 4 → Fin N → EReal)
    (bias : Fin N → EReal) (t : Fin 2048) (n : Fin N) : EReal :=
  conv (fun t => normed cnt (dotRow (x t) w) s) ck bias t n * Ideal.logistic (conv (fun t => normed cnt (dotRow (x t) w) s) ck bias t n)
end

end Cert.Layer

end
-- ==== Proof.Layer.Real.lean ====
/- The layer's rows are real where its inputs are: each step of a projection keeps real numbers real, and
   the decay is the exponential of its logarithm. -/
module

public import proofs.«01_k».proof.Proof.Layer.Spec
@[expose] public section

noncomputable section

namespace Cert.Layer

open Idealize.ShloMosaic

/-- An extended real that is a real number. -/
def Re (e : EReal) : Prop := ∃ r : ℝ, e = (r : EReal)

/-- A real number is real. -/
theorem re_coe (r : ℝ) : Re (r : EReal) := ⟨r, rfl⟩

/-- Zero is real. -/
theorem re_zero : Re 0 := ⟨0, EReal.coe_zero.symm⟩

/-- A sum of two reals is real. -/
theorem Re.add {a b : EReal} : Re a → Re b → Re (a + b) := by
  rintro ⟨x, rfl⟩ ⟨y, rfl⟩
  exact ⟨x + y, (EReal.coe_add x y).symm⟩

/-- A difference of two reals is real. -/
theorem Re.sub {a b : EReal} : Re a → Re b → Re (a - b) := by
  rintro ⟨x, rfl⟩ ⟨y, rfl⟩
  exact ⟨x - y, (EReal.coe_sub x y).symm⟩

/-- A product of two reals is real. -/
theorem Re.mul {a b : EReal} : Re a → Re b → Re (a * b) := by
  rintro ⟨x, rfl⟩ ⟨y, rfl⟩
  exact ⟨x * y, (EReal.coe_mul x y).symm⟩

/-- A sum of reals is real. -/
theorem Re.sum {N : ℕ} {f : Fin N → EReal} (h : ∀ n, Re (f n)) : Re (∑ n, f n) :=
  Finset.sum_induction f Re (fun _ _ => Re.add) re_zero fun n _ => h n

/-- The activation is real of every extended real. -/
theorem re_logistic (a : EReal) : Re (Ideal.logistic a) := by
  induction a with
  | bot => exact ⟨0, Ideal.logistic_bot.trans EReal.coe_zero.symm⟩
  | top => exact ⟨1, Ideal.logistic_top.trans EReal.coe_one.symm⟩
  | coe r => exact ⟨_, Ideal.logistic_coe r⟩

/-- The small number is positive. -/
theorem eps_pos : ∃ e : ℝ, 0 < e ∧ eps = (e : EReal) := by
  refine ⟨10995116 / 2 ^ 40, by norm_num, ?_⟩
  simp [eps, Ideal.ofBits, Ideal.ieee, -EReal.coe_mul]
  norm_num

/-- The number of entries of a row. -/
theorem count_q : Ideal.ofBits .f32 0x44800000#32 = ((1024 : ℝ) : EReal) := by
  simp [Ideal.ofBits, Ideal.ieee, -EReal.coe_mul]
  norm_num

/-- The number of entries of a row of values. -/
theorem count_v : Ideal.ofBits .f32 0x45000000#32 = ((2048 : ℝ) : EReal) := by
  simp [Ideal.ofBits, Ideal.ieee, -EReal.coe_mul]
  norm_num

section
variable {N : ℕ} {c : ℝ} (hc : 0 < c)
include hc

/-- The mean of a real row is real. -/
theorem re_mean {p : Fin N → EReal} (hp : ∀ n, Re (p n)) : Re (mean (c : EReal) p) := by
  unfold mean
  rw [Ideal.div_coe hc.ne']
  exact (Re.sum hp).mul (re_coe _)

/-- A real row less its mean is real. -/
theorem re_centred {p : Fin N → EReal} (hp : ∀ n, Re (p n)) (n : Fin N) : Re (centred (c : EReal) p n) :=
  (hp n).sub (re_mean hc hp)

/-- The reciprocal root is of a positive number. -/
theorem re_scaleOf {p : Fin N → EReal} (hp : ∀ n, Re (p n)) : Re (scaleOf (c : EReal) p) := by
  obtain ⟨e, he, heq⟩ := eps_pos
  choose q hq using re_centred hc hp
  have hm : mean (c : EReal) (fun n => centred (c : EReal) p n * centred (c : EReal) p n) = (((∑ n, q n * q n) * (1 / c) : ℝ) : EReal) := by
    unfold mean
    rw [Ideal.div_coe hc.ne', EReal.coe_mul]
    refine congrArg (· * _) ?_
    have hs : ∀ n, centred (c : EReal) p n * centred (c : EReal) p n = ((q n * q n : ℝ) : EReal) := fun n => by rw [hq n, EReal.coe_mul]
    rw [Finset.sum_congr rfl fun n _ => hs n]
    exact (map_sum (⟨⟨((↑) : ℝ → EReal), EReal.coe_zero⟩, EReal.coe_add⟩ : ℝ →+ EReal) _ _).symm
  have h0 : 0 ≤ (∑ n, q n * q n) * (1 / c) := mul_nonneg (Finset.sum_nonneg fun n _ => mul_self_nonneg (q n)) (one_div_nonneg.mpr hc.le)
  have hp' : 0 < (∑ n, q n * q n) * (1 / c) + e := by linarith
  unfold scaleOf
  rw [hm, heq, ← EReal.coe_add, Ideal.rsqrt_coe, if_neg (not_lt.mpr hp'.le), if_neg hp'.ne']
  exact re_coe _

omit hc in
/-- A sum with an infinite entry is infinite. -/
theorem sum_infinite {p : Fin N → EReal} (h : ¬ ∀ n, Re (p n)) : (∑ n, p n) = ⊤ ∨ (∑ n, p n) = ⊥ := by
  by_cases hb : (∑ n, p n) = ⊥
  · exact Or.inr hb
  refine Or.inl ?_
  by_contra ht
  refine h fun n => ?_
  have split : (∑ n, p n) = p n + ∑ k ∈ Finset.univ.erase n, p k := (Finset.add_sum_erase _ _ (Finset.mem_univ n)).symm
  rw [split] at hb ht
  have hb' := EReal.add_ne_bot_iff.mp hb
  have hn : p n ≠ ⊤ := fun e => ht (by rw [e, EReal.top_add_of_ne_bot hb'.2])
  exact ⟨(p n).toReal, (EReal.coe_toReal hn hb'.1).symm⟩

/-- The normalised row is real of every row: a row with an infinite entry has an infinite mean, its centred
    entries are infinite, so the reciprocal root is zero. -/
theorem re_normed {p s : Fin N → EReal} (hs : ∀ n, Re (s n)) (n : Fin N) : Re (normed (c : EReal) p s n) := by
  by_cases hp : ∀ n, Re (p n)
  · exact ((re_centred hc hp n).mul (re_scaleOf hc hp)).mul (hs n)
  have pos : (0 : EReal) < ((1 / c : ℝ) : EReal) := EReal.coe_pos.mpr (one_div_pos.mpr hc)
  have square : ∀ k, centred (c : EReal) p k * centred (c : EReal) p k = ⊤ := by
    intro k
    unfold centred mean
    rw [Ideal.div_coe hc.ne']
    rcases sum_infinite hp with e | e
    · rw [e, EReal.top_mul_of_pos pos, EReal.sub_top, EReal.bot_mul_bot]
    · rw [e, EReal.bot_mul_of_pos pos]
      by_cases hk : p k = ⊥
      · rw [hk, EReal.bot_sub, EReal.bot_mul_bot]
      · rw [EReal.sub_bot hk, EReal.top_mul_top]
  have full : (∑ k : Fin N, (⊤ : EReal)) = ⊤ := by
    rw [← Finset.add_sum_erase _ _ (Finset.mem_univ n)]
    exact EReal.top_add_of_ne_bot (Finset.sum_induction _ (· ≠ ⊥) (fun a b ha hb => EReal.add_ne_bot_iff.mpr ⟨ha, hb⟩)
      EReal.zero_ne_bot fun _ _ => top_ne_bot)
  obtain ⟨e, -, heq⟩ := eps_pos
  have zero : scaleOf (c : EReal) p = 0 := by
    unfold scaleOf
    rw [funext square]
    unfold mean
    rw [full, Ideal.div_coe hc.ne', EReal.top_mul_of_pos pos, heq, EReal.top_add_coe, Ideal.rsqrt_top]
  unfold normed
  rw [zero, mul_zero, zero_mul]
  exact re_zero

omit hc in
/-- A real row against a real matrix is real. -/
theorem re_dotRow {K : ℕ} {u : Fin K → EReal} {w : Fin K → Fin N → EReal} (hu : ∀ d, Re (u d)) (hw : ∀ d n, Re (w d n)) (n : Fin N) : Re (dotRow u w n) :=
  Re.sum fun d => (hu d).mul (hw d n)

omit hc in
/-- What a tap reads is real. -/
theorem re_tap {z : Fin 2048 → Fin N → EReal} (hz : ∀ t n, Re (z t n)) (t : Fin 2048) (i : Fin 4) (n : Fin N) : Re (tap z t i n) := by
  unfold tap
  split
  · exact hz _ n
  · exact re_zero

omit hc in
/-- The convolution of real rows is real. -/
theorem re_conv {z : Fin 2048 → Fin N → EReal} {ck : Fin 4 → Fin N → EReal} {bias : Fin N → EReal} (hz : ∀ t n, Re (z t n))
    (hk : ∀ i n, Re (ck i n)) (hb : ∀ n, Re (bias n)) (t : Fin 2048) (n : Fin N) : Re (conv z ck bias t n) :=
  ((((hb n).add ((re_tap hz t 0 n).mul (hk 0 n))).add ((re_tap hz t 1 n).mul (hk 1 n))).add ((re_tap hz t 2 n).mul (hk 2 n))).add
    ((re_tap hz t 3 n).mul (hk 3 n))

/-- A projection is real where its scales, its taps and its bias are, whatever its input and its matrix. -/
theorem re_branch {K : ℕ} {x : Fin 2048 → Fin K → EReal} {w : Fin K → Fin N → EReal} {s : Fin N → EReal} {ck : Fin 4 → Fin N → EReal}
    {bias : Fin N → EReal} (hs : ∀ n, Re (s n)) (hk : ∀ i n, Re (ck i n)) (hb : ∀ n, Re (bias n))
    (t : Fin 2048) (n : Fin N) : Re (branch (c : EReal) x w s ck bias t n) :=
  (re_conv (fun t n => re_normed hc hs n) hk hb t n).mul (re_logistic _)
end

/-- The logarithm of the decay: the smaller of the product and zero, less the logarithm of one and the exponential of its size negated. -/
def logDecay (z : EReal) : EReal := min z 0 - Ideal.log (1 + Ideal.exp (0 - max z (-z)))

/-- The larger of two reals, as an extended real. -/
theorem coe_max (a b : ℝ) : ((max a b : ℝ) : EReal) = max (a : EReal) (b : EReal) := EReal.coe_strictMono.monotone.map_max

/-- The smaller of two reals, as an extended real. -/
theorem coe_min (a b : ℝ) : ((min a b : ℝ) : EReal) = min (a : EReal) (b : EReal) := EReal.coe_strictMono.monotone.map_min

/-- Of a real product the logarithm is real, and its exponential is the decay. -/
theorem logDecay_coe (z : ℝ) : ∃ l : ℝ, logDecay (z : EReal) = (l : EReal) ∧ Ideal.logistic (z : EReal) = ((Real.exp l : ℝ) : EReal) := by
  have h1 : (0 : ℝ) < 1 + Real.exp (0 - max z (-z)) := by positivity
  refine ⟨min z 0 - Real.log (1 + Real.exp (0 - max z (-z))), ?_, ?_⟩
  · have e : (1 : EReal) + Ideal.exp (0 - max (z : EReal) (-(z : EReal))) = ((1 + Real.exp (0 - max z (-z)) : ℝ) : EReal) := by
      rw [← EReal.coe_neg, ← coe_max, ← EReal.coe_zero, ← EReal.coe_sub, Ideal.exp_coe, EReal.coe_add, EReal.coe_one]
    unfold logDecay
    rw [e, Ideal.log_coe, if_neg (not_le.mpr h1), ← EReal.coe_zero, ← coe_min, ← EReal.coe_sub]
  · rw [Ideal.logistic_coe]
    refine congrArg (fun r : ℝ => (r : EReal)) ?_
    rw [Real.exp_sub, Real.exp_log h1]
    rcases le_total 0 z with h | h
    · rw [min_eq_right h, max_eq_left (by linarith), zero_sub, Real.exp_zero, one_div]
    · rw [min_eq_left h, max_eq_right (by linarith), zero_sub, neg_neg, Real.exp_neg, inv_eq_one_div, div_eq_div_iff (by positivity) (by positivity)]
      field_simp
      try ring

end Cert.Layer

end
-- ==== Proof.Finite.lean ====
/- What the precondition says: every entry of the arguments it reads is a real number. -/
module

public import proofs.«01_k».proof.Pre_finite_inputs
public import proofs.«01_k».proof.Proof.Layer.Real
public import Idealize.ShloMosaic.Lib.ReduceAll
public import Idealize.ShloMosaic.Lib.Affine
@[expose] public section

set_option maxRecDepth 16384

noncomputable section

namespace Cert.Pre_finite_inputs

open Cert.Layer Idealize.ShloMosaic

/-- The shape relations of the precondition's operations hold. -/
theorem shapes : Facts := by
  constructor <;> decide

/-- The bound's pattern is infinity. -/
theorem bound_top : Ideal.ofBits .f32 0x7F800000#32 = (⊤ : EReal) := by
  simp [Ideal.ofBits, Ideal.ieee]

/-- A number whose magnitude is below infinity is real. -/
theorem re_of_lt (x : EReal) (h : max x (-x) < ⊤) : Re x := by
  induction x with
  | bot => simp at h
  | coe r => exact ⟨r, rfl⟩
  | top => simp at h

/-- An array whose every entry's magnitude compares below infinity holds real numbers. -/
theorem re_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : Re (x i) := by
  have : Subsingleton S_.Idx := ⟨fun a b => funext fun k => k.elim0⟩
  have h := Host.reduce_andi_all _ _ hr hu j e i
  have h' : BitVec.ofBool (decide (max (x i) (-(x i)) < Ideal.ofBits .f32 0x7F800000#32)) = 1#1 := h
  rw [bound_top] at h'
  refine re_of_lt (x i) ?_
  by_contra hn
  rw [decide_eq_false hn] at h'
  exact absurd h' (by decide)

/-- The precondition, argument by argument. -/
theorem finite_args [Facts] (a0 : FVec Ideal S4x2048x1024 .f32) (a1 a2 : FVec Ideal S1024x1024 .f32) (a3 : FVec Ideal S1024x2048 .f32)
    (a4 a5 : FVec Ideal S1024 .f32) (a6 : FVec Ideal S2048 .f32) (a7 : FVec Ideal S4x1024 .f32) (a8 : FVec Ideal S1024 .f32)
    (a9 : FVec Ideal S4x1024 .f32) (a10 : FVec Ideal S1024 .f32) (a11 : FVec Ideal S4x2048 .f32) (a12 : FVec Ideal S2048 .f32)
    (a13 a14 : FVec Ideal S1024x16 .f32) (a15 : FVec Ideal S2048x1024 .f32) (a16 : FVec Ideal S1024x1024 .f32)
    (h : fn (F := Ideal) a0 a1 a2 a3 a4 a5 a6 a7 a8 a9 a10 a11 a12 a13 a14 a15 a16 = fun _ => 1#1) :
    (∀ i, Re (a0 i)) ∧ (∀ i, Re (a4 i)) ∧ (∀ i, Re (a5 i)) ∧ (∀ i, Re (a6 i)) ∧ (∀ i, Re (a7 i)) ∧ (∀ i, Re (a8 i)) ∧ (∀ i, Re (a9 i))
      ∧ (∀ i, Re (a10 i)) ∧ (∀ i, Re (a11 i)) ∧ (∀ i, Re (a12 i)) ∧ (∀ i, Re (a13 i)) := by
  have e := congrFun h (Shape.Idx.first Facts.h_S_)
  dsimp only [fn, fn_part1, fn_part2, fn_part3, andi] at e
  simp only [IntOp.andi_eq_one] at e
  obtain ⟨⟨⟨⟨⟨⟨⟨⟨⟨⟨h0, h4⟩, h5⟩, h6⟩, h7⟩, h8⟩, h9⟩, h10⟩, h11⟩, h12⟩, h13⟩ := e
  exact ⟨re_of_all a0 _ _ _ _ h0, re_of_all a4 _ _ _ _ h4, re_of_all a5 _ _ _ _ h5, re_of_all a6 _ _ _ _ h6, re_of_all a7 _ _ _ _ h7,
    re_of_all a8 _ _ _ _ h8, re_of_all a9 _ _ _ _ h9, re_of_all a10 _ _ _ _ h10, re_of_all a11 _ _ _ _ h11, re_of_all a12 _ _ _ _ h12,
    re_of_all a13 _ _ _ _ h13⟩

end Cert.Pre_finite_inputs

end
-- ==== Proof.KernelIdeal.Head.lean ====
/- One head of the scan's chunk as a function of what the kernel loads for it, and the pieces the body
   stores, head by head. -/
module

public import proofs.«01_k».proof.Proof.KernelIdeal.ScanRunB
@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### One head's chunk, as the kernel computes it -/

/-- Rows after columns, of 64 by 64. -/
def below : IVec S64x64 1 := cmpi .sgt (iota .tc S64x64 32 [0] iota_S64x64_d0_w32) (iota .tc S64x64 32 [1] iota_S64x64_d1_w32)

/-- The identity matrix of 64 rows. -/
def unitM : FVec F S64x64 .f32 :=
  sitofp .f32 (extui 32 (cmpi .eq (iota .tc S64x64 32 [0] iota_S64x64_d0_w32) (iota .tc S64x64 32 [1] iota_S64x64_d1_w32)) natLt_1_32)

/-- The decays between times of the chunk: `exp (gᵢ − gⱼ)` below the diagonal, `exp` of the mask elsewhere. -/
def headE (g : FVec F S64x1 .f32) (gr : FVec F S1x64 .f32) : FVec F S64x64 .f32 :=
  exp (select below (subf (broadcastTo S64x64 g broadcasts_S64x1_S64x64) (broadcastTo S64x64 gr broadcasts_S1x64_S64x64))
    (broadcast S64x64 (Named.named κ "mask" 0xF149F2CA#32)))

/-- The keys above the queries. -/
def headC (q k : FVec F S64x64 .f32) : FVec F S128x64 .f32 :=
  concatenate S128x64 0 [⟨S64x64, k⟩, ⟨S64x64, q⟩] concatenates_S64x64_S64x64_S128x64_d0

/-- The keys scaled by the write strengths. -/
def headKb (k : FVec F S64x64 .f32) (b : FVec F S64x1 .f32) : FVec F S64x64 .f32 :=
  mulf k (broadcastTo S64x64 b broadcasts_S64x1_S64x64)

/-- Keys and queries against the scaled keys. -/
def headGram (q k : FVec F S64x64 .f32) (b : FVec F S64x1 .f32) : FVec F S128x64 .f32 :=
  matmul dot_S128x64_S64x64_S128x64_1_1_0_0_n_n none (headC q k) (headKb k b) (constant S128x64 .f32 0x00000000#32)

/-- The strictly lower part of the chunk's system. -/
def headM (q k : FVec F S64x64 .f32) (g b : FVec F S64x1 .f32) (gr : FVec F S1x64 .f32) : FVec F S64x64 .f32 :=
  mulf (headE g gr) (extractStridedSlice S64x64 ![0, 0] (headGram q k b) slices_S128x64_o0_0_S64x64)

/-- The weights of the writes in the outputs. -/
def headW (q k : FVec F S64x64 .f32) (g b : FVec F S64x1 .f32) (gr : FVec F S1x64 .f32) : FVec F S64x64 .f32 :=
  mulf (addf (headE g gr) unitM) (extractStridedSlice S64x64 ![64, 0] (headGram q k b) slices_S128x64_o64_0_S64x64)

/-- Keys and queries, decayed, against the state before the chunk. -/
def headR (q k : FVec F S64x64 .f32) (g : FVec F S64x1 .f32) (s : FVec F S64x128 .f32) : FVec F S128x128 .f32 :=
  matmul dot_S128x64_S64x128_S128x128_1_0_0_1_n_n none
    (mulf (headC q k) (broadcastTo S128x64 (concatenate S128x1 0 [⟨S64x1, exp g⟩, ⟨S64x1, exp g⟩] concatenates_S64x1_S64x1_S128x1_d0)
      broadcasts_S128x1_S128x64))
    s (constant S128x128 .f32 0x00000000#32)

/-- One step of Newton's iteration. -/
def headN (M X : FVec F S64x64 .f32) : FVec F S64x64 .f32 :=
  addf X (matmul dot_S64x64_S64x64_S64x64_1_0_0_1_n_n none X
    (subf (subf unitM X) (matmul dot_S64x64_S64x64_S64x64_1_0_0_1_n_n none M X (constant S64x64 .f32 0x00000000#32)))
    (constant S64x64 .f32 0x00000000#32))

/-- Five steps. -/
def headX (M : FVec F S64x64 .f32) : FVec F S64x64 .f32 :=
  headN M (headN M (headN M (headN M (headN M (subf unitM M)))))

/-- What the chunk's times write. -/
def headU (q k : FVec F S64x64 .f32) (v : FVec F S64x128 .f32) (g b : FVec F S64x1 .f32) (gr : FVec F S1x64 .f32) (s : FVec F S64x128 .f32) :
    FVec F S64x128 .f32 :=
  matmul dot_S64x64_S64x128_S64x128_1_0_0_1_n_n none (headX (headM q k g b gr))
    (subf v (extractStridedSlice S64x128 ![0, 0] (headR q k g s) slices_S128x128_o0_0_S64x128)) (constant S64x128 .f32 0x00000000#32)

/-- The chunk's outputs. -/
def headO (q k : FVec F S64x64 .f32) (v : FVec F S64x128 .f32) (g b : FVec F S64x1 .f32) (gr : FVec F S1x64 .f32) (s : FVec F S64x128 .f32) :
    FVec F S64x128 .f32 :=
  addf (extractStridedSlice S64x128 ![64, 0] (headR q k g s) slices_S128x128_o64_0_S64x128)
    (matmul dot_S64x64_S64x128_S64x128_1_0_0_1_n_n none (headW q k g b gr) (headU q k v g b gr s) (constant S64x128 .f32 0x00000000#32))

/-- The state after the chunk. -/
def headS (q k : FVec F S64x64 .f32) (v : FVec F S64x128 .f32) (g b : FVec F S64x1 .f32) (gr : FVec F S1x64 .f32) (s : FVec F S64x128 .f32) :
    FVec F S64x128 .f32 :=
  addf (mulf (broadcastTo S64x128 (exp (extractStridedSlice S1x1 ![63, 0] g slices_S64x1_o63_0_S1x1)) broadcasts_S1x1_S64x128) s)
    (matmul dot_S64x64_S64x128_S64x128_0_0_1_1_n_n none
      (mulf (headKb k b) (broadcastTo S64x64
        (exp (subf (broadcastTo S64x1 (extractStridedSlice S1x1 ![63, 0] g slices_S64x1_o63_0_S1x1) broadcasts_S1x1_S64x1) g))
        broadcasts_S64x1_S64x64))
      (headU q k v g b gr s) (constant S64x128 .f32 0x00000000#32))

/-! ### The loads of one head -/

/-- Head `h`'s block of a stack of 32 lies inside it. -/
theorem inbH {a b : ℕ} (h : Fin 32) : ∀ x, (![h.val, 0, 0] : Fin 3 → ℕ) x + (![1, a, b] : Fin 3 → ℕ) x ≤ (⟨3, ![32, a, b]⟩ : Shape).size x := by
  intro x
  fin_cases x
  · show h.val + 1 ≤ 32; omega
  · show 0 + a ≤ a; omega
  · show 0 + b ≤ b; omega

/-- Head `h`'s block of a stack of 32. -/
def rectH (a b : ℕ) (h : Fin 32) : Rect ⟨3, ![32, a, b]⟩ := Rect.unit (s := ⟨3, ![32, a, b]⟩) ![h.val, 0, 0] ![1, a, b] (inbH h)

/-- The offsets of head `h`'s row of decays at the chunk of grid point `i`. -/
def offG (i : grid1.Coords) (h : Fin 32) : Fin 3 → ℕ := ![h.val, (Scalar.indexCast (BitVec.ofNat 32 (i 1).val)).toNat, 0]

/-- Where head `h` reads its row of the chunk: at the head, the chunk, the start. -/
theorem offG_eq (i : grid1.Coords) (h : Fin 32) : offG i h = ![h.val, (i 1).val, 0] := by
  have e : (Scalar.indexCast (BitVec.ofNat 32 (i 1).val)).toNat = (i 1).val :=
    congrFun (k1_off1_eq i) 1
  rw [offG, e]

/-- That row lies within its block. -/
theorem inbG (i : grid1.Coords) (h : Fin 32) : ∀ x, offG i h x + (![1, 1, 64] : Fin 3 → ℕ) x ≤ S32x32x64.size x := by
  rw [offG_eq]
  intro x
  fin_cases x
  · show h.val + 1 ≤ 32; omega
  · show (i 1).val + 1 ≤ 32; exact (i 1).isLt
  · show 0 + 64 ≤ 64; omega

/-- Head `h`'s row of decays. -/
def rectG (i : grid1.Coords) (h : Fin 32) : Rect S32x32x64 := Rect.unit (s := S32x32x64) (offG i h) ![1, 1, 64] (inbG i h)

/-- One head's stored output, from the arrays the heads' blocks are loaded from. -/
def outH (i : grid1.Coords) (x0 x1 : Vec F S32x64x64 .f32) (x2 : Vec F S32x64x128 .f32) (x3 x4 : Vec F S32x64x1 .f32) (x5 : Vec F S32x32x64 .f32)
    (s : Vec F S1x64x128 .f32) (h : Fin 32) : FVec F S64x128 .f32 :=
  headO (shapeCast S64x64 (View.ld x0 (rectH 64 64 h)) shapeCasts_S1x64x64_S64x64) (shapeCast S64x64 (View.ld x1 (rectH 64 64 h)) shapeCasts_S1x64x64_S64x64)
    (shapeCast S64x128 (View.ld x2 (rectH 64 128 h)) shapeCasts_S1x64x128_S64x128)
    (shapeCast S64x1 (View.ld x3 (rectH 64 1 h)) shapeCasts_S1x64x1_S64x1) (shapeCast S64x1 (View.ld x4 (rectH 64 1 h)) shapeCasts_S1x64x1_S64x1)
    (shapeCast S1x64 (View.ld x5 (rectG i h)) shapeCasts_S1x1x64_S1x64)
    (shapeCast S64x128 s shapeCasts_S1x64x128_S64x128)

/-- One head's stored state, likewise. -/
def stateH (i : grid1.Coords) (x0 x1 : Vec F S32x64x64 .f32) (x2 : Vec F S32x64x128 .f32) (x3 x4 : Vec F S32x64x1 .f32) (x5 : Vec F S32x32x64 .f32)
    (s : Vec F S1x64x128 .f32) (h : Fin 32) : FVec F S64x128 .f32 :=
  headS (shapeCast S64x64 (View.ld x0 (rectH 64 64 h)) shapeCasts_S1x64x64_S64x64) (shapeCast S64x64 (View.ld x1 (rectH 64 64 h)) shapeCasts_S1x64x64_S64x64)
    (shapeCast S64x128 (View.ld x2 (rectH 64 128 h)) shapeCasts_S1x64x128_S64x128)
    (shapeCast S64x1 (View.ld x3 (rectH 64 1 h)) shapeCasts_S1x64x1_S64x1) (shapeCast S64x1 (View.ld x4 (rectH 64 1 h)) shapeCasts_S1x64x1_S64x1)
    (shapeCast S1x64 (View.ld x5 (rectG i h)) shapeCasts_S1x1x64_S1x64)
    (shapeCast S64x128 s shapeCasts_S1x64x128_S64x128)

/-- The head whose block the `n`-th piece from the last stored holds. -/
def rev (n : Fin 32) : Fin 32 := ⟨31 - n.val, by omega⟩

/-- The pieces of 32 stores, the last first, of a family of blocks. -/
def piecesOf (f : Fin 32 → FVec F S64x128 .f32) : List (View.Piece (Elt F) S32x64x128 .f32) :=
  List.ofFn fun n : Fin 32 => ⟨rectH 64 128 (rev n), shapeCast S1x64x128 (f (rev n)) shapeCasts_S64x128_S1x64x128⟩

end Cert.KernelIdeal.Run

end
-- ==== Proof.Delta.Algebra.lean ====
/- The gated delta rule over the reals, one head: the recurrence over 64 consecutive times unrolled,
   and the block of 64 times computed at once by a triangular system, whose inverse five Newton steps
   give exactly. -/
module

public import Mathlib.Data.Matrix.Mul
public import Mathlib.Data.Matrix.Basic
public import Mathlib.LinearAlgebra.Matrix.NonsingularInverse
public import Mathlib.Analysis.SpecialFunctions.Exp
public import Mathlib.Tactic.NoncommRing

@[expose] public section

noncomputable section

namespace Cert.Delta

open Finset

variable {m n : ℕ}

/-! ### Powers of a strictly lower triangular matrix -/

/-- The entries of the `e`-th power of a strictly lower triangular matrix vanish unless the row is at
    least `e` below the column. -/
theorem pow_strict {N : Matrix (Fin n) (Fin n) ℝ} (hN : ∀ i j : Fin n, i.val ≤ j.val → N i j = 0)
    (e : ℕ) : ∀ i j : Fin n, i.val < j.val + e → (N ^ e) i j = 0 := by
  induction e with
  | zero => intro i j h; rw [pow_zero, Matrix.one_apply_ne (by intro h'; subst h'; omega)]
  | succ e ih =>
    intro i j h
    rw [pow_succ, Matrix.mul_apply]
    refine Finset.sum_eq_zero fun l _ => ?_
    by_cases hl : l.val ≤ j.val
    · rw [hN l j hl, mul_zero]
    · rw [ih i l (by omega), zero_mul]

/-- A strictly lower triangular matrix of `n` rows has `n`-th power zero. -/
theorem pow_strict_eq_zero {N : Matrix (Fin n) (Fin n) ℝ}
    (hN : ∀ i j : Fin n, i.val ≤ j.val → N i j = 0) : N ^ n = 0 := by
  ext i j
  exact pow_strict hN n i j (by omega)

/-! ### Newton's iteration for the inverse of `1 + N` -/

/-- One step: `X ↦ X + X ((1 − X) − N X)`. -/
def newton (N X : Matrix (Fin n) (Fin n) ℝ) : Matrix (Fin n) (Fin n) ℝ :=
  X + X * (1 - X - N * X)

/-- Five steps from `1 − N`. -/
def inv5 (N : Matrix (Fin n) (Fin n) ℝ) : Matrix (Fin n) (Fin n) ℝ :=
  newton N (newton N (newton N (newton N (newton N (1 - N)))))

/-- A step squares the residual `1 − (1 + N) X`. -/
theorem newton_res (N X : Matrix (Fin n) (Fin n) ℝ) :
    1 - (1 + N) * newton N X = (1 - (1 + N) * X) * (1 - (1 + N) * X) := by
  unfold newton
  noncomm_ring

/-- The residual of `1 − N` is `N²`. -/
theorem start_res (N : Matrix (Fin n) (Fin n) ℝ) : 1 - (1 + N) * (1 - N) = N ^ 2 := by
  noncomm_ring

/-- After five steps the residual is `N` to the 64th power. -/
theorem inv5_res (N : Matrix (Fin n) (Fin n) ℝ) : 1 - (1 + N) * inv5 N = N ^ 64 := by
  unfold inv5
  rw [newton_res, newton_res, newton_res, newton_res, newton_res, start_res]
  simp only [← pow_add]

/-- For a strictly lower triangular `N` of 64 rows, five steps give the inverse of `1 + N`. -/
theorem inv5_mul {N : Matrix (Fin 64) (Fin 64) ℝ}
    (hN : ∀ i j : Fin 64, i.val ≤ j.val → N i j = 0) : inv5 N * (1 + N) = 1 := by
  have h := inv5_res N
  rw [pow_strict_eq_zero hN, sub_eq_zero] at h
  exact mul_eq_one_comm.mp h.symm

/-- So five steps solve the system: if `U + N U = R` then `U` is the fifth iterate times `R`. -/
theorem inv5_solve {N : Matrix (Fin 64) (Fin 64) ℝ}
    (hN : ∀ i j : Fin 64, i.val ≤ j.val → N i j = 0) (U R : Matrix (Fin 64) (Fin m) ℝ)
    (h : U + N * U = R) : inv5 N * R = U := by
  have e : U + N * U = (1 + N) * U := by rw [Matrix.add_mul, Matrix.one_mul]
  rw [← h, e, ← Matrix.mul_assoc, inv5_mul hN, Matrix.one_mul]

/-! ### The recurrence of one head -/

/-- One time of the gated delta rule: decay the state by `a`, read it out at the key, and write the
    difference from the value back along the key with strength `b`. -/
def step (a b : ℝ) (k : Fin n → ℝ) (v : Fin m → ℝ) (S : Fin n → Fin m → ℝ) : Fin n → Fin m → ℝ :=
  fun d w => a * S d w + b * (k d * (v w - ∑ d', k d' * (a * S d' w)))

/-- The state before time `t`, from `S0` before time 0, the decay given by its logarithm. -/
def state (la b : ℕ → ℝ) (k : ℕ → Fin n → ℝ) (v : ℕ → Fin m → ℝ) (S0 : Fin n → Fin m → ℝ) :
    ℕ → Fin n → Fin m → ℝ
  | 0 => S0
  | t + 1 => step (Real.exp (la t)) (b t) (k t) (v t) (state la b k v S0 t)

/-- A shift of time: the state before time `s + t` is the state before time `t` of the shifted
    sequences from the state before time `s`. -/
theorem state_shift (la b : ℕ → ℝ) (k : ℕ → Fin n → ℝ) (v : ℕ → Fin m → ℝ) (S0 : Fin n → Fin m → ℝ)
    (s t : ℕ) : state la b k v S0 (s + t)
      = state (fun i => la (s + i)) (fun i => b (s + i)) (fun i => k (s + i)) (fun i => v (s + i))
          (state la b k v S0 s) t := by
  induction t with
  | zero => rfl
  | succ t ih => rw [← Nat.add_assoc]; simp only [state, ih]

section Block

variable (la b : ℕ → ℝ) (k : ℕ → Fin n → ℝ) (v : ℕ → Fin m → ℝ) (S0 : Fin n → Fin m → ℝ)

/-- The logarithm of the decay from time 0 to before time `i`. -/
def cum (i : ℕ) : ℝ := ∑ j ∈ range i, la j

/-- What time `i` writes: the value less the read-out of the decayed state. -/
def write (i : ℕ) (w : Fin m) : ℝ :=
  v i w - ∑ d, k i d * (Real.exp (la i) * state la b k v S0 i d w)

/-- The state before time `i` is the first state decayed, plus what each earlier time wrote decayed
    from then on. -/
theorem state_unroll (i : ℕ) (d : Fin n) (w : Fin m) :
    state la b k v S0 i d w = Real.exp (cum la i) * S0 d w
      + ∑ j ∈ range i, Real.exp (cum la i - cum la (j + 1)) * (b j * k j d) * write la b k v S0 j w := by
  induction i with
  | zero => simp [state, cum]
  | succ i ih =>
    have h1 : cum la (i + 1) = la i + cum la i := by unfold cum; rw [sum_range_succ, add_comm]
    rw [sum_range_succ, sub_self, Real.exp_zero, one_mul, h1, Real.exp_add]
    show Real.exp (la i) * state la b k v S0 i d w + b i * (k i d * write la b k v S0 i w) = _
    rw [ih, mul_add, mul_sum]
    have h2 : ∀ j, Real.exp (la i) * (Real.exp (cum la i - cum la (j + 1)) * (b j * k j d) * write la b k v S0 j w)
        = Real.exp (la i + cum la i - cum la (j + 1)) * (b j * k j d) * write la b k v S0 j w := by
      intro j; rw [add_sub_assoc, Real.exp_add]; ring
    simp only [h2]
    ring

/-- A vector's product with the state after time `i`, for any vector in place of the query. -/
theorem read_unroll (q : Fin n → ℝ) (i : ℕ) (w : Fin m) :
    ∑ d, q d * state la b k v S0 i d w
      = ∑ d, (q d * Real.exp (cum la i)) * S0 d w
        + ∑ j ∈ range i, (Real.exp (cum la i - cum la (j + 1)) * ∑ d, q d * (k j d * b j))
            * write la b k v S0 j w := by
  simp only [state_unroll, mul_add, sum_add_distrib, mul_sum, sum_mul]
  rw [sum_comm]
  congr 1
  · exact sum_congr rfl fun d _ => by ring
  · exact sum_congr rfl fun j _ => sum_congr rfl fun d _ => by ring

/-- What the times write solves a unit lower triangular system. -/
theorem write_system (i : ℕ) (w : Fin m) :
    write la b k v S0 i w + ∑ j ∈ range i, (Real.exp (cum la (i + 1) - cum la (j + 1))
        * ∑ d, k i d * (k j d * b j)) * write la b k v S0 j w
      = v i w - ∑ d, (k i d * Real.exp (cum la (i + 1))) * S0 d w := by
  have h1 : cum la (i + 1) = la i + cum la i := by unfold cum; rw [sum_range_succ, add_comm]
  have h : ∑ d, k i d * (Real.exp (la i) * state la b k v S0 i d w)
      = ∑ d, (k i d * Real.exp (cum la (i + 1))) * S0 d w
        + ∑ j ∈ range i, (Real.exp (cum la (i + 1) - cum la (j + 1)) * ∑ d, k i d * (k j d * b j))
            * write la b k v S0 j w := by
    have e : ∀ d, k i d * (Real.exp (la i) * state la b k v S0 i d w)
        = (k i d * Real.exp (la i)) * state la b k v S0 i d w := fun d => by ring
    simp only [e]
    rw [read_unroll la b k v S0 (fun d => k i d * Real.exp (la i)) i w, h1]
    congr 1
    · exact sum_congr rfl fun d _ => by rw [Real.exp_add]; ring
    · refine sum_congr rfl fun j _ => ?_
      rw [add_sub_assoc, Real.exp_add, mul_sum, mul_sum]
      congr 1
      exact sum_congr rfl fun d _ => by ring
  rw [write, h]
  ring

end Block

/-! ### The block computed at once -/

section Chunk

/-- The sums over earlier times as sums over all 64, of a term that vanishes from `i` on. -/
theorem sum_range_eq_fin {f : ℕ → ℝ} {g : Fin n → ℝ} (i : ℕ) (hi : i ≤ n)
    (h1 : ∀ j : Fin n, j.val < i → g j = f j.val) (h0 : ∀ j : Fin n, i ≤ j.val → g j = 0) :
    ∑ j, g j = ∑ j ∈ range i, f j := by
  have h : ∀ j : Fin n, g j = if j.val < i then f j.val else 0 := by
    intro j; split
    · exact h1 j ‹_›
    · exact h0 j (by omega)
  simp only [h]
  rw [Fin.sum_univ_eq_sum_range (fun j => if j < i then f j else 0) n, ← sum_filter]
  congr 1
  ext j; simp; omega

variable (q k : Fin 64 → Fin n → ℝ) (v : Fin 64 → Fin m → ℝ) (g b : Fin 64 → ℝ) (S : Fin n → Fin m → ℝ)

/-- The decay from time `j` to time `i`, for `i` after `j` only. -/
def decay (i j : Fin 64) : ℝ := if j.val < i.val then Real.exp (g i - g j) else 0

/-- The system's strictly lower part. -/
def coef : Matrix (Fin 64) (Fin 64) ℝ :=
  fun i j => decay g i j * ∑ d, k i d * (k j d * b j)

/-- The right-hand side: the values less the read-outs of the first state. -/
def rhs : Matrix (Fin 64) (Fin m) ℝ :=
  fun i w => v i w - ∑ d, (k i d * Real.exp (g i)) * S d w

/-- What the times write. -/
def writes : Matrix (Fin 64) (Fin m) ℝ := inv5 (coef k g b) * rhs k v g S

/-- The weight of time `j`'s write in time `i`'s output. -/
def weight : Matrix (Fin 64) (Fin 64) ℝ :=
  fun i j => (decay g i j + if i = j then 1 else 0) * ∑ d, q i d * (k j d * b j)

/-- The block's output. -/
def blockO (i : Fin 64) (w : Fin m) : ℝ :=
  (∑ d, (q i d * Real.exp (g i)) * S d w) + ∑ j, weight q k g b i j * writes k v g b S j w

/-- The state after the block. -/
def blockS (d : Fin n) (w : Fin m) : ℝ :=
  Real.exp (g 63) * S d w + ∑ j, ((k j d * b j) * Real.exp (g 63 - g j)) * writes k v g b S j w

end Chunk

section Correct

variable (la b : ℕ → ℝ) (q k : ℕ → Fin n → ℝ) (v : ℕ → Fin m → ℝ) (S0 : Fin n → Fin m → ℝ)

/-- The solved system is what the recurrence's times write. -/
theorem writes_eq (i : Fin 64) (w : Fin m) :
    writes (fun i => k i.val) (fun i => v i.val) (fun i => cum la (i.val + 1)) (fun i => b i.val) S0 i w
      = write la b k v S0 i.val w := by
  have h := inv5_solve (N := coef (fun i => k i.val) (fun i => cum la (i.val + 1)) (fun i => b i.val))
    (fun i j hij => by rw [coef, decay, if_neg (by omega), zero_mul])
    (Matrix.of fun (i : Fin 64) w => write la b k v S0 i.val w)
    (rhs (fun i => k i.val) (fun i => v i.val) (fun i => cum la (i.val + 1)) S0)
    (by
      ext i w
      rw [Matrix.add_apply, Matrix.mul_apply, Matrix.of_apply, rhs, ← write_system la b k v S0 i.val w]
      congr 1
      refine sum_range_eq_fin (f := fun j => (Real.exp (cum la (i.val + 1) - cum la (j + 1))
        * ∑ d, k i d * (k j d * b j)) * write la b k v S0 j w) i.val (by omega) ?_ ?_
      · intro j hj; rw [coef, decay, if_pos hj, Matrix.of_apply]
      · intro j hj; rw [coef, decay, if_neg (by omega), zero_mul, zero_mul])
  exact congrFun (congrFun h i) w

/-- **The block's output is the recurrence's**: at each of the 64 times, the query's product with the
    state after that time. -/
theorem blockO_eq (i : Fin 64) (w : Fin m) :
    blockO (fun i => q i.val) (fun i => k i.val) (fun i => v i.val) (fun i => cum la (i.val + 1))
        (fun i => b i.val) S0 i w
      = ∑ d, q i.val d * state la b k v S0 (i.val + 1) d w := by
  rw [read_unroll, blockO]
  congr 1
  simp only [writes_eq]
  refine sum_range_eq_fin (f := fun j => (Real.exp (cum la (i.val + 1) - cum la (j + 1))
        * ∑ d, q i.val d * (k j d * b j)) * write la b k v S0 j w) (i.val + 1) (by omega) ?_ ?_
  · intro j hj
    rw [weight, decay]
    by_cases h : i = j
    · subst h; rw [if_neg (by omega), if_pos rfl, sub_self, Real.exp_zero, zero_add]
    · rw [if_pos (by omega), if_neg h, add_zero]
  · intro j hj
    rw [weight, decay, if_neg (by omega), if_neg (by intro h; subst h; omega), add_zero, zero_mul, zero_mul]

/-- **The block's state is the recurrence's** after 64 times. -/
theorem blockS_eq (d : Fin n) (w : Fin m) :
    blockS (fun i => k i.val) (fun i => v i.val) (fun i => cum la (i.val + 1)) (fun i => b i.val) S0 d w
      = state la b k v S0 64 d w := by
  rw [state_unroll, blockS]
  congr 1
  simp only [writes_eq]
  rw [← Fin.sum_univ_eq_sum_range (fun j => Real.exp (cum la 64 - cum la (j + 1)) * (b j * k j d)
    * write la b k v S0 j w) 64]
  refine sum_congr rfl fun j _ => ?_
  have e : ((63 : Fin 64) : ℕ) + 1 = 64 := rfl
  rw [e]
  ring

end Correct

end Cert.Delta
-- ==== Proof.KernelIdeal.HeadReal.lean ====
/- One head's chunk over the extended reals: on real inputs it is the real chunk of `Cert.Delta`. -/
module

public import proofs.«01_k».proof.Proof.KernelIdeal.Head
public import proofs.«01_k».proof.Proof.Delta.Algebra
public import Idealize.ShloMosaic.Lib.Pointwise
@[expose] public section

set_option maxRecDepth 16384

noncomputable section

namespace Cert.KernelIdeal.Run

open Cert.KernelIdeal Cert.KernelIdeal.Gen Cert.Delta
open Idealize.ShloMosaic Idealize.ShloMosaic.TcCoe Idealize.ShloMosaic.Tactic

/-- A finite sum of reals, read in the extended reals. -/
theorem coe_sum {ι : Type} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- Every entry of `X` is the real entry of `x`. -/
def IsReal {m n : ℕ} (X : FVec Ideal ⟨2, ![m, n]⟩ .f32) (x : Fin m → Fin n → ℝ) : Prop :=
  ∀ i j, X (ix2 i j) = ((x i j : ℝ) : EReal)

section
variable {q k : Fin 64 → Fin 64 → ℝ} {v S : Fin 64 → Fin 128 → ℝ} {g b : Fin 64 → ℝ}
variable {Q K : FVec Ideal S64x64 .f32} {V S' : FVec Ideal S64x128 .f32} {G B : FVec Ideal S64x1 .f32} {GR : FVec Ideal S1x64 .f32}

/-- The comparison of two positions below 64, as a bit. -/
theorem cmp_gt : ∀ i j : Fin 64, IntOp.cmpi .sgt (BitVec.ofNat 32 i.val) (BitVec.ofNat 32 j.val) = if j.val < i.val then 1#1 else 0#1 := by
  decide +kernel

/-- The comparison of a row and a column, as a number: one on the diagonal. -/
theorem cmp_eq : ∀ i j : Fin 64, (BitVec.setWidth 32 (IntOp.cmpi .eq (BitVec.ofNat 32 i.val) (BitVec.ofNat 32 j.val))).toInt
    = if i = j then 1 else 0 := by
  decide +kernel

/-- The mask stands for minus infinity. -/
theorem mask_bot : (Named.named κ "mask" 0xF149F2CA#32 : Ideal .f32) = ⊥ := rfl

/-- The unit matrix. -/
theorem unitM_real : IsReal (unitM (F := Ideal)) fun i j => if i = j then 1 else 0 := by
  intro i j
  pointwise [unitM]
  show (((BitVec.setWidth 32 (IntOp.cmpi .eq (BitVec.ofNat 32 i.val) (BitVec.ofNat 32 j.val))).toInt : ℝ) : EReal) = _
  rw [cmp_eq]
  split <;> simp

/-- The exponentials of the masked differences: the decays from column to row, zero where the row is not after the column. -/
theorem headE_real (hG : IsReal G fun i _ => g i) (hGR : IsReal GR fun _ j => g j) :
    IsReal (headE G GR) fun i j => decay g i j := by
  intro i j
  pointwise [headE, below]
  rw [cmp_gt, mask_bot, hG, hGR, decay]
  by_cases h : j.val < i.val
  · rw [if_pos h, if_pos h, ← EReal.coe_sub]
    rfl
  · rw [if_neg h, if_neg h]
    rfl

/-- The keys times the write strengths. -/
theorem headKb_real (hK : IsReal K k) (hB : IsReal B fun i _ => b i) : IsReal (headKb K B) fun i d => k i d * b i := by
  intro i j
  pointwise [headKb]
  rw [hK, hB, EReal.coe_mul]

/-- A product of two real matrices, read in the extended reals. -/
theorem dot_real {n : ℕ} {x y : Fin n → EReal} {x' y' : Fin n → ℝ} (hx : ∀ d, x d = ((x' d : ℝ) : EReal)) (hy : ∀ d, y d = ((y' d : ℝ) : EReal)) :
    ∑ d, x d * y d = ((∑ d, x' d * y' d : ℝ) : EReal) := by
  rw [← coe_sum]
  exact Finset.sum_congr rfl fun d _ => by rw [hx, hy, EReal.coe_mul]

/-- The upper half of the stacked products: keys with weighted keys. -/
theorem headGram_lo (hK : IsReal K k) (hB : IsReal B fun i _ => b i) :
    IsReal (extractStridedSlice S64x64 ![0, 0] (headGram Q K B) slices_S128x64_o0_0_S64x64) fun i j => ∑ d, k i d * (k j d * b j) := by
  intro i j
  pointwise [headGram, headC]
  exact dot_real (hK i) (headKb_real hK hB j)

/-- The lower half: queries with weighted keys. -/
theorem headGram_hi (hQ : IsReal Q q) (hK : IsReal K k) (hB : IsReal B fun i _ => b i) :
    IsReal (extractStridedSlice S64x64 ![64, 0] (headGram Q K B) slices_S128x64_o64_0_S64x64) fun i j => ∑ d, q i d * (k j d * b j) := by
  intro i j
  pointwise [headGram, headC]
  exact dot_real (hQ i) (headKb_real hK hB j)

/-- The triangular system's coefficients. -/
theorem headM_real (hK : IsReal K k) (hG : IsReal G fun i _ => g i) (hB : IsReal B fun i _ => b i) (hGR : IsReal GR fun _ j => g j) :
    IsReal (headM Q K G B GR) (coef k g b) := by
  intro i j
  rw [coef, EReal.coe_mul]
  exact congrArg₂ (· * ·) (headE_real hG hGR i j) (headGram_lo hK hB i j)

/-- The weights of the read-out. -/
theorem headW_real (hQ : IsReal Q q) (hK : IsReal K k) (hG : IsReal G fun i _ => g i) (hB : IsReal B fun i _ => b i)
    (hGR : IsReal GR fun _ j => g j) : IsReal (headW Q K G B GR) (weight q k g b) := by
  intro i j
  rw [weight, EReal.coe_mul, EReal.coe_add]
  exact congrArg₂ (· * ·) (congrArg₂ (· + ·) (headE_real hG hGR i j) (unitM_real i j)) (headGram_hi hQ hK hB i j)

/-- The upper half of the state read out: by the decayed keys. -/
theorem headR_lo (hK : IsReal K k) (hG : IsReal G fun i _ => g i) (hS : IsReal S' S) :
    IsReal (extractStridedSlice S64x128 ![0, 0] (headR Q K G S') slices_S128x128_o0_0_S64x128)
      fun i w => ∑ d, (k i d * Real.exp (g i)) * S d w := by
  intro i w
  pointwise [headR, headC]
  exact dot_real (fun d => by rw [hK, hG, EReal.coe_mul]; rfl) fun d => hS d w

/-- The lower half: by the decayed queries. -/
theorem headR_hi (hQ : IsReal Q q) (hG : IsReal G fun i _ => g i) (hS : IsReal S' S) :
    IsReal (extractStridedSlice S64x128 ![64, 0] (headR Q K G S') slices_S128x128_o64_0_S64x128)
      fun i w => ∑ d, (q i d * Real.exp (g i)) * S d w := by
  intro i w
  pointwise [headR, headC]
  exact dot_real (fun d => by rw [hQ, hG, EReal.coe_mul]; rfl) fun d => hS d w

/-- One step of the iteration on real matrices. -/
theorem headN_real {M X : FVec Ideal S64x64 .f32} {m x : Matrix (Fin 64) (Fin 64) ℝ} (hM : IsReal M m) (hX : IsReal X x) :
    IsReal (headN M X) (newton m x) := by
  intro i j
  pointwise [headN]
  rw [newton, Matrix.add_apply, Matrix.mul_apply, EReal.coe_add, hX i j]
  refine congrArg _ (dot_real (hX i) fun d => ?_)
  rw [unitM_real, hX, dot_real (hM d) fun e => hX e j]
  rw [Matrix.sub_apply, Matrix.sub_apply, Matrix.mul_apply, Matrix.one_apply, EReal.coe_sub, EReal.coe_sub]

/-- Five Newton steps. -/
theorem headX_real {M : FVec Ideal S64x64 .f32} {m : Matrix (Fin 64) (Fin 64) ℝ} (hM : IsReal M m) : IsReal (headX M) (inv5 m) := by
  have h : IsReal (subf unitM M) (1 - m : Matrix (Fin 64) (Fin 64) ℝ) := by
    intro i j
    rw [Matrix.sub_apply, Matrix.one_apply, EReal.coe_sub]
    exact congrArg₂ (· - ·) (unitM_real i j) (hM i j)
  exact headN_real hM (headN_real hM (headN_real hM (headN_real hM (headN_real hM h))))

/-- What the times of the chunk write. -/
theorem headU_real (hK : IsReal K k) (hV : IsReal V v) (hG : IsReal G fun i _ => g i) (hB : IsReal B fun i _ => b i)
    (hGR : IsReal GR fun _ j => g j) (hS : IsReal S' S) : IsReal (headU Q K V G B GR S') (writes k v g b S) := by
  intro i w
  rw [writes, Matrix.mul_apply]
  unfold headU
  have h := headR_lo (Q := Q) hK hG hS
  generalize extractStridedSlice S64x128 ![0, 0] (headR Q K G S') slices_S128x128_o0_0_S64x128 = L at h ⊢
  pointwise
  exact dot_real (fun d => headX_real (headM_real hK hG hB hGR) i d) fun d => by rw [hV, h, rhs, EReal.coe_sub]

/-- The chunk's outputs on real inputs. -/
theorem headO_real (hQ : IsReal Q q) (hK : IsReal K k) (hV : IsReal V v) (hG : IsReal G fun i _ => g i) (hB : IsReal B fun i _ => b i)
    (hGR : IsReal GR fun _ j => g j) (hS : IsReal S' S) : IsReal (headO Q K V G B GR S') (blockO q k v g b S) := by
  intro i w
  rw [blockO, EReal.coe_add, ← headR_hi (K := K) hQ hG hS i w]
  refine congrArg₂ (· + ·) rfl ?_
  pointwise
  exact dot_real (headW_real hQ hK hG hB hGR i) fun d => headU_real hK hV hG hB hGR hS d w

/-- The state after the chunk on real inputs. -/
theorem headS_real (hK : IsReal K k) (hV : IsReal V v) (hG : IsReal G fun i _ => g i) (hB : IsReal B fun i _ => b i)
    (hGR : IsReal GR fun _ j => g j) (hS : IsReal S' S) : IsReal (headS Q K V G B GR S') (blockS k v g b S) := by
  intro d w
  unfold headS
  pointwise
  rw [blockS, EReal.coe_add, EReal.coe_mul, hG, hS]
  refine congrArg _ (dot_real (fun j => ?_) fun j => headU_real hK hV hG hB hGR hS j w)
  rw [headKb_real hK hB, hG, ← EReal.coe_sub, EReal.coe_mul]
  rfl
end

end Cert.KernelIdeal.Run

end
-- ==== Proof.KernelIdeal.ProjRows.lean ====
/- The projection call's rows: what a grid point computes of the rows it loads. -/
module

public import proofs.«01_k».proof.Proof.KernelIdeal.Region0
public import proofs.«01_k».proof.Proof.KernelIdeal.HeadReal
public import proofs.«01_k».proof.Proof.Layer.Real
@[expose] public section

set_option maxRecDepth 16384

noncomputable section

namespace Cert.KernelIdeal.Run

open Cert.KernelIdeal Cert.KernelIdeal.Gen Cert.Layer
open Idealize.ShloMosaic Idealize.ShloMosaic.TcCoe Idealize.ShloMosaic.Tactic

/-- The rows a grid point works on: eight before its block, then its block. -/
theorem rows_apply (x0 x1 : Vec Ideal S1x256x1024 .f32) (r : Fin 264) (d : Fin 1024) :
    k0_pay6 x0 x1 (ix2 r d) = if h : r.val < 8 then x1 (ix3 (0 : Fin 1) (⟨248 + r.val, by omega⟩ : Fin 256) d)
      else x0 (ix3 (0 : Fin 1) (⟨r.val - 8, by omega⟩ : Fin 256) d) := by
  pointwise [k0_pay6]

/-- Whether a row lies before the first time, decided for every tile and row. -/
theorem valid_bits : ∀ (i : Fin 8) (r : Fin 264), (BitVec.setWidth 32 (IntOp.cmpi .sge (IntOp.subi (IntOp.addi
    (Scalar.muli (BitVec.ofNat 32 i.val) 256#32) (BitVec.ofNat 32 r.val)) 8#32) 0#32)).toInt
      = if 8 ≤ 256 * i.val + r.val then 1 else 0 := by
  decide +kernel

/-- The factor of a row: one, and zero before the first time. -/
theorem valid_apply (i : grid0.Coords) (r : Fin 264) :
    k0_pay7 (F := Ideal) i (ix2 r (0 : Fin 1)) = if 8 ≤ 256 * (i 2).val + r.val then 1 else 0 := by
  unfold k0_pay7
  pointwise
  show (((BitVec.setWidth 32 (IntOp.cmpi .sge (IntOp.subi (IntOp.addi
    (Scalar.muli (BitVec.ofNat 32 (i 2).val) 256#32) (BitVec.ofNat 32 r.val)) 8#32) 0#32)).toInt : ℝ) : EReal) = _
  rw [valid_bits (i 2) r]
  split <;> simp

section
variable {N : ℕ} (cnt : EReal)

/-- A row normalised, its reciprocal root first multiplied by the row's factor `f`. -/
def maskedRow (f : EReal) (p s : Fin N → EReal) (n : Fin N) : EReal := centred cnt p n * (scaleOf cnt p * f) * s n

/-- Four taps of the rows of one block. -/
def rowConv (y : Fin 264 → Fin N → EReal) (ck : Fin 4 → Fin N → EReal) (bias : Fin N → EReal) (r : Fin 256) (n : Fin N) : EReal :=
  bias n + y ⟨5 + r.val, by omega⟩ n * ck 0 n + y ⟨6 + r.val, by omega⟩ n * ck 1 n + y ⟨7 + r.val, by omega⟩ n * ck 2 n
    + y ⟨8 + r.val, by omega⟩ n * ck 3 n

/-- A tap of the rows of block `tt` is the tap of the whole sequence. -/
theorem tap_row (tt : Fin 8) (z : Fin 2048 → Fin N → EReal) (y : Fin 264 → Fin N → EReal)
    (hy : ∀ (R : Fin 264) n, y R n = if h : 8 ≤ 256 * tt.val + R.val then z ⟨256 * tt.val + R.val - 8, by omega⟩ n else 0)
    (r : Fin 256) (n : Fin N) (i : Fin 4) (R : Fin 264) (hR : R.val = 5 + i.val + r.val) :
    y R n = tap z ⟨256 * tt.val + r.val, by omega⟩ i n := by
  rw [hy, tap]
  by_cases h : 8 ≤ 256 * tt.val + R.val
  · rw [dif_pos h, dif_pos (show 3 ≤ 256 * tt.val + r.val + i.val by omega)]
    exact congrArg (fun u => z u n) (Fin.ext (show 256 * tt.val + R.val - 8 = 256 * tt.val + r.val + i.val - 3 by omega))
  · rw [dif_neg h, dif_neg (show ¬ 3 ≤ 256 * tt.val + r.val + i.val by omega)]

/-- The four taps of the rows of block `tt` are the convolution of the whole sequence. -/
theorem rowConv_eq (tt : Fin 8) (z : Fin 2048 → Fin N → EReal) (y : Fin 264 → Fin N → EReal)
    (hy : ∀ (R : Fin 264) n, y R n = if h : 8 ≤ 256 * tt.val + R.val then z ⟨256 * tt.val + R.val - 8, by omega⟩ n else 0)
    (ck : Fin 4 → Fin N → EReal) (bias : Fin N → EReal) (r : Fin 256) (n : Fin N) :
    rowConv y ck bias r n = conv z ck bias ⟨256 * tt.val + r.val, by omega⟩ n := by
  unfold rowConv conv
  rw [tap_row tt z y hy r n 0 ⟨5 + r.val, by omega⟩ rfl, tap_row tt z y hy r n 1 ⟨6 + r.val, by omega⟩ rfl,
    tap_row tt z y hy r n 2 ⟨7 + r.val, by omega⟩ rfl, tap_row tt z y hy r n 3 ⟨8 + r.val, by omega⟩ rfl]

/-- The masked rows of block `tt` are the normalised rows of the whole sequence, and zero before the first time. -/
theorem maskedRow_eq (tt : Fin 8) (p : Fin 264 → Fin N → EReal) (P : Fin 2048 → Fin N → EReal) (f : Fin 264 → EReal) (s : Fin N → EReal)
    (hf : ∀ R, f R = if 8 ≤ 256 * tt.val + R.val then 1 else 0)
    (hp : ∀ (R : Fin 264) (h : 8 ≤ 256 * tt.val + R.val), p R = P ⟨256 * tt.val + R.val - 8, by omega⟩) (R : Fin 264) (n : Fin N) :
    maskedRow cnt (f R) (p R) s n = if h : 8 ≤ 256 * tt.val + R.val then normed cnt (P ⟨256 * tt.val + R.val - 8, by omega⟩) s n else 0 := by
  unfold maskedRow
  rw [hf]
  by_cases h : 8 ≤ 256 * tt.val + R.val
  · rw [if_pos h, dif_pos h, mul_one, hp R h, normed]
  · rw [if_neg h, dif_neg h, mul_zero, mul_zero, zero_mul]
end

/-- Row `r` of a projection with the activation, from the rows before them. -/
theorem conv_q (y : FVec Ideal S264x1024 .f32) (s b c0 c1 c2 c3 : Vec Ideal S1x1024 .f32) (r : Fin 256) (n : Fin 1024)
    (A : EReal) (hA : A = rowConv (fun R n => y (ix2 R n) * s (ix2 (0 : Fin 1) n))
      ![fun n => c0 (ix2 (0 : Fin 1) n), fun n => c1 (ix2 (0 : Fin 1) n), fun n => c2 (ix2 (0 : Fin 1) n), fun n => c3 (ix2 (0 : Fin 1) n)]
      (fun n => b (ix2 (0 : Fin 1) n)) r n) :
    k0_pay9 y s b c0 c1 c2 c3 (ix2 r n) = A * Ideal.logistic A := by
  subst hA
  pointwise [k0_pay9]
  rfl

/-- A row of the product, normalised, times one or zero as its time is or is not a time. -/
theorem norm_rows (i : grid0.Coords) (x0 x1 : Vec Ideal S1x256x1024 .f32) (w : Vec Ideal S1024x1024 .bf16) (r : Fin 264) (n : Fin 1024) (p : Fin 1024 → EReal)
    (hp : p = dotRow (fun d => k0_pay6 x0 x1 (ix2 r d)) (fun d n => w (ix2 d n))) :
    k0_pay8 i x0 x1 w (ix2 r n) = centred (Ideal.ofBits .f32 0x44800000#32) p n
      * (scaleOf (Ideal.ofBits .f32 0x44800000#32) p * k0_pay7 (F := Ideal) i (ix2 r (0 : Fin 1))) := by
  subst hp
  pointwise [k0_pay8]
  rfl

/-- The second projection's steps are the first's. -/
theorem kbranch_eq (i : grid0.Coords) (x0 x1 : Vec Ideal S1x256x1024 .f32) (w : Vec Ideal S1024x1024 .bf16) (s b c0 c1 c2 c3 : Vec Ideal S1x1024 .f32) :
    k0_pay12 (k0_pay7 i) (k0_pay10 (k0_pay6 x0 x1) w) (k0_pay11 (k0_pay6 x0 x1) w) (Scalar.ofBits .f32 0x3727C5AC#32) s b c0 c1 c2 c3
      = k0_pay9 (k0_pay8 i x0 x1 w) s b c0 c1 c2 c3 := rfl

/-- The third projection, its rows twice as wide. -/
theorem conv_v (f : FVec Ideal S264x1 .f32) (u : FVec Ideal S264x1024 .bf16) (w : Vec Ideal S1024x2048 .bf16) (s b c0 c1 c2 c3 : Vec Ideal S1x2048 .f32) (r : Fin 256) (n : Fin 2048)
    (p : Fin 264 → Fin 2048 → EReal) (hp : p = fun R => dotRow (fun d => u (ix2 R d)) (fun d n => w (ix2 d n)))
    (A : EReal) (hA : A = rowConv (fun R => maskedRow (Ideal.ofBits .f32 0x45000000#32) (f (ix2 R (0 : Fin 1))) (p R) fun n => s (ix2 (0 : Fin 1) n))
      ![fun n => c0 (ix2 (0 : Fin 1) n), fun n => c1 (ix2 (0 : Fin 1) n), fun n => c2 (ix2 (0 : Fin 1) n), fun n => c3 (ix2 (0 : Fin 1) n)]
      (fun n => b (ix2 (0 : Fin 1) n)) r n) :
    k0_pay15 f (k0_pay13 u w) (k0_pay14 u w) s b c0 c1 c2 c3 (ix2 r n) = A * Ideal.logistic A := by
  subst hA hp
  pointwise [k0_pay15, k0_pay13, k0_pay14]
  rfl

/-- The logarithm of the decay. -/
theorem la_apply (u : FVec Ideal S264x1024 .bf16) (w : Vec Ideal S1024x16 .bf16) (r : Fin 256) (h : Fin 16) :
    k0_pay73 u w (ix2 r h) = logDecay (dotRow (fun d => u (ix2 (⟨8 + r.val, by omega⟩ : Fin 264) d)) (fun d h => w (ix2 d h)) h) := by
  pointwise [k0_pay73, k0_pay72]
  rfl

/-- The write strength. -/
theorem be_apply (u : FVec Ideal S264x1024 .bf16) (w : Vec Ideal S1024x16 .bf16) (r : Fin 256) (h : Fin 16) :
    k0_pay74 u w (ix2 r h) = Ideal.logistic (dotRow (fun d => u (ix2 (⟨8 + r.val, by omega⟩ : Fin 264) d)) (fun d h => w (ix2 d h)) h) := by
  pointwise [k0_pay74, k0_pay72]
  rfl

/-- The chunk a row lies in, as the kernel divides: rounding down. -/
def chunkBits (x : ℕ) : BitVec 32 :=
  Scalar.select
    (IntOp.andi
      (IntOp.cmpi .ne
        (IntOp.subi (BitVec.setWidth 32 (IntOp.cmpi .sgt (BitVec.ofNat 32 x) 0#32))
          (BitVec.setWidth 32 (IntOp.cmpi .slt (BitVec.ofNat 32 x) 0#32)))
        (Scalar.subi (Scalar.extui (Scalar.cmpi .sgt 64#32 0#32)) (Scalar.extui (Scalar.cmpi .slt 64#32 0#32))))
      (IntOp.cmpi .ne (IntOp.remsi ArithUnit.vector (BitVec.ofNat 32 x) 64#32) 0#32))
    (IntOp.subi (IntOp.divsi ArithUnit.vector (BitVec.ofNat 32 x) 64#32) 1#32)
    (IntOp.divsi ArithUnit.vector (BitVec.ofNat 32 x) 64#32)

/-- The chunk of a row, as the tile's integer operations compute it. -/
theorem chunkBits_eq : ∀ x : Fin 256, chunkBits x.val = BitVec.ofNat 32 (x.val / 64) := by
  decide +kernel

/-- The mask of the sums within a chunk, decided for every pair of rows. -/
theorem tri_bits : ∀ r x : Fin 256, (BitVec.setWidth 32 (IntOp.andi (IntOp.cmpi .sge (BitVec.ofNat 32 r.val) (BitVec.ofNat 32 x.val))
    (IntOp.cmpi .eq (BitVec.ofNat 32 (r.val / 64)) (BitVec.ofNat 32 (x.val / 64))))).toInt
      = if x.val ≤ r.val ∧ r.val / 64 = x.val / 64 then 1 else 0 := by
  decide +kernel

/-- The mask's entry as an extended real. -/
theorem tri_apply (r x : Fin 256) :
    (FloatOps.sitofp .f32 (BitVec.setWidth 32 (IntOp.andi (IntOp.cmpi .sge (BitVec.ofNat 32 r.val) (BitVec.ofNat 32 x.val))
      (IntOp.cmpi .eq (chunkBits r.val) (chunkBits x.val)))) : Ideal .f32)
      = (((if x.val ≤ r.val ∧ r.val / 64 = x.val / 64 then 1 else 0 : ℝ)) : EReal) := by
  rw [chunkBits_eq, chunkBits_eq]
  show (((BitVec.setWidth 32 (IntOp.andi (IntOp.cmpi .sge (BitVec.ofNat 32 r.val) (BitVec.ofNat 32 x.val))
    (IntOp.cmpi .eq (BitVec.ofNat 32 (r.val / 64)) (BitVec.ofNat 32 (x.val / 64))))).toInt : ℝ) : EReal) = _
  rw [tri_bits]
  split <;> simp

/-- The sums of the logarithms within a chunk, where they are real. -/
theorem cum_apply (la : FVec Ideal S256x16 .f32) (l : Fin 256 → Fin 16 → ℝ) (hla : ∀ r h, la (ix2 r h) = ((l r h : ℝ) : EReal)) (r : Fin 256) (h : Fin 16) :
    k0_pay79 la (iota .tc S256x256 32 [0] iota_S256x256_d0_w32) (iota .tc S256x256 32 [1] iota_S256x256_d1_w32) k0_pay75 k0_pay76 k0_pay77 k0_pay78 (ix2 r h)
      = ((∑ x : Fin 256, (if x.val ≤ r.val ∧ r.val / 64 = x.val / 64 then 1 else 0) * l x h : ℝ) : EReal) := by
  pointwise [k0_pay79, k0_pay75, k0_pay76, k0_pay77, k0_pay78]
  refine (congrArg₂ (· + ·) (Finset.sum_congr rfl fun x _ => ?_ : _ = ∑ x : Fin 256, (((if x.val ≤ r.val ∧ r.val / 64 = x.val / 64 then 1 else 0) * l x h : ℝ) : EReal))
    (Finset.sum_eq_zero fun x _ => ?_)).trans ?_
  · exact (congrArg₂ (· * ·) (tri_apply r x) (hla x h)).trans (EReal.coe_mul _ _).symm
  · rw [hla x h, ← EReal.coe_sub, sub_self, EReal.coe_zero, mul_zero]
  · rw [add_zero, ← coe_sum]

end Cert.KernelIdeal.Run

end
-- ==== Proof.KernelIdeal.ProjPieces.lean ====
/- The projection call's stores: sixteen heads' columns, each stored into its own block. -/
module

public import proofs.«01_k».proof.Proof.KernelIdeal.ProjRows
public import Idealize.ShloMosaic.Lib.Pipeline.ValueKit
public import Idealize.ShloMosaic.Lib.Pipeline.CanonAppend
@[expose] public section

set_option maxRecDepth 16384

noncomputable section

namespace Cert.KernelIdeal.Run

open Cert.KernelIdeal Cert.KernelIdeal.Gen Cert.Layer
open Idealize.ShloMosaic Idealize.ShloMosaic.TcCoe Idealize.ShloMosaic.Tactic

/-- The block of one head of width `W`. -/
abbrev Blk1 (W : ℕ) : Shape := ⟨4, ![1, 1, 256, W]⟩

/-- The block of all heads of width `W`. -/
abbrev Blk16 (W : ℕ) : Shape := ⟨4, ![1, 16, 256, W]⟩

/-- Head `h`'s block lies inside. -/
theorem inbP (W : ℕ) (h : Fin 16) : ∀ x, (![0, h.val, 0, 0] : Fin 4 → ℕ) x + (Blk1 W).size x ≤ (Blk16 W).size x := by
  intro x
  fin_cases x
  · show 0 + 1 ≤ 1; omega
  · show h.val + 1 ≤ 16; omega
  · show 0 + 256 ≤ 256; omega
  · show 0 + W ≤ W; omega

/-- Counting the heads from the last. -/
def back (h : Fin 16) : Fin 16 := ⟨15 - h.val, by omega⟩

/-- The sixteen stores, the last first. -/
def storesOf (W : ℕ) (f : Fin 16 → Vec Ideal (Blk1 W) .f32) : List (View.Piece (Elt Ideal) (Blk16 W) .f32) :=
  List.ofFn fun h : Fin 16 => ⟨Rect.unit (s := Blk16 W) ![0, (back h).val, 0, 0] (Blk1 W).size (inbP W (back h)), f (back h)⟩

/-- The sixteen stores leave every head's block in its place. -/
theorem canon_stores (W : ℕ) (f : Fin 16 → Vec Ideal (Blk1 W) .f32) (h : Fin 16) (r : Fin 256) (d : Fin W) :
    View.canon (storesOf W f) (ix4 (0 : Fin 1) h r d) = f h (ix4 (0 : Fin 1) (0 : Fin 1) r d) := by
  have key := View.canon_append_of_pieces (Val := Elt Ideal) (S := Blk16 W) (e := .f32)
    (fun y => f (y 1) (ix4 (0 : Fin 1) (0 : Fin 1) (y 2) (y 3))) [] (storesOf W f) ?_ (ix4 (0 : Fin 1) h r d) ?_
  · rw [List.append_nil] at key
    exact key
  · intro p hp x
    obtain ⟨n, rfl⟩ := List.mem_ofFn.mp hp
    have e1 : ((Rect.unit (s := Blk16 W) ![0, (back n).val, 0, 0] (Blk1 W).size (inbP W (back n))).emb x) 1 = back n := by
      refine Fin.ext ?_
      have h1 : (x 1).val < 1 := (x 1).isLt
      show (back n).val + 1 * (x 1).val = (back n).val
      omega
    have e2 : ((Rect.unit (s := Blk16 W) ![0, (back n).val, 0, 0] (Blk1 W).size (inbP W (back n))).emb x) 2 = x 2 := by
      refine Fin.ext ?_
      show 0 + 1 * (x 2).val = (x 2).val
      omega
    have e3 : ((Rect.unit (s := Blk16 W) ![0, (back n).val, 0, 0] (Blk1 W).size (inbP W (back n))).emb x) 3 = x 3 := by
      refine Fin.ext ?_
      show 0 + 1 * (x 3).val = (x 3).val
      omega
    show f (back n) x = f _ _
    rw [e1, e2, e3]
    refine congrArg (f (back n)) (funext fun a => ?_)
    fin_cases a
    · exact Subsingleton.elim (α := Fin 1) _ _
    · exact Subsingleton.elim (α := Fin 1) _ _
    · rfl
    · rfl
  · refine ⟨_, List.mem_ofFn.mpr ⟨back h, rfl⟩, ?_⟩
    refine (Rect.mem_set_unit (inb := inbP W (back (back h)))).mpr fun a => ?_
    fin_cases a
    · show 0 ≤ 0 ∧ 0 < 0 + 1; omega
    · show 15 - (15 - h.val) ≤ h.val ∧ h.val < 15 - (15 - h.val) + 1; omega
    · show 0 ≤ r.val ∧ r.val < 0 + 256; omega
    · show 0 ≤ d.val ∧ d.val < 0 + W; omega

/-- Head `h`'s columns lie inside the row. -/
theorem cutsP (N W : ℕ) (h : Fin 16) (hN : 16 * W = N) : (⟨2, ![256, N]⟩ : Shape).Slices ![0, W * h.val] ⟨2, ![256, W]⟩ := by
  refine ⟨rfl, fun a => ?_⟩
  fin_cases a
  · show 0 + 256 ≤ 256; omega
  · show W * h.val + W ≤ N
    have := Nat.mul_le_mul_left W (show h.val + 1 ≤ 16 by omega)
    rw [Nat.mul_add, Nat.mul_one] at this
    omega

/-- One head's columns, as stored. -/
def headCols (N W : ℕ) (hN : 16 * W = N) (hc : (⟨2, ![256, W]⟩ : Shape).ShapeCasts (Blk1 W)) (x : Vec Ideal ⟨2, ![256, N]⟩ .f32) (h : Fin 16) : Vec Ideal (Blk1 W) .f32 :=
  shapeCast (Blk1 W) (extractStridedSlice ⟨2, ![256, W]⟩ ![0, W * h.val] x (cutsP N W h hN)) hc

/-- Two leading axes of one entry added, of 64 columns. -/
theorem add_two_64 (x : Vec Ideal S256x64 .f32) (r : Fin 256) (d : Fin 64) :
    shapeCast S1x1x256x64 x shapeCasts_S256x64_S1x1x256x64 (ix4 (0 : Fin 1) (0 : Fin 1) r d) = x (ix2 r d) := by
  pointwise

/-- Head `h`'s stored columns, width 64. -/
theorem headCols_64 (x : Vec Ideal S256x1024 .f32) (h : Fin 16) (r : Fin 256) (d : Fin 64) :
    headCols 1024 64 rfl shapeCasts_S256x64_S1x1x256x64 x h (ix4 (0 : Fin 1) (0 : Fin 1) r d) = x (ix2 r (⟨64 * h.val + d.val, by omega⟩ : Fin 1024)) := by
  refine (add_two_64 _ r d).trans (congrArg x (funext fun y => Fin.ext ?_))
  fin_cases y
  · show 0 + r.val = r.val; omega
  · show 64 * h.val + d.val = 64 * h.val + d.val; rfl

/-- The same of 128 columns. -/
theorem add_two_128 (x : Vec Ideal S256x128 .f32) (r : Fin 256) (d : Fin 128) :
    shapeCast S1x1x256x128 x shapeCasts_S256x128_S1x1x256x128 (ix4 (0 : Fin 1) (0 : Fin 1) r d) = x (ix2 r d) := by
  pointwise

/-- Head `h`'s stored columns, width 128. -/
theorem headCols_128 (x : Vec Ideal S256x2048 .f32) (h : Fin 16) (r : Fin 256) (d : Fin 128) :
    headCols 2048 128 rfl shapeCasts_S256x128_S1x1x256x128 x h (ix4 (0 : Fin 1) (0 : Fin 1) r d) = x (ix2 r (⟨128 * h.val + d.val, by omega⟩ : Fin 2048)) := by
  refine (add_two_128 _ r d).trans (congrArg x (funext fun y => Fin.ext ?_))
  fin_cases y
  · show 0 + r.val = r.val; omega
  · show 128 * h.val + d.val = 128 * h.val + d.val; rfl

/-- The same of one column. -/
theorem add_two_1 (x : Vec Ideal S256x1 .f32) (r : Fin 256) (d : Fin 1) :
    shapeCast S1x1x256x1 x shapeCasts_S256x1_S1x1x256x1 (ix4 (0 : Fin 1) (0 : Fin 1) r d) = x (ix2 r d) := by
  rw [Subsingleton.elim d 0]
  pointwise

/-- Head `h`'s stored columns, width 1. -/
theorem headCols_1 (x : Vec Ideal S256x16 .f32) (h : Fin 16) (r : Fin 256) (d : Fin 1) :
    headCols 16 1 rfl shapeCasts_S256x1_S1x1x256x1 x h (ix4 (0 : Fin 1) (0 : Fin 1) r d) = x (ix2 r (⟨1 * h.val + d.val, by omega⟩ : Fin 16)) := by
  refine (add_two_1 _ r d).trans (congrArg x (funext fun y => Fin.ext ?_))
  fin_cases y
  · show 0 + r.val = r.val; omega
  · show 1 * h.val + d.val = 1 * h.val + d.val; rfl

end Cert.KernelIdeal.Run

end
-- ==== Proof.KernelIdeal.ProjBlocks.lean ====
/- The projection call's arrays: the queries, keys and values of every time, their decays and write strengths. -/
module

public import proofs.«01_k».proof.Proof.KernelIdeal.ProjPieces
@[expose] public section

set_option maxRecDepth 16384

noncomputable section

namespace Cert.KernelIdeal.Run

open Cert.KernelIdeal Cert.KernelIdeal.Gen Cert.Layer
open Idealize.ShloMosaic Idealize.ShloMosaic.TcCoe Idealize.ShloMosaic.Tactic

/-- A vector of one row, and a matrix, as functions of their indices. -/
abbrev rowFn {N : ℕ} (x : (⟨2, ![1, N]⟩ : Shape).Idx → EReal) (n : Fin N) : EReal := x (ix2 (0 : Fin 1) n)
/-- A matrix as a function of row and column. -/
abbrev matFn {M N : ℕ} (x : (⟨2, ![M, N]⟩ : Shape).Idx → EReal) (m : Fin M) (n : Fin N) : EReal := x (ix2 m n)

/-- The time of row `r` of grid point `i`'s block. -/
def timeOf (i : grid0.Coords) (r : Fin 256) : Fin 2048 := ⟨256 * (i 2).val + r.val, by have h2 : (i 2).val < 8 := (i 2).isLt; omega⟩

/-- The time of row `r` of the block before it. -/
def timeBefore (i : grid0.Coords) (r : Fin 256) : Fin 2048 := ⟨256 * ((i 2).val - 1) + r.val, by have h2 : (i 2).val < 8 := (i 2).isLt; omega⟩

section
variable (i : grid0.Coords) (x0 : Vec Ideal S1x256x1024 .f32) (x1 : Vec Ideal S1x256x1024 .f32) (x2 : Vec Ideal S1024x1024 .bf16) (x3 : Vec Ideal S1024x1024 .bf16) (x4 : Vec Ideal S1024x2048 .bf16)
  (x5 : Vec Ideal S1x1024 .f32) (x6 : Vec Ideal S1x1024 .f32) (x7 : Vec Ideal S1x2048 .f32) (x8 : Vec Ideal S4x1024 .f32) (x9 : Vec Ideal S1x1024 .f32) (x10 : Vec Ideal S4x1024 .f32)
  (x11 : Vec Ideal S1x1024 .f32) (x12 : Vec Ideal S4x2048 .f32) (x13 : Vec Ideal S1x2048 .f32) (x14 x15 : Vec Ideal S1024x16 .bf16)

/-- The rows of one tap matrix, loaded one by one. -/
theorem taps_q (x : Vec Ideal S4x1024 .f32) :
    (![fun n => (View.ld x r0_3 : Vec Ideal S1x1024 .f32) (ix2 (0 : Fin 1) n), fun n => (View.ld x r0_4 : Vec Ideal S1x1024 .f32) (ix2 (0 : Fin 1) n),
      fun n => (View.ld x r0_5 : Vec Ideal S1x1024 .f32) (ix2 (0 : Fin 1) n), fun n => (View.ld x r0_6 : Vec Ideal S1x1024 .f32) (ix2 (0 : Fin 1) n)] : Fin 4 → Fin 1024 → EReal)
      = matFn x := by
  funext a n
  fin_cases a
  · show (View.ld x r0_3 : Vec Ideal S1x1024 .f32) (ix2 (0 : Fin 1) n) = x (ix2 (0 : Fin 4) n)
    pointwise
  · show (View.ld x r0_4 : Vec Ideal S1x1024 .f32) (ix2 (0 : Fin 1) n) = x (ix2 (1 : Fin 4) n)
    pointwise
  · show (View.ld x r0_5 : Vec Ideal S1x1024 .f32) (ix2 (0 : Fin 1) n) = x (ix2 (2 : Fin 4) n)
    pointwise
  · show (View.ld x r0_6 : Vec Ideal S1x1024 .f32) (ix2 (0 : Fin 1) n) = x (ix2 (3 : Fin 4) n)
    pointwise

/-- The four rows of the values' taps, loaded one by one. -/
theorem taps_v (x : Vec Ideal S4x2048 .f32) :
    (![fun n => (View.ld x r0_9 : Vec Ideal S1x2048 .f32) (ix2 (0 : Fin 1) n), fun n => (View.ld x r0_10 : Vec Ideal S1x2048 .f32) (ix2 (0 : Fin 1) n),
      fun n => (View.ld x r0_11 : Vec Ideal S1x2048 .f32) (ix2 (0 : Fin 1) n), fun n => (View.ld x r0_12 : Vec Ideal S1x2048 .f32) (ix2 (0 : Fin 1) n)] : Fin 4 → Fin 2048 → EReal)
      = matFn x := by
  funext a n
  fin_cases a
  · show (View.ld x r0_9 : Vec Ideal S1x2048 .f32) (ix2 (0 : Fin 1) n) = x (ix2 (0 : Fin 4) n)
    pointwise
  · show (View.ld x r0_10 : Vec Ideal S1x2048 .f32) (ix2 (0 : Fin 1) n) = x (ix2 (1 : Fin 4) n)
    pointwise
  · show (View.ld x r0_11 : Vec Ideal S1x2048 .f32) (ix2 (0 : Fin 1) n) = x (ix2 (2 : Fin 4) n)
    pointwise
  · show (View.ld x r0_12 : Vec Ideal S1x2048 .f32) (ix2 (0 : Fin 1) n) = x (ix2 (3 : Fin 4) n)
    pointwise

/-- A load of a whole block is the block. -/
theorem ldX (x : Vec Ideal S1x256x1024 .f32) : (View.ld x r0_0 : Vec Ideal S1x256x1024 .f32) = x := View.ld_unit_lit _ x (by intro a; fin_cases a <;> rfl)

/-- A load of a whole square matrix is the matrix. -/
theorem ldW (x : Vec Ideal S1024x1024 .bf16) : (View.ld x r0_1 : Vec Ideal S1024x1024 .bf16) = x := View.ld_unit_lit _ x (by intro a; fin_cases a <;> rfl)

/-- A load of a whole row is the row. -/
theorem ldR (x : Vec Ideal S1x1024 .f32) : (View.ld x r0_2 : Vec Ideal S1x1024 .f32) = x := View.ld_unit_lit _ x (by intro a; fin_cases a <;> rfl)

/-- The same of the values' matrix. -/
theorem ldWv (x : Vec Ideal S1024x2048 .bf16) : (View.ld x r0_7 : Vec Ideal S1024x2048 .bf16) = x := View.ld_unit_lit _ x (by intro a; fin_cases a <;> rfl)

/-- The same of the values' row. -/
theorem ldRv (x : Vec Ideal S1x2048 .f32) : (View.ld x r0_8 : Vec Ideal S1x2048 .f32) = x := View.ld_unit_lit _ x (by intro a; fin_cases a <;> rfl)

/-- The same of a gate's matrix. -/
theorem ldG (x : Vec Ideal S1024x16 .bf16) : (View.ld x r0_45 : Vec Ideal S1024x16 .bf16) = x := View.ld_unit_lit _ x (by intro a; fin_cases a <;> rfl)

section
variable (xt : Fin 2048 → Fin 1024 → EReal)
  (hx0 : ∀ (r : Fin 256) (d : Fin 1024), x0 (ix3 (0 : Fin 1) r d) = xt (timeOf i r) d)
  (hx1 : ∀ (r : Fin 256) (d : Fin 1024), x1 (ix3 (0 : Fin 1) r d) = xt (timeBefore i r) d)

include hx0 hx1 in
/-- The rows of a grid point are the input's rows from eight before its block. -/
theorem rows_time (R : Fin 264) (h : 8 ≤ 256 * (i 2).val + R.val) (d : Fin 1024) :
    k0_pay6 x0 x1 (ix2 R d) = xt ⟨256 * (i 2).val + R.val - 8, by have h2 : (i 2).val < 8 := (i 2).isLt; omega⟩ d := by
  rw [rows_apply]
  split
  · rw [hx1]
    exact congrArg (fun u => xt u d) (Fin.ext (show 256 * ((i 2).val - 1) + (248 + R.val) = 256 * (i 2).val + R.val - 8 by omega))
  · rw [hx0]
    exact congrArg (fun u => xt u d) (Fin.ext (show 256 * (i 2).val + (R.val - 8) = 256 * (i 2).val + R.val - 8 by omega))

include hx0 hx1 in
/-- The convolution of a grid point's rows is the whole sequence's, whatever the matrix. -/
theorem conv_time {N : ℕ} (cnt : EReal) (w : Fin 1024 → Fin N → EReal) (s : Fin N → EReal) (ck : Fin 4 → Fin N → EReal) (bias : Fin N → EReal) (r : Fin 256) (n : Fin N) :
    rowConv (fun R => maskedRow cnt (k0_pay7 (F := Ideal) i (ix2 R (0 : Fin 1))) (dotRow (fun d => k0_pay6 x0 x1 (ix2 R d)) w) s) ck bias r n
      = conv (fun t => normed cnt (dotRow (xt t) w) s) ck bias (timeOf i r) n := by
  refine rowConv_eq (i 2) (fun t => normed cnt (dotRow (xt t) w) s) _ (fun R n => ?_) ck bias r n
  refine maskedRow_eq cnt (i 2) (fun R => dotRow (fun d => k0_pay6 x0 x1 (ix2 R d)) w) (fun t => dotRow (xt t) w) (fun R => k0_pay7 (F := Ideal) i (ix2 R (0 : Fin 1))) s
    (fun R => valid_apply i R) (fun R h => ?_) R n
  exact congrArg (fun u => dotRow u w) (funext fun d => rows_time i x0 x1 xt hx0 hx1 R h d)

include hx0 hx1 in
/-- The first two projections of a grid point. -/
theorem branch_q (w : Vec Ideal S1024x1024 .bf16) (s b : Vec Ideal S1x1024 .f32) (ck : Vec Ideal S4x1024 .f32) (r : Fin 256) (n : Fin 1024) :
    k0_pay9 (k0_pay8 i x0 x1 w) s b (View.ld ck r0_3) (View.ld ck r0_4) (View.ld ck r0_5) (View.ld ck r0_6) (ix2 r n)
      = branch (Ideal.ofBits .f32 0x44800000#32) xt (matFn w) (rowFn s) (matFn ck) (rowFn b) (timeOf i r) n := by
  refine conv_q _ s b _ _ _ _ r n _ ?_
  rw [taps_q]
  refine (conv_time i x0 x1 xt hx0 hx1 (Ideal.ofBits .f32 0x44800000#32) (matFn w) (rowFn s) (matFn ck) (rowFn b) r n).symm.trans ?_
  exact congrArg (fun y => rowConv y (matFn ck) (rowFn b) r n) (funext fun R => funext fun n => congrArg (· * s (ix2 (0 : Fin 1) n)) (norm_rows i x0 x1 w R n _ rfl).symm)

include hx0 hx1 in
/-- The queries of a tile. -/
theorem q_rows (r : Fin 256) (n : Fin 1024) :
    k0_pay113 i x0 x1 x2 x3 x4 x5 x6 x7 x8 x9 x10 x11 x12 x13 x14 x15 (ix2 r n)
      = branch (Ideal.ofBits .f32 0x44800000#32) xt (matFn x2) (rowFn x5) (matFn x8) (rowFn x9) (timeOf i r) n := by
  rw [k0_pay113, ldX, ldX, ldW, ldR, ldR]
  exact branch_q i x0 x1 xt hx0 hx1 x2 x5 x9 x8 r n

include hx0 hx1 in
/-- The keys of a tile. -/
theorem k_rows (r : Fin 256) (n : Fin 1024) :
    k0_pay114 i x0 x1 x2 x3 x4 x5 x6 x7 x8 x9 x10 x11 x12 x13 x14 x15 (ix2 r n)
      = branch (Ideal.ofBits .f32 0x44800000#32) xt (matFn x3) (rowFn x6) (matFn x10) (rowFn x11) (timeOf i r) n := by
  rw [k0_pay114, k0_pay111, k0_pay112, ldX, ldX, ldW, ldR, ldR]
  refine (congrFun (kbranch_eq i x0 x1 x3 x6 x11 _ _ _ _) (ix2 r n)).trans ?_
  exact branch_q i x0 x1 xt hx0 hx1 x3 x6 x11 x10 r n

include hx0 hx1 in
/-- The values of a tile. -/
theorem v_rows (r : Fin 256) (n : Fin 2048) :
    k0_pay115 i x0 x1 x2 x3 x4 x5 x6 x7 x8 x9 x10 x11 x12 x13 x14 x15 (ix2 r n)
      = branch (Ideal.ofBits .f32 0x45000000#32) xt (matFn x4) (rowFn x7) (matFn x12) (rowFn x13) (timeOf i r) n := by
  rw [k0_pay115, k0_pay111, k0_pay112, ldX, ldX, ldWv, ldRv, ldRv]
  refine conv_v _ _ _ _ _ _ _ _ _ r n _ rfl _ ?_
  rw [taps_v]
  exact (conv_time i x0 x1 xt hx0 hx1 (Ideal.ofBits .f32 0x45000000#32) (matFn x4) (rowFn x7) (matFn x12) (rowFn x13) r n).symm

include hx0 hx1 in
/-- The block's own row, against a matrix. -/
theorem own_row {N : ℕ} (w : Fin 1024 → Fin N → EReal) (r : Fin 256) (n : Fin N) :
    dotRow (fun d => k0_pay6 x0 x1 (ix2 (⟨8 + r.val, by omega⟩ : Fin 264) d)) w n
      = dotRow (xt (timeOf i r)) w n := by
  refine congrArg (fun u => dotRow u w n) (funext fun d => ?_)
  rw [rows_time i x0 x1 xt hx0 hx1 ⟨8 + r.val, by omega⟩ (show 8 ≤ 256 * (i 2).val + (8 + r.val) by omega)]
  exact congrArg (fun u => xt u d) (Fin.ext (show 256 * (i 2).val + (8 + r.val) - 8 = 256 * (i 2).val + r.val by omega))

include hx0 hx1 in
/-- The write strengths of a tile. -/
theorem b_rows (r : Fin 256) (h : Fin 16) :
    k0_pay119 i x0 x1 x2 x3 x4 x5 x6 x7 x8 x9 x10 x11 x12 x13 x14 x15 (ix2 r h)
      = Ideal.logistic (dotRow (xt (timeOf i r)) (matFn x15) h) := by
  rw [k0_pay119, k0_pay111, ldX, ldX, ldG, be_apply]
  exact congrArg Ideal.logistic (own_row i x0 x1 xt hx0 hx1 (matFn x15) r h)

include hx0 hx1 in
/-- The sums of the logarithms of the decays within a chunk, where these are real. -/
theorem g_rows (l : Fin 2048 → Fin 16 → ℝ) (hl : ∀ t h, logDecay (dotRow (xt t) (matFn x14) h) = ((l t h : ℝ) : EReal)) (r : Fin 256) (h : Fin 16) :
    k0_pay124 i x0 x1 x2 x3 x4 x5 x6 x7 x8 x9 x10 x11 x12 x13 x14 x15 (ix2 r h)
      = ((∑ x : Fin 256, (if x.val ≤ r.val ∧ r.val / 64 = x.val / 64 then 1 else 0)
          * l (timeOf i x) h : ℝ) : EReal) := by
  refine cum_apply _ (fun x h => l (timeOf i x) h) (fun x h => ?_) r h
  rw [k0_pay118, k0_pay111, ldX, ldX, ldG, la_apply, own_row i x0 x1 xt hx0 hx1 (matFn x14) x h]
  exact hl _ _
end

/-- The queries are stored head by head. -/
theorem out0_16_stores : out0_16 i x0 x1 x2 x3 x4 x5 x6 x7 x8 x9 x10 x11 x12 x13 x14 x15
    = View.canon (storesOf 64 (headCols 1024 64 rfl shapeCasts_S256x64_S1x1x256x64 (k0_pay113 i x0 x1 x2 x3 x4 x5 x6 x7 x8 x9 x10 x11 x12 x13 x14 x15))) := by
  unfold out0_16
  refine congrArg View.canon ?_
  sl_kernel_rfl

/-- The keys are stored head by head. -/
theorem out0_17_stores : out0_17 i x0 x1 x2 x3 x4 x5 x6 x7 x8 x9 x10 x11 x12 x13 x14 x15
    = View.canon (storesOf 64 (headCols 1024 64 rfl shapeCasts_S256x64_S1x1x256x64 (k0_pay114 i x0 x1 x2 x3 x4 x5 x6 x7 x8 x9 x10 x11 x12 x13 x14 x15))) := by
  unfold out0_17
  refine congrArg View.canon ?_
  sl_kernel_rfl

/-- The values are stored head by head. -/
theorem out0_18_stores : out0_18 i x0 x1 x2 x3 x4 x5 x6 x7 x8 x9 x10 x11 x12 x13 x14 x15
    = View.canon (storesOf 128 (headCols 2048 128 rfl shapeCasts_S256x128_S1x1x256x128 (k0_pay115 i x0 x1 x2 x3 x4 x5 x6 x7 x8 x9 x10 x11 x12 x13 x14 x15))) := by
  unfold out0_18
  refine congrArg View.canon ?_
  sl_kernel_rfl

/-- The summed logarithms are stored head by head. -/
theorem out0_19_stores : out0_19 i x0 x1 x2 x3 x4 x5 x6 x7 x8 x9 x10 x11 x12 x13 x14 x15
    = View.canon (storesOf 1 (headCols 16 1 rfl shapeCasts_S256x1_S1x1x256x1 (k0_pay124 i x0 x1 x2 x3 x4 x5 x6 x7 x8 x9 x10 x11 x12 x13 x14 x15))) := by
  unfold out0_19
  refine congrArg View.canon ?_
  sl_kernel_rfl

/-- The write strengths are stored head by head. -/
theorem out0_20_stores : out0_20 i x0 x1 x2 x3 x4 x5 x6 x7 x8 x9 x10 x11 x12 x13 x14 x15
    = View.canon (storesOf 1 (headCols 16 1 rfl shapeCasts_S256x1_S1x1x256x1 (k0_pay119 i x0 x1 x2 x3 x4 x5 x6 x7 x8 x9 x10 x11 x12 x13 x14 x15))) := by
  unfold out0_20
  refine congrArg View.canon ?_
  sl_kernel_rfl

end

variable (V : (c : Dev nD) → (b : Ref sig .tc) → Buf (Elt Ideal) ((c : Thread nD τ).loc b))

/-- The batch of grid point `t`. -/
def pb (t : Fin cfg0.N) : Fin 4 := ⟨t.val / 8, by have := lt_of_lt_of_eq t.isLt (show cfg0.N = 32 from N_0); omega⟩

/-- The tile of a point. -/
theorem coord_time : ∀ t : Fin grid0.N, (grid0.coords t 2).val = t.val % 8 := by decide +kernel

/-- Window 2 is one block. -/
theorem index0_2 : ∀ (t : Fin grid0.N) (a), win0_2.index t a = 0 := by decide +kernel
/-- Window 3 is one block. -/
theorem index0_3 : ∀ (t : Fin grid0.N) (a), win0_3.index t a = 0 := by decide +kernel
/-- Window 4 is one block. -/
theorem index0_4 : ∀ (t : Fin grid0.N) (a), win0_4.index t a = 0 := by decide +kernel
/-- Window 5 is one block. -/
theorem index0_5 : ∀ (t : Fin grid0.N) (a), win0_5.index t a = 0 := by decide +kernel
/-- Window 6 is one block. -/
theorem index0_6 : ∀ (t : Fin grid0.N) (a), win0_6.index t a = 0 := by decide +kernel
/-- Window 7 is one block. -/
theorem index0_7 : ∀ (t : Fin grid0.N) (a), win0_7.index t a = 0 := by decide +kernel
/-- Window 8 is one block. -/
theorem index0_8 : ∀ (t : Fin grid0.N) (a), win0_8.index t a = 0 := by decide +kernel
/-- Window 9 is one block. -/
theorem index0_9 : ∀ (t : Fin grid0.N) (a), win0_9.index t a = 0 := by decide +kernel
/-- Window 10 is one block. -/
theorem index0_10 : ∀ (t : Fin grid0.N) (a), win0_10.index t a = 0 := by decide +kernel
/-- Window 11 is one block. -/
theorem index0_11 : ∀ (t : Fin grid0.N) (a), win0_11.index t a = 0 := by decide +kernel
/-- Window 12 is one block. -/
theorem index0_12 : ∀ (t : Fin grid0.N) (a), win0_12.index t a = 0 := by decide +kernel
/-- Window 13 is one block. -/
theorem index0_13 : ∀ (t : Fin grid0.N) (a), win0_13.index t a = 0 := by decide +kernel
/-- Window 14 is one block. -/
theorem index0_14 : ∀ (t : Fin grid0.N) (a), win0_14.index t a = 0 := by decide +kernel
/-- Window 15 is one block. -/
theorem index0_15 : ∀ (t : Fin grid0.N) (a), win0_15.index t a = 0 := by decide +kernel

/-- So its block is the whole of array 2. -/
theorem iblk0_2 (c : Dev nD) (t : Fin cfg0.N) : (iblk0 V c 2 t : Vec Ideal S1024x1024 .bf16) = V c main_v0 := by
  funext y
  unfold iblk0
  blk_simp
  exact congrArg (V c main_v0) (funext fun a => Fin.ext ((Pipeline.Window.rect_emb_val (w := win0_2) t _ a rfl).trans (by rw [index0_2, zero_mul, zero_add])))

/-- So its block is the whole of array 3. -/
theorem iblk0_3 (c : Dev nD) (t : Fin cfg0.N) : (iblk0 V c 3 t : Vec Ideal S1024x1024 .bf16) = V c main_v1 := by
  funext y
  unfold iblk0
  blk_simp
  exact congrArg (V c main_v1) (funext fun a => Fin.ext ((Pipeline.Window.rect_emb_val (w := win0_3) t _ a rfl).trans (by rw [index0_3, zero_mul, zero_add])))

/-- So its block is the whole of array 4. -/
theorem iblk0_4 (c : Dev nD) (t : Fin cfg0.N) : (iblk0 V c 4 t : Vec Ideal S1024x2048 .bf16) = V c main_v2 := by
  funext y
  unfold iblk0
  blk_simp
  exact congrArg (V c main_v2) (funext fun a => Fin.ext ((Pipeline.Window.rect_emb_val (w := win0_4) t _ a rfl).trans (by rw [index0_4, zero_mul, zero_add])))

/-- So its block is the whole of array 5. -/
theorem iblk0_5 (c : Dev nD) (t : Fin cfg0.N) : (iblk0 V c 5 t : Vec Ideal S1x1024 .f32) = V c main_v7 := by
  funext y
  unfold iblk0
  blk_simp
  exact congrArg (V c main_v7) (funext fun a => Fin.ext ((Pipeline.Window.rect_emb_val (w := win0_5) t _ a rfl).trans (by rw [index0_5, zero_mul, zero_add])))

/-- So its block is the whole of array 6. -/
theorem iblk0_6 (c : Dev nD) (t : Fin cfg0.N) : (iblk0 V c 6 t : Vec Ideal S1x1024 .f32) = V c main_v8 := by
  funext y
  unfold iblk0
  blk_simp
  exact congrArg (V c main_v8) (funext fun a => Fin.ext ((Pipeline.Window.rect_emb_val (w := win0_6) t _ a rfl).trans (by rw [index0_6, zero_mul, zero_add])))

/-- So its block is the whole of array 7. -/
theorem iblk0_7 (c : Dev nD) (t : Fin cfg0.N) : (iblk0 V c 7 t : Vec Ideal S1x2048 .f32) = V c main_v9 := by
  funext y
  unfold iblk0
  blk_simp
  exact congrArg (V c main_v9) (funext fun a => Fin.ext ((Pipeline.Window.rect_emb_val (w := win0_7) t _ a rfl).trans (by rw [index0_7, zero_mul, zero_add])))

/-- So its block is the whole of array 8. -/
theorem iblk0_8 (c : Dev nD) (t : Fin cfg0.N) : (iblk0 V c 8 t : Vec Ideal S4x1024 .f32) = V c main_arg7 := by
  funext y
  unfold iblk0
  blk_simp
  exact congrArg (V c main_arg7) (funext fun a => Fin.ext ((Pipeline.Window.rect_emb_val (w := win0_8) t _ a rfl).trans (by rw [index0_8, zero_mul, zero_add])))

/-- So its block is the whole of array 9. -/
theorem iblk0_9 (c : Dev nD) (t : Fin cfg0.N) : (iblk0 V c 9 t : Vec Ideal S1x1024 .f32) = V c main_v10 := by
  funext y
  unfold iblk0
  blk_simp
  exact congrArg (V c main_v10) (funext fun a => Fin.ext ((Pipeline.Window.rect_emb_val (w := win0_9) t _ a rfl).trans (by rw [index0_9, zero_mul, zero_add])))

/-- So its block is the whole of array 10. -/
theorem iblk0_10 (c : Dev nD) (t : Fin cfg0.N) : (iblk0 V c 10 t : Vec Ideal S4x1024 .f32) = V c main_arg9 := by
  funext y
  unfold iblk0
  blk_simp
  exact congrArg (V c main_arg9) (funext fun a => Fin.ext ((Pipeline.Window.rect_emb_val (w := win0_10) t _ a rfl).trans (by rw [index0_10, zero_mul, zero_add])))

/-- So its block is the whole of array 11. -/
theorem iblk0_11 (c : Dev nD) (t : Fin cfg0.N) : (iblk0 V c 11 t : Vec Ideal S1x1024 .f32) = V c main_v11 := by
  funext y
  unfold iblk0
  blk_simp
  exact congrArg (V c main_v11) (funext fun a => Fin.ext ((Pipeline.Window.rect_emb_val (w := win0_11) t _ a rfl).trans (by rw [index0_11, zero_mul, zero_add])))

/-- So its block is the whole of array 12. -/
theorem iblk0_12 (c : Dev nD) (t : Fin cfg0.N) : (iblk0 V c 12 t : Vec Ideal S4x2048 .f32) = V c main_arg11 := by
  funext y
  unfold iblk0
  blk_simp
  exact congrArg (V c main_arg11) (funext fun a => Fin.ext ((Pipeline.Window.rect_emb_val (w := win0_12) t _ a rfl).trans (by rw [index0_12, zero_mul, zero_add])))

/-- So its block is the whole of array 13. -/
theorem iblk0_13 (c : Dev nD) (t : Fin cfg0.N) : (iblk0 V c 13 t : Vec Ideal S1x2048 .f32) = V c main_v12 := by
  funext y
  unfold iblk0
  blk_simp
  exact congrArg (V c main_v12) (funext fun a => Fin.ext ((Pipeline.Window.rect_emb_val (w := win0_13) t _ a rfl).trans (by rw [index0_13, zero_mul, zero_add])))

/-- So its block is the whole of array 14. -/
theorem iblk0_14 (c : Dev nD) (t : Fin cfg0.N) : (iblk0 V c 14 t : Vec Ideal S1024x16 .bf16) = V c main_v3 := by
  funext y
  unfold iblk0
  blk_simp
  exact congrArg (V c main_v3) (funext fun a => Fin.ext ((Pipeline.Window.rect_emb_val (w := win0_14) t _ a rfl).trans (by rw [index0_14, zero_mul, zero_add])))

/-- So its block is the whole of array 15. -/
theorem iblk0_15 (c : Dev nD) (t : Fin cfg0.N) : (iblk0 V c 15 t : Vec Ideal S1024x16 .bf16) = V c main_v4 := by
  funext y
  unfold iblk0
  blk_simp
  exact congrArg (V c main_v4) (funext fun a => Fin.ext ((Pipeline.Window.rect_emb_val (w := win0_15) t _ a rfl).trans (by rw [index0_15, zero_mul, zero_add])))

/-- The input's block at each point. -/
theorem index0_0 : ∀ t : Fin grid0.N, win0_0.index t = ![t.val / 8, t.val % 8, 0] := by decide +kernel

/-- The input, read through its block. -/
theorem iblk0_0_apply (c : Dev nD) (t : Fin cfg0.N) (r : Fin 256) (d : Fin 1024) :
    (iblk0 V c 0 t : Vec Ideal S1x256x1024 .f32) (ix3 (0 : Fin 1) r d)
      = (V c main_arg0 : Vec Ideal S4x2048x1024 .f32) (ix3 (pb t) (timeOf (grid0.coords t) r) d) := by
  unfold iblk0
  blk_simp
  refine congrArg (V c main_arg0) (funext fun y => Fin.ext ?_)
  refine (Pipeline.Window.rect_emb_val (w := win0_0) t _ y rfl).trans ?_
  have h := coord_time t
  rw [index0_0]
  fin_cases y
  · show t.val / 8 * 1 + 0 = t.val / 8; omega
  · show (t.val % 8) * 256 + r.val = 256 * ((grid0.coords t 2).val) + r.val; omega
  · show 0 * 1024 + d.val = d.val; omega

/-- The block before it, at the first tile the same. -/
theorem index0_1 : ∀ t : Fin grid0.N, win0_1.index t = ![t.val / 8, t.val % 8 - 1, 0] := by decide +kernel

/-- The input, read through the block before. -/
theorem iblk0_1_apply (c : Dev nD) (t : Fin cfg0.N) (r : Fin 256) (d : Fin 1024) :
    (iblk0 V c 1 t : Vec Ideal S1x256x1024 .f32) (ix3 (0 : Fin 1) r d)
      = (V c main_arg0 : Vec Ideal S4x2048x1024 .f32) (ix3 (pb t) (timeBefore (grid0.coords t) r) d) := by
  unfold iblk0
  blk_simp
  refine congrArg (V c main_arg0) (funext fun y => Fin.ext ?_)
  refine (Pipeline.Window.rect_emb_val (w := win0_1) t _ y rfl).trans ?_
  have h := coord_time t
  rw [index0_1]
  fin_cases y
  · show t.val / 8 * 1 + 0 = t.val / 8; omega
  · show (t.val % 8 - 1) * 256 + r.val = 256 * ((grid0.coords t 2).val - 1) + r.val; omega
  · show 0 * 1024 + d.val = d.val; omega

end Cert.KernelIdeal.Run

end
-- ==== Proof.KernelIdeal.ProjValue.lean ====
/- The projection call's arrays: the queries, keys and values of every time, their decays and write strengths. -/
module

public import proofs.«01_k».proof.Proof.KernelIdeal.ProjBlocks
@[expose] public section

set_option maxRecDepth 16384

noncomputable section

namespace Cert.KernelIdeal.Run

open Cert.KernelIdeal Cert.KernelIdeal.Gen Cert.Layer
open Idealize.ShloMosaic Idealize.ShloMosaic.TcCoe Idealize.ShloMosaic.Tactic

/-- A value of every batch, time and column, laid out by heads of `W` columns. -/
def byHead (N W : ℕ) (hN : 16 * W = N) (f : Fin 4 → Fin 2048 → Fin N → EReal) : (⟨4, ![4, 16, 2048, W]⟩ : Shape).Idx → EReal := fun y =>
  f (y 0) (y 2) ⟨W * (y 1).val + (y 3).val, by
    have h1 : (y 1).val < 16 := (y 1).isLt
    have h3 : (y 3).val < W := (y 3).isLt
    have := Nat.mul_le_mul_left W (show (y 1).val + 1 ≤ 16 by omega)
    rw [Nat.mul_add, Nat.mul_one] at this
    omega⟩

variable (V : (c : Dev nD) → (b : Ref sig .tc) → Buf (Elt Ideal) ((c : Thread nD τ).loc b))

/-- The rows of one batch of the input. -/
def xOf (c : Dev nD) (b : Fin 4) (t : Fin 2048) (d : Fin 1024) : EReal := (V c main_arg0 : Vec Ideal S4x2048x1024 .f32) (ix3 b t d)

/-- The sums of `l` within each chunk of a tile. -/
def chunkSum (l : Fin 4 → Fin 2048 → Fin 16 → ℝ) (b : Fin 4) (t : Fin 2048) (h : Fin 16) : EReal :=
  ((∑ x : Fin 256, (if x.val ≤ t.val % 256 ∧ t.val % 256 / 64 = x.val / 64 then 1 else 0)
    * l b ⟨256 * (t.val / 256) + x.val, by omega⟩ h : ℝ) : EReal)

/-- The queries' block at each point. -/
theorem index0_16 : ∀ t : Fin grid0.N, win0_16.index t = ![t.val / 8, 0, t.val % 8, 0] := by decide +kernel

/-- Where an entry of the queries' block lies in their array. -/
theorem emb0_16 (t : Fin cfg0.N) (h : Fin 16) (r : Fin 256) (d : Fin 64) :
    (((cfg0.win 16).blk t).view.emb (ix4 (0 : Fin 1) h r d) : S4x16x2048x64.Idx) = ix4 (pb t) h (timeOf (grid0.coords t) r) d := by
  refine funext fun y => Fin.ext ?_
  refine (Pipeline.Window.rect_emb_val (w := win0_16) t _ y rfl).trans ?_
  have hc := coord_time t
  rw [index0_16]
  fin_cases y
  · show t.val / 8 * 1 + 0 = t.val / 8; omega
  · show 0 * 16 + h.val = h.val; omega
  · show t.val % 8 * 256 + r.val = 256 * (grid0.coords t 2).val + r.val; omega
  · show 0 * 64 + d.val = d.val; omega

/-- What grid point `t` stores there, row by row. -/
theorem q_block (c : Dev nD) (t : Fin cfg0.N) (h : Fin 16) (r : Fin 256) (d : Fin 64) :
    (out0_16 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) : Vec Ideal S1x16x256x64 .f32) (ix4 (0 : Fin 1) h r d)
      = byHead 1024 64 rfl (fun b t n => branch (Ideal.ofBits .f32 0x44800000#32) (xOf V c b) (matFn (V c main_v0 : Vec Ideal S1024x1024 .bf16)) (rowFn (V c main_v7 : Vec Ideal S1x1024 .f32)) (matFn (V c main_arg7 : Vec Ideal S4x1024 .f32)) (rowFn (V c main_v10 : Vec Ideal S1x1024 .f32)) t n) (ix4 (pb t) h (timeOf (grid0.coords t) r) d) := by
  refine (congrFun (out0_16_stores _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)) _).trans ?_
  refine (canon_stores 64 _ h r d).trans ((headCols_64 _ h r d).trans ?_)
  refine (q_rows _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (xOf V c (pb t)) (iblk0_0_apply V c t) (iblk0_1_apply V c t) r _).trans ?_
  rw [iblk0_2, iblk0_5, iblk0_8, iblk0_9]
  rfl

/-- The projection call leaves the queries. -/
theorem q_value (c : Dev nD) :
    (dat0 V c).arrAt 16 cfg0.N = byHead 1024 64 rfl (fun b t n => branch (Ideal.ofBits .f32 0x44800000#32) (xOf V c b) (matFn (V c main_v0 : Vec Ideal S1024x1024 .bf16)) (rowFn (V c main_v7 : Vec Ideal S1x1024 .f32)) (matFn (V c main_arg7 : Vec Ideal S4x1024 .f32)) (rowFn (V c main_v10 : Vec Ideal S1x1024 .f32)) t n) := by
  refine (dat0 V c).arrAt_eq_of_covers 16 _ (by decide +kernel) fun t hf y => ?_
  have hy : y = (ix4 (0 : Fin 1) (y 1) (y 2) (y 3) : S1x16x256x64.Idx) := funext fun a => by
    fin_cases a
    · exact Subsingleton.elim (α := Fin 1) _ _
    · rfl
    · rfl
    · rfl
  rw [hy]
  generalize y 1 = h, y 2 = r, y 3 = d
  blk_simp
  rw [after0_16]
  exact (q_block V c t h r d).trans (congrArg (byHead 1024 64 rfl (fun b t n => branch (Ideal.ofBits .f32 0x44800000#32) (xOf V c b) (matFn (V c main_v0 : Vec Ideal S1024x1024 .bf16)) (rowFn (V c main_v7 : Vec Ideal S1x1024 .f32)) (matFn (V c main_arg7 : Vec Ideal S4x1024 .f32)) (rowFn (V c main_v10 : Vec Ideal S1x1024 .f32)) t n)) (emb0_16 t h r d)).symm

/-- The keys' block at each point. -/
theorem index0_17 : ∀ t : Fin grid0.N, win0_17.index t = ![t.val / 8, 0, t.val % 8, 0] := by decide +kernel

/-- Where an entry of the keys' block lies in their array. -/
theorem emb0_17 (t : Fin cfg0.N) (h : Fin 16) (r : Fin 256) (d : Fin 64) :
    (((cfg0.win 17).blk t).view.emb (ix4 (0 : Fin 1) h r d) : S4x16x2048x64.Idx) = ix4 (pb t) h (timeOf (grid0.coords t) r) d := by
  refine funext fun y => Fin.ext ?_
  refine (Pipeline.Window.rect_emb_val (w := win0_17) t _ y rfl).trans ?_
  have hc := coord_time t
  rw [index0_17]
  fin_cases y
  · show t.val / 8 * 1 + 0 = t.val / 8; omega
  · show 0 * 16 + h.val = h.val; omega
  · show t.val % 8 * 256 + r.val = 256 * (grid0.coords t 2).val + r.val; omega
  · show 0 * 64 + d.val = d.val; omega

/-- What grid point `t` stores there, row by row. -/
theorem k_block (c : Dev nD) (t : Fin cfg0.N) (h : Fin 16) (r : Fin 256) (d : Fin 64) :
    (out0_17 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) : Vec Ideal S1x16x256x64 .f32) (ix4 (0 : Fin 1) h r d)
      = byHead 1024 64 rfl (fun b t n => branch (Ideal.ofBits .f32 0x44800000#32) (xOf V c b) (matFn (V c main_v1 : Vec Ideal S1024x1024 .bf16)) (rowFn (V c main_v8 : Vec Ideal S1x1024 .f32)) (matFn (V c main_arg9 : Vec Ideal S4x1024 .f32)) (rowFn (V c main_v11 : Vec Ideal S1x1024 .f32)) t n) (ix4 (pb t) h (timeOf (grid0.coords t) r) d) := by
  refine (congrFun (out0_17_stores _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)) _).trans ?_
  refine (canon_stores 64 _ h r d).trans ((headCols_64 _ h r d).trans ?_)
  refine (k_rows _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (xOf V c (pb t)) (iblk0_0_apply V c t) (iblk0_1_apply V c t) r _).trans ?_
  rw [iblk0_3, iblk0_6, iblk0_10, iblk0_11]
  rfl

/-- It leaves the keys. -/
theorem k_value (c : Dev nD) :
    (dat0 V c).arrAt 17 cfg0.N = byHead 1024 64 rfl (fun b t n => branch (Ideal.ofBits .f32 0x44800000#32) (xOf V c b) (matFn (V c main_v1 : Vec Ideal S1024x1024 .bf16)) (rowFn (V c main_v8 : Vec Ideal S1x1024 .f32)) (matFn (V c main_arg9 : Vec Ideal S4x1024 .f32)) (rowFn (V c main_v11 : Vec Ideal S1x1024 .f32)) t n) := by
  refine (dat0 V c).arrAt_eq_of_covers 17 _ (by decide +kernel) fun t hf y => ?_
  have hy : y = (ix4 (0 : Fin 1) (y 1) (y 2) (y 3) : S1x16x256x64.Idx) := funext fun a => by
    fin_cases a
    · exact Subsingleton.elim (α := Fin 1) _ _
    · rfl
    · rfl
    · rfl
  rw [hy]
  generalize y 1 = h, y 2 = r, y 3 = d
  blk_simp
  rw [after0_17]
  exact (k_block V c t h r d).trans (congrArg (byHead 1024 64 rfl (fun b t n => branch (Ideal.ofBits .f32 0x44800000#32) (xOf V c b) (matFn (V c main_v1 : Vec Ideal S1024x1024 .bf16)) (rowFn (V c main_v8 : Vec Ideal S1x1024 .f32)) (matFn (V c main_arg9 : Vec Ideal S4x1024 .f32)) (rowFn (V c main_v11 : Vec Ideal S1x1024 .f32)) t n)) (emb0_17 t h r d)).symm

/-- The values' block at each point. -/
theorem index0_18 : ∀ t : Fin grid0.N, win0_18.index t = ![t.val / 8, 0, t.val % 8, 0] := by decide +kernel

/-- Where an entry of the values' block lies in their array. -/
theorem emb0_18 (t : Fin cfg0.N) (h : Fin 16) (r : Fin 256) (d : Fin 128) :
    (((cfg0.win 18).blk t).view.emb (ix4 (0 : Fin 1) h r d) : S4x16x2048x128.Idx) = ix4 (pb t) h (timeOf (grid0.coords t) r) d := by
  refine funext fun y => Fin.ext ?_
  refine (Pipeline.Window.rect_emb_val (w := win0_18) t _ y rfl).trans ?_
  have hc := coord_time t
  rw [index0_18]
  fin_cases y
  · show t.val / 8 * 1 + 0 = t.val / 8; omega
  · show 0 * 16 + h.val = h.val; omega
  · show t.val % 8 * 256 + r.val = 256 * (grid0.coords t 2).val + r.val; omega
  · show 0 * 128 + d.val = d.val; omega

/-- What grid point `t` stores there, row by row. -/
theorem v_block (c : Dev nD) (t : Fin cfg0.N) (h : Fin 16) (r : Fin 256) (d : Fin 128) :
    (out0_18 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) : Vec Ideal S1x16x256x128 .f32) (ix4 (0 : Fin 1) h r d)
      = byHead 2048 128 rfl (fun b t n => branch (Ideal.ofBits .f32 0x45000000#32) (xOf V c b) (matFn (V c main_v2 : Vec Ideal S1024x2048 .bf16)) (rowFn (V c main_v9 : Vec Ideal S1x2048 .f32)) (matFn (V c main_arg11 : Vec Ideal S4x2048 .f32)) (rowFn (V c main_v12 : Vec Ideal S1x2048 .f32)) t n) (ix4 (pb t) h (timeOf (grid0.coords t) r) d) := by
  refine (congrFun (out0_18_stores _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)) _).trans ?_
  refine (canon_stores 128 _ h r d).trans ((headCols_128 _ h r d).trans ?_)
  refine (v_rows _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (xOf V c (pb t)) (iblk0_0_apply V c t) (iblk0_1_apply V c t) r _).trans ?_
  rw [iblk0_4, iblk0_7, iblk0_12, iblk0_13]
  rfl

/-- It leaves the values. -/
theorem v_value (c : Dev nD) :
    (dat0 V c).arrAt 18 cfg0.N = byHead 2048 128 rfl (fun b t n => branch (Ideal.ofBits .f32 0x45000000#32) (xOf V c b) (matFn (V c main_v2 : Vec Ideal S1024x2048 .bf16)) (rowFn (V c main_v9 : Vec Ideal S1x2048 .f32)) (matFn (V c main_arg11 : Vec Ideal S4x2048 .f32)) (rowFn (V c main_v12 : Vec Ideal S1x2048 .f32)) t n) := by
  refine (dat0 V c).arrAt_eq_of_covers 18 _ (by decide +kernel) fun t hf y => ?_
  have hy : y = (ix4 (0 : Fin 1) (y 1) (y 2) (y 3) : S1x16x256x128.Idx) := funext fun a => by
    fin_cases a
    · exact Subsingleton.elim (α := Fin 1) _ _
    · rfl
    · rfl
    · rfl
  rw [hy]
  generalize y 1 = h, y 2 = r, y 3 = d
  blk_simp
  rw [after0_18]
  exact (v_block V c t h r d).trans (congrArg (byHead 2048 128 rfl (fun b t n => branch (Ideal.ofBits .f32 0x45000000#32) (xOf V c b) (matFn (V c main_v2 : Vec Ideal S1024x2048 .bf16)) (rowFn (V c main_v9 : Vec Ideal S1x2048 .f32)) (matFn (V c main_arg11 : Vec Ideal S4x2048 .f32)) (rowFn (V c main_v12 : Vec Ideal S1x2048 .f32)) t n)) (emb0_18 t h r d)).symm

/-- The write strengths' block at each point. -/
theorem index0_20 : ∀ t : Fin grid0.N, win0_20.index t = ![t.val / 8, 0, t.val % 8, 0] := by decide +kernel

/-- Where an entry of the write strengths' block lies in their array. -/
theorem emb0_20 (t : Fin cfg0.N) (h : Fin 16) (r : Fin 256) (d : Fin 1) :
    (((cfg0.win 20).blk t).view.emb (ix4 (0 : Fin 1) h r d) : S4x16x2048x1.Idx) = ix4 (pb t) h (timeOf (grid0.coords t) r) d := by
  refine funext fun y => Fin.ext ?_
  refine (Pipeline.Window.rect_emb_val (w := win0_20) t _ y rfl).trans ?_
  have hc := coord_time t
  rw [index0_20]
  fin_cases y
  · show t.val / 8 * 1 + 0 = t.val / 8; omega
  · show 0 * 16 + h.val = h.val; omega
  · show t.val % 8 * 256 + r.val = 256 * (grid0.coords t 2).val + r.val; omega
  · show 0 * 1 + d.val = d.val; omega

/-- What grid point `t` stores there, row by row. -/
theorem b_block (c : Dev nD) (t : Fin cfg0.N) (h : Fin 16) (r : Fin 256) (d : Fin 1) :
    (out0_20 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) : Vec Ideal S1x16x256x1 .f32) (ix4 (0 : Fin 1) h r d)
      = byHead 16 1 rfl (fun b t n => Ideal.logistic (dotRow (xOf V c b t) (matFn (V c main_v4 : Vec Ideal S1024x16 .bf16)) n)) (ix4 (pb t) h (timeOf (grid0.coords t) r) d) := by
  refine (congrFun (out0_20_stores _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)) _).trans ?_
  refine (canon_stores 1 _ h r d).trans ((headCols_1 _ h r d).trans ?_)
  refine (b_rows _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (xOf V c (pb t)) (iblk0_0_apply V c t) (iblk0_1_apply V c t) r _).trans ?_
  rw [iblk0_15]
  rfl

/-- It leaves the write strengths. -/
theorem b_value (c : Dev nD) :
    (dat0 V c).arrAt 20 cfg0.N = byHead 16 1 rfl (fun b t n => Ideal.logistic (dotRow (xOf V c b t) (matFn (V c main_v4 : Vec Ideal S1024x16 .bf16)) n)) := by
  refine (dat0 V c).arrAt_eq_of_covers 20 _ (by decide +kernel) fun t hf y => ?_
  have hy : y = (ix4 (0 : Fin 1) (y 1) (y 2) (y 3) : S1x16x256x1.Idx) := funext fun a => by
    fin_cases a
    · exact Subsingleton.elim (α := Fin 1) _ _
    · rfl
    · rfl
    · rfl
  rw [hy]
  generalize y 1 = h, y 2 = r, y 3 = d
  blk_simp
  rw [after0_20]
  exact (b_block V c t h r d).trans (congrArg (byHead 16 1 rfl (fun b t n => Ideal.logistic (dotRow (xOf V c b t) (matFn (V c main_v4 : Vec Ideal S1024x16 .bf16)) n))) (emb0_20 t h r d)).symm

/-- The summed logarithms' block at each point. -/
theorem index0_19 : ∀ t : Fin grid0.N, win0_19.index t = ![t.val / 8, 0, t.val % 8, 0] := by decide +kernel

/-- Where an entry of the summed logarithms' block lies in their array. -/
theorem emb0_19 (t : Fin cfg0.N) (h : Fin 16) (r : Fin 256) (d : Fin 1) :
    (((cfg0.win 19).blk t).view.emb (ix4 (0 : Fin 1) h r d) : S4x16x2048x1.Idx) = ix4 (pb t) h (timeOf (grid0.coords t) r) d := by
  refine funext fun y => Fin.ext ?_
  refine (Pipeline.Window.rect_emb_val (w := win0_19) t _ y rfl).trans ?_
  have hc := coord_time t
  rw [index0_19]
  fin_cases y
  · show t.val / 8 * 1 + 0 = t.val / 8; omega
  · show 0 * 16 + h.val = h.val; omega
  · show t.val % 8 * 256 + r.val = 256 * (grid0.coords t 2).val + r.val; omega
  · show 0 * 1 + d.val = d.val; omega

/-- What grid point `t` stores there, row by row. -/
theorem g_block (c : Dev nD) (l : Fin 4 → Fin 2048 → Fin 16 → ℝ)
    (hl : ∀ b t h, logDecay (dotRow (xOf V c b t) (matFn (V c main_v3 : Vec Ideal S1024x16 .bf16)) h) = ((l b t h : ℝ) : EReal)) (t : Fin cfg0.N) (h : Fin 16) (r : Fin 256) (d : Fin 1) :
    (out0_19 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) : Vec Ideal S1x16x256x1 .f32) (ix4 (0 : Fin 1) h r d)
      = byHead 16 1 rfl (fun b t n => chunkSum l b t n) (ix4 (pb t) h (timeOf (grid0.coords t) r) d) := by
  refine (congrFun (out0_19_stores _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)) _).trans ?_
  refine (canon_stores 1 _ h r d).trans ((headCols_1 _ h r d).trans ?_)
  refine (g_rows _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (xOf V c (pb t)) (iblk0_0_apply V c t) (iblk0_1_apply V c t) (l (pb t)) (fun t' h => by rw [iblk0_14]; exact hl _ _ _) r _).trans ?_
  refine congrArg (fun z : ℝ => (z : EReal)) (Finset.sum_congr rfl fun x _ => ?_)
  have e1 : (timeOf (grid0.coords t) r).val % 256 = r.val := by
    show (256 * (grid0.coords t 2).val + r.val) % 256 = r.val
    omega
  have e2 : (timeOf (grid0.coords t) r).val / 256 = (grid0.coords t 2).val := by
    show (256 * (grid0.coords t 2).val + r.val) / 256 = (grid0.coords t 2).val
    omega
  show _ = (if x.val ≤ (timeOf (grid0.coords t) r).val % 256 ∧ (timeOf (grid0.coords t) r).val % 256 / 64 = x.val / 64 then (1 : ℝ) else 0) * l (pb t) _ _
  rw [e1]
  refine congrArg₂ (· * ·) rfl (congrArg₂ (l (pb t)) (Fin.ext ?_) rfl)
  show 256 * (grid0.coords t 2).val + x.val = 256 * ((timeOf (grid0.coords t) r).val / 256) + x.val
  rw [e2]

/-- It leaves the logarithms of the decays summed within each chunk. -/
theorem g_value (c : Dev nD) (l : Fin 4 → Fin 2048 → Fin 16 → ℝ)
    (hl : ∀ b t h, logDecay (dotRow (xOf V c b t) (matFn (V c main_v3 : Vec Ideal S1024x16 .bf16)) h) = ((l b t h : ℝ) : EReal)) :
    (dat0 V c).arrAt 19 cfg0.N = byHead 16 1 rfl (fun b t n => chunkSum l b t n) := by
  refine (dat0 V c).arrAt_eq_of_covers 19 _ (by decide +kernel) fun t hf y => ?_
  have hy : y = (ix4 (0 : Fin 1) (y 1) (y 2) (y 3) : S1x16x256x1.Idx) := funext fun a => by
    fin_cases a
    · exact Subsingleton.elim (α := Fin 1) _ _
    · rfl
    · rfl
    · rfl
  rw [hy]
  generalize y 1 = h, y 2 = r, y 3 = d
  blk_simp
  rw [after0_19]
  exact (g_block V c l hl t h r d).trans (congrArg (byHead 16 1 rfl (fun b t n => chunkSum l b t n)) (emb0_19 t h r d)).symm

end Cert.KernelIdeal.Run

end
-- ==== Proof.KernelIdeal.HeadPieces.lean ====
/- The pieces the scan body stores, head by head, and what they leave. -/
module

public import proofs.«01_k».proof.Proof.KernelIdeal.Head
public import proofs.«01_k».proof.Proof.KernelIdeal.Region1
public import Idealize.ShloMosaic.Lib.Pipeline.ValueKit
public import Idealize.ShloMosaic.Lib.Pipeline.ValueKit.Stack
public import Idealize.ShloMosaic.Lib.Pipeline.CanonAppend
public import Idealize.ShloMosaic.Lib.Pipeline.ReadBack
public import Idealize.ShloMosaic.Lib.WholeRead
@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zeros stored over the whole state at a sequence's first chunk. -/
def fillP : View.Piece (Elt F) S32x64x128 .f32 :=
  ⟨Rect.unit (s := S32x64x128) ![0, 0, 0] S32x64x128.size inb_S32x64x128_S32x64x128_0_0_0, k1_pay7⟩

/-- A load through a whole memref's view reads its contents at the rectangle. -/
theorem readAt_ld {s : Shape} (m : Memref sig .tc .vmem s .f32) (hm : m.IsWhole) (x : Vec F s .f32) (r : Rect s) :
    View.readAt (Elt F) m.view r.toLoadRect (hm.unread x) = View.ld x r :=
  funext fun y => hm.readAt_unread x r.toLoadRect y

/-- Every place of the stack lies in its head's block. -/
theorem pieces_cover (f : Fin 32 → FVec F S64x128 .f32) (y : S32x64x128.Idx) : ∃ p ∈ piecesOf f, y ∈ p.1.set := by
  have h0 : (y 0).val < 32 := (y 0).isLt
  have h1 : (y 1).val < 64 := (y 1).isLt
  have h2 : (y 2).val < 128 := (y 2).isLt
  refine ⟨_, List.mem_ofFn.mpr ⟨rev ⟨(y 0).val, h0⟩, rfl⟩, ?_⟩
  refine (Rect.mem_set_unit (inb := inbH (rev (rev ⟨(y 0).val, h0⟩)))).mpr fun a => ?_
  fin_cases a
  · show 31 - (31 - (y 0).val) ≤ (y 0).val ∧ (y 0).val < 31 - (31 - (y 0).val) + 1; omega
  · show 0 ≤ (y 1).val ∧ (y 1).val < 0 + 64; omega
  · show 0 ≤ (y 2).val ∧ (y 2).val < 0 + 128; omega

/-- The stores of 32 heads' blocks, over whatever was stored before, leave the stack of the blocks. -/
theorem canon_pieces (f : Fin 32 → FVec F S64x128 .f32) (L : List (View.Piece (Elt F) S32x64x128 .f32)) :
    View.canon (piecesOf f ++ L) = stackAlong0 f := by
  funext y
  refine View.canon_append_of_pieces (stackAlong0 f) L (piecesOf f) ?_ y (pieces_cover f y)
  intro p hp x
  obtain ⟨n, rfl⟩ := List.mem_ofFn.mp hp
  exact stack_piece_emb f (rev n) shapeCasts_S64x128_S1x64x128 _ (inbH (rev n)) rfl (by intro a; fin_cases a <;> rfl) x

/-- The zeros read back. -/
theorem fill_ld (v : View sig .tc .vmem S32x64x128 .f32) (h : Fin 32) :
    v.readCov [fillP (F := F)] (rectH 64 128 h).toLoadRect = View.ld (k1_pay7 (F := F)) (rectH 64 128 h) :=
  View.readCov_fill v _ _ [] _ (by intro a; fin_cases a <;> rfl)

set_option maxHeartbeats 4000000 in
/-- At a later chunk the body stores each head's output. -/
theorem piecesO_B (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : ¬cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (xs0 : Vec F S32x64x128 .f32)  :
    (kernelRun1_B c i arg2 harg2 arg3 harg3 arg4 harg4 arg5 harg5 arg6 harg6 arg7 harg7 arg8 harg8 arg9 harg9 arg10 harg10 hc0 x0 x1 x2 x3 x4 x5 x6 xs0).1 = piecesOf fun h => headO
      (shapeCast S64x64 (View.readAt (Elt F) arg2.view (rectH 64 64 h).toLoadRect (harg2.unread x0)) shapeCasts_S1x64x64_S64x64)
      (shapeCast S64x64 (View.readAt (Elt F) arg3.view (rectH 64 64 h).toLoadRect (harg3.unread x1)) shapeCasts_S1x64x64_S64x64)
      (shapeCast S64x128 (View.readAt (Elt F) arg4.view (rectH 64 128 h).toLoadRect (harg4.unread x2)) shapeCasts_S1x64x128_S64x128)
      (shapeCast S64x1 (View.readAt (Elt F) arg5.view (rectH 64 1 h).toLoadRect (harg5.unread x3)) shapeCasts_S1x64x1_S64x1)
      (shapeCast S64x1 (View.readAt (Elt F) arg6.view (rectH 64 1 h).toLoadRect (harg6.unread x4)) shapeCasts_S1x64x1_S64x1)
      (shapeCast S1x64 (View.readAt (Elt F) arg7.view (rectG i h).toLoadRect (harg7.unread x5)) shapeCasts_S1x1x64_S1x64)
      (shapeCast S64x128 (View.readAt (Elt F) arg10.view (rectH 64 128 h).toLoadRect (harg10.unread xs0)) shapeCasts_S1x64x128_S64x128) := by
  sl_kernel_rfl

set_option maxHeartbeats 4000000 in
/-- At a later chunk the body stores each head's next state. -/
theorem piecesS_B (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : ¬cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (xs0 : Vec F S32x64x128 .f32)  :
    (kernelRun1_B c i arg2 harg2 arg3 harg3 arg4 harg4 arg5 harg5 arg6 harg6 arg7 harg7 arg8 harg8 arg9 harg9 arg10 harg10 hc0 x0 x1 x2 x3 x4 x5 x6 xs0).2.1 = piecesOf fun h => headS
      (shapeCast S64x64 (View.readAt (Elt F) arg2.view (rectH 64 64 h).toLoadRect (harg2.unread x0)) shapeCasts_S1x64x64_S64x64)
      (shapeCast S64x64 (View.readAt (Elt F) arg3.view (rectH 64 64 h).toLoadRect (harg3.unread x1)) shapeCasts_S1x64x64_S64x64)
      (shapeCast S64x128 (View.readAt (Elt F) arg4.view (rectH 64 128 h).toLoadRect (harg4.unread x2)) shapeCasts_S1x64x128_S64x128)
      (shapeCast S64x1 (View.readAt (Elt F) arg5.view (rectH 64 1 h).toLoadRect (harg5.unread x3)) shapeCasts_S1x64x1_S64x1)
      (shapeCast S64x1 (View.readAt (Elt F) arg6.view (rectH 64 1 h).toLoadRect (harg6.unread x4)) shapeCasts_S1x64x1_S64x1)
      (shapeCast S1x64 (View.readAt (Elt F) arg7.view (rectG i h).toLoadRect (harg7.unread x5)) shapeCasts_S1x1x64_S1x64)
      (shapeCast S64x128 (View.readAt (Elt F) arg10.view (rectH 64 128 h).toLoadRect (harg10.unread xs0)) shapeCasts_S1x64x128_S64x128) := by
  sl_kernel_rfl

set_option maxHeartbeats 4000000 in
/-- At a first chunk the body stores each head's output, from a zero state. -/
theorem piecesO_A (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32)  :
    (kernelRun1_A c i arg2 harg2 arg3 harg3 arg4 harg4 arg5 harg5 arg6 harg6 arg7 harg7 arg8 harg8 arg9 harg9 arg10 harg10 hc0 x0 x1 x2 x3 x4 x5 x6).1 = piecesOf fun h => headO
      (shapeCast S64x64 (View.readAt (Elt F) arg2.view (rectH 64 64 h).toLoadRect (harg2.unread x0)) shapeCasts_S1x64x64_S64x64)
      (shapeCast S64x64 (View.readAt (Elt F) arg3.view (rectH 64 64 h).toLoadRect (harg3.unread x1)) shapeCasts_S1x64x64_S64x64)
      (shapeCast S64x128 (View.readAt (Elt F) arg4.view (rectH 64 128 h).toLoadRect (harg4.unread x2)) shapeCasts_S1x64x128_S64x128)
      (shapeCast S64x1 (View.readAt (Elt F) arg5.view (rectH 64 1 h).toLoadRect (harg5.unread x3)) shapeCasts_S1x64x1_S64x1)
      (shapeCast S64x1 (View.readAt (Elt F) arg6.view (rectH 64 1 h).toLoadRect (harg6.unread x4)) shapeCasts_S1x64x1_S64x1)
      (shapeCast S1x64 (View.readAt (Elt F) arg7.view (rectG i h).toLoadRect (harg7.unread x5)) shapeCasts_S1x1x64_S1x64)
      (shapeCast S64x128 (arg10.view.readCov [fillP] (rectH 64 128 h).toLoadRect) shapeCasts_S1x64x128_S64x128) := by
  sl_kernel_rfl

set_option maxHeartbeats 4000000 in
/-- At a first chunk the body stores each head's next state, over the zeros. -/
theorem piecesS_A (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32)  :
    (kernelRun1_A c i arg2 harg2 arg3 harg3 arg4 harg4 arg5 harg5 arg6 harg6 arg7 harg7 arg8 harg8 arg9 harg9 arg10 harg10 hc0 x0 x1 x2 x3 x4 x5 x6).2.1 = piecesOf (fun h => headS
      (shapeCast S64x64 (View.readAt (Elt F) arg2.view (rectH 64 64 h).toLoadRect (harg2.unread x0)) shapeCasts_S1x64x64_S64x64)
      (shapeCast S64x64 (View.readAt (Elt F) arg3.view (rectH 64 64 h).toLoadRect (harg3.unread x1)) shapeCasts_S1x64x64_S64x64)
      (shapeCast S64x128 (View.readAt (Elt F) arg4.view (rectH 64 128 h).toLoadRect (harg4.unread x2)) shapeCasts_S1x64x128_S64x128)
      (shapeCast S64x1 (View.readAt (Elt F) arg5.view (rectH 64 1 h).toLoadRect (harg5.unread x3)) shapeCasts_S1x64x1_S64x1)
      (shapeCast S64x1 (View.readAt (Elt F) arg6.view (rectH 64 1 h).toLoadRect (harg6.unread x4)) shapeCasts_S1x64x1_S64x1)
      (shapeCast S1x64 (View.readAt (Elt F) arg7.view (rectG i h).toLoadRect (harg7.unread x5)) shapeCasts_S1x1x64_S1x64)
      (shapeCast S64x128 (arg10.view.readCov [fillP] (rectH 64 128 h).toLoadRect) shapeCasts_S1x64x128_S64x128)) ++ [fillP] := by
  sl_kernel_rfl

/-- What a later chunk leaves in the output block. -/
theorem out1_B_eq (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : ¬cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (xs0 : Vec F S32x64x128 .f32)  :
    out1_B_7 c i arg2 harg2 arg3 harg3 arg4 harg4 arg5 harg5 arg6 harg6 arg7 harg7 arg8 harg8 arg9 harg9 arg10 harg10 hc0 x0 x1 x2 x3 x4 x5 x6 xs0 = stackAlong0 fun h => outH i x0 x1 x2 x3 x4 x5 (View.ld xs0 (rectH 64 128 h)) h := by
  unfold out1_B_7
  rw [View.read_writes_junk_eq_canon, piecesO_B]
  rw [← List.append_nil (piecesOf _), canon_pieces]
  simp only [readAt_ld, fill_ld]
  rfl

/-- What a later chunk leaves in the state. -/
theorem sout1_B_eq (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : ¬cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32) (xs0 : Vec F S32x64x128 .f32)  :
    sout1_B_0 c i arg2 harg2 arg3 harg3 arg4 harg4 arg5 harg5 arg6 harg6 arg7 harg7 arg8 harg8 arg9 harg9 arg10 harg10 hc0 x0 x1 x2 x3 x4 x5 x6 xs0 = stackAlong0 fun h => stateH i x0 x1 x2 x3 x4 x5 (View.ld xs0 (rectH 64 128 h)) h := by
  unfold sout1_B_0
  rw [View.read_writes_junk_eq_canon, piecesS_B]
  rw [← List.append_nil (piecesOf _), canon_pieces]
  simp only [readAt_ld, fill_ld]
  rfl

/-- What a first chunk leaves in the output block. -/
theorem out1_A_eq (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32)  :
    out1_A_7 c i arg2 harg2 arg3 harg3 arg4 harg4 arg5 harg5 arg6 harg6 arg7 harg7 arg8 harg8 arg9 harg9 arg10 harg10 hc0 x0 x1 x2 x3 x4 x5 x6 = stackAlong0 fun h => outH i x0 x1 x2 x3 x4 x5 (View.ld k1_pay7 (rectH 64 128 h)) h := by
  unfold out1_A_7
  rw [View.read_writes_junk_eq_canon, piecesO_A]
  rw [← List.append_nil (piecesOf _), canon_pieces]
  simp only [readAt_ld, fill_ld]
  rfl

/-- What a first chunk leaves in the state. -/
theorem sout1_A_eq (c : Dev nD) (i : grid1.Coords) (arg2 : Memref sig .tc .vmem S32x64x64 .f32) (harg2 : arg2.IsWhole) (arg3 : Memref sig .tc .vmem S32x64x64 .f32) (harg3 : arg3.IsWhole) (arg4 : Memref sig .tc .vmem S32x64x128 .f32) (harg4 : arg4.IsWhole) (arg5 : Memref sig .tc .vmem S32x64x1 .f32) (harg5 : arg5.IsWhole) (arg6 : Memref sig .tc .vmem S32x64x1 .f32) (harg6 : arg6.IsWhole) (arg7 : Memref sig .tc .vmem S32x32x64 .f32) (harg7 : arg7.IsWhole) (arg8 : Memref sig .tc .vmem S32x32x64 .f32) (harg8 : arg8.IsWhole) (arg9 : Memref sig .tc .vmem S32x64x128 .f32) (harg9 : arg9.IsWhole) (arg10 : Memref sig .tc .vmem S32x64x128 .f32) (harg10 : arg10.IsWhole) (hc0 : cond1_0 i)
    (x0 : Vec F S32x64x64 .f32) (x1 : Vec F S32x64x64 .f32) (x2 : Vec F S32x64x128 .f32) (x3 : Vec F S32x64x1 .f32) (x4 : Vec F S32x64x1 .f32) (x5 : Vec F S32x32x64 .f32) (x6 : Vec F S32x32x64 .f32)  :
    sout1_A_0 c i arg2 harg2 arg3 harg3 arg4 harg4 arg5 harg5 arg6 harg6 arg7 harg7 arg8 harg8 arg9 harg9 arg10 harg10 hc0 x0 x1 x2 x3 x4 x5 x6 = stackAlong0 fun h => stateH i x0 x1 x2 x3 x4 x5 (View.ld k1_pay7 (rectH 64 128 h)) h := by
  unfold sout1_A_0
  rw [View.read_writes_junk_eq_canon, piecesS_A]
  rw [canon_pieces]
  simp only [readAt_ld, fill_ld]
  rfl

end Cert.KernelIdeal.Run

end
-- ==== Proof.KernelIdeal.ScanReal.lean ====
/- A grid point of the scan on real inputs: each head's stored output and state are the real chunk's. -/
module

public import proofs.«01_k».proof.Proof.KernelIdeal.HeadReal
public import proofs.«01_k».proof.Proof.KernelIdeal.HeadPieces
public import Idealize.ShloMosaic.Lib.Pipeline.ValueKit
public import Idealize.ShloMosaic.Lib.ValueLayout
@[expose] public section

set_option maxRecDepth 16384

noncomputable section

namespace Cert.KernelIdeal.Run

open Cert.KernelIdeal Cert.KernelIdeal.Gen Cert.Delta
open Idealize.ShloMosaic Idealize.ShloMosaic.TcCoe Idealize.ShloMosaic.Tactic
open Idealize.ShloMosaic.ValueIdx (shapeCast_1ab_ab_apply)

/-- Head `h`'s block of a stack, read at an index. -/
theorem ld_rectH {a b : ℕ} (x : Vec Ideal ⟨3, ![32, a, b]⟩ .f32) (h : Fin 32) (i : Fin a) (j : Fin b) :
    View.ld x (rectH a b h) (ix3 (0 : Fin 1) i j) = x (ix3 h i j) := by
  refine congrArg x (funext fun y => Fin.ext ?_)
  fin_cases y
  · show h.val + 1 * 0 = h.val; omega
  · show 0 + 1 * i.val = i.val; omega
  · show 0 + 1 * j.val = j.val; omega

/-- The row of head `h` and the point's chunk, loaded. -/
theorem ld_rectG (x : Vec Ideal S32x32x64 .f32) (i : grid1.Coords) (h : Fin 32) (j : Fin 64) :
    View.ld x (rectG i h) (ix3 (0 : Fin 1) (0 : Fin 1) j) = x (ix3 h (⟨(i 1).val, (i 1).isLt⟩ : Fin 32) j) := by
  refine congrArg x (funext fun y => Fin.ext ?_)
  show offG i h y + _ = _
  rw [offG_eq]
  fin_cases y
  · show h.val + 1 * 0 = h.val; omega
  · show (i 1).val + 1 * 0 = (i 1).val; omega
  · show 0 + 1 * j.val = j.val; omega

section
variable {q k : Fin 64 → Fin 64 → ℝ} {v S : Fin 64 → Fin 128 → ℝ} {g b : Fin 64 → ℝ}
variable {i : grid1.Coords} {x0 x1 : Vec Ideal S32x64x64 .f32} {x2 : Vec Ideal S32x64x128 .f32} {x3 x4 : Vec Ideal S32x64x1 .f32}
variable {x5 : Vec Ideal S32x32x64 .f32} {s : Vec Ideal S1x64x128 .f32} {h : Fin 32}

/-- One head's output at a grid point. -/
theorem outH_real (h0 : ∀ r d, x0 (ix3 h r d) = ((q r d : ℝ) : EReal)) (h1 : ∀ r d, x1 (ix3 h r d) = ((k r d : ℝ) : EReal))
    (h2 : ∀ r d, x2 (ix3 h r d) = ((v r d : ℝ) : EReal)) (h3 : ∀ r u, x3 (ix3 h r u) = ((g r : ℝ) : EReal))
    (h4 : ∀ r u, x4 (ix3 h r u) = ((b r : ℝ) : EReal)) (h5 : ∀ r, x5 (ix3 h (⟨(i 1).val, (i 1).isLt⟩ : Fin 32) r) = ((g r : ℝ) : EReal))
    (hs : ∀ d w, s (ix3 (0 : Fin 1) d w) = ((S d w : ℝ) : EReal)) :
    IsReal (outH i x0 x1 x2 x3 x4 x5 s h) (blockO q k v g b S) := by
  exact headO_real (fun r d => (shapeCast_1ab_ab_apply _ _ r d).trans ((ld_rectH x0 h r d).trans (h0 r d)))
    (fun r d => (shapeCast_1ab_ab_apply _ _ r d).trans ((ld_rectH x1 h r d).trans (h1 r d)))
    (fun r d => (shapeCast_1ab_ab_apply _ _ r d).trans ((ld_rectH x2 h r d).trans (h2 r d)))
    (fun r u => (shapeCast_1ab_ab_apply _ _ r u).trans ((ld_rectH x3 h r u).trans (h3 r u)))
    (fun r u => (shapeCast_1ab_ab_apply _ _ r u).trans ((ld_rectH x4 h r u).trans (h4 r u)))
    (fun u r => (shapeCast_1ab_ab_apply _ _ u r).trans (by rw [Subsingleton.elim u 0]; exact (ld_rectG x5 i h r).trans (h5 r)))
    (fun d w => (shapeCast_1ab_ab_apply _ _ d w).trans (hs d w))

/-- One head's state at a grid point. -/
theorem stateH_real (h1 : ∀ r d, x1 (ix3 h r d) = ((k r d : ℝ) : EReal))
    (h2 : ∀ r d, x2 (ix3 h r d) = ((v r d : ℝ) : EReal)) (h3 : ∀ r u, x3 (ix3 h r u) = ((g r : ℝ) : EReal))
    (h4 : ∀ r u, x4 (ix3 h r u) = ((b r : ℝ) : EReal)) (h5 : ∀ r, x5 (ix3 h (⟨(i 1).val, (i 1).isLt⟩ : Fin 32) r) = ((g r : ℝ) : EReal))
    (hs : ∀ d w, s (ix3 (0 : Fin 1) d w) = ((S d w : ℝ) : EReal)) :
    IsReal (stateH i x0 x1 x2 x3 x4 x5 s h) (blockS k v g b S) := by
  exact headS_real (fun r d => (shapeCast_1ab_ab_apply _ _ r d).trans ((ld_rectH x1 h r d).trans (h1 r d)))
    (fun r d => (shapeCast_1ab_ab_apply _ _ r d).trans ((ld_rectH x2 h r d).trans (h2 r d)))
    (fun r u => (shapeCast_1ab_ab_apply _ _ r u).trans ((ld_rectH x3 h r u).trans (h3 r u)))
    (fun r u => (shapeCast_1ab_ab_apply _ _ r u).trans ((ld_rectH x4 h r u).trans (h4 r u)))
    (fun u r => (shapeCast_1ab_ab_apply _ _ u r).trans (by rw [Subsingleton.elim u 0]; exact (ld_rectG x5 i h r).trans (h5 r)))
    (fun d w => (shapeCast_1ab_ab_apply _ _ d w).trans (hs d w))
end

end Cert.KernelIdeal.Run

end
-- ==== Proof.KernelIdeal.ScanFold.lean ====
/- The scan's output array on real inputs: every time's read-out of the delta-rule state. -/
module

public import proofs.«01_k».proof.Proof.KernelIdeal.ScanReal
public import proofs.«01_k».proof.Proof.KernelIdeal.Region1
@[expose] public section

set_option maxRecDepth 16384

noncomputable section

namespace Cert.KernelIdeal.Run

open Cert.KernelIdeal Cert.KernelIdeal.Gen Cert.Delta
open Idealize.ShloMosaic Idealize.ShloMosaic.TcCoe Idealize.ShloMosaic.Tactic

variable (V : (c : Dev nD) → (b : Ref sig .tc) → Buf (Elt Ideal) ((c : Thread nD τ).loc b))

/-- The head that the `h`-th of grid point `t`'s group is. -/
def gh (t : Fin cfg1.N) (h : Fin 32) : Fin 64 := ⟨32 * (t.val / 32) + h.val, by have := lt_of_lt_of_eq t.isLt (show cfg1.N = 64 from N_1); omega⟩

/-- The time of row `r` of grid point `t`'s chunk. -/
def gt (t : Fin cfg1.N) (r : Fin 64) : Fin 2048 := ⟨64 * (t.val % 32) + r.val, by omega⟩

/-- The chunk of grid point `t`. -/
def gc (t : Fin cfg1.N) : Fin 32 := ⟨t.val % 32, by omega⟩

/-- A point's half of the sequences and its chunk. -/
theorem coords1 : ∀ t : Fin grid1.N, ((grid1.coords t) 0).val = t.val / 32 ∧ ((grid1.coords t) 1).val = t.val % 32 := by
  decide +kernel

/-- The queries' block at each point. -/
theorem index1_0 : ∀ t : Fin grid1.N, win1_0.index t = ![t.val / 32, t.val % 32, 0] := by decide +kernel
/-- The keys' block at each point. -/
theorem index1_1 : ∀ t : Fin grid1.N, win1_1.index t = ![t.val / 32, t.val % 32, 0] := by decide +kernel
/-- The values' block at each point. -/
theorem index1_2 : ∀ t : Fin grid1.N, win1_2.index t = ![t.val / 32, t.val % 32, 0] := by decide +kernel
/-- The summed logarithms' block at each point. -/
theorem index1_3 : ∀ t : Fin grid1.N, win1_3.index t = ![t.val / 32, t.val % 32, 0] := by decide +kernel
/-- The write strengths' block at each point. -/
theorem index1_4 : ∀ t : Fin grid1.N, win1_4.index t = ![t.val / 32, t.val % 32, 0] := by decide +kernel
/-- The rows' block at each point. -/
theorem index1_5 : ∀ t : Fin grid1.N, win1_5.index t = ![t.val / 32, 0, 0] := by decide +kernel
/-- The output's block at each point. -/
theorem index1_7 : ∀ t : Fin grid1.N, win1_7.index t = ![t.val / 32, t.val % 32, 0] := by decide +kernel

/-- Operand 0's block at grid point `t`: the rows of its chunk, of its group's heads. -/
theorem iblk1_0_apply (c : Dev nD) (t : Fin cfg1.N) (h : Fin 32) (r : Fin 64) (d : Fin 64) :
    (iblk1 V c 0 t : Vec Ideal S32x64x64 .f32) (ix3 h r d) = (V c main_v14 : Vec Ideal S64x2048x64 .f32) (ix3 (gh t h) (gt t r) d) := by
  unfold iblk1
  blk_simp
  refine congrArg (V c main_v14) (funext fun y => Fin.ext ?_)
  refine (Pipeline.Window.rect_emb_val (w := win1_0) t _ y rfl).trans ?_
  rw [index1_0]
  fin_cases y
  · show t.val / 32 * 32 + h.val = 32 * (t.val / 32) + h.val; omega
  · show t.val % 32 * 64 + r.val = 64 * (t.val % 32) + r.val; omega
  · show 0 * 64 + d.val = d.val; omega

/-- Operand 1's block at grid point `t`: the rows of its chunk, of its group's heads. -/
theorem iblk1_1_apply (c : Dev nD) (t : Fin cfg1.N) (h : Fin 32) (r : Fin 64) (d : Fin 64) :
    (iblk1 V c 1 t : Vec Ideal S32x64x64 .f32) (ix3 h r d) = (V c main_v15 : Vec Ideal S64x2048x64 .f32) (ix3 (gh t h) (gt t r) d) := by
  unfold iblk1
  blk_simp
  refine congrArg (V c main_v15) (funext fun y => Fin.ext ?_)
  refine (Pipeline.Window.rect_emb_val (w := win1_1) t _ y rfl).trans ?_
  rw [index1_1]
  fin_cases y
  · show t.val / 32 * 32 + h.val = 32 * (t.val / 32) + h.val; omega
  · show t.val % 32 * 64 + r.val = 64 * (t.val % 32) + r.val; omega
  · show 0 * 64 + d.val = d.val; omega

/-- Operand 2's block at grid point `t`: the rows of its chunk, of its group's heads. -/
theorem iblk1_2_apply (c : Dev nD) (t : Fin cfg1.N) (h : Fin 32) (r : Fin 64) (d : Fin 128) :
    (iblk1 V c 2 t : Vec Ideal S32x64x128 .f32) (ix3 h r d) = (V c main_v16 : Vec Ideal S64x2048x128 .f32) (ix3 (gh t h) (gt t r) d) := by
  unfold iblk1
  blk_simp
  refine congrArg (V c main_v16) (funext fun y => Fin.ext ?_)
  refine (Pipeline.Window.rect_emb_val (w := win1_2) t _ y rfl).trans ?_
  rw [index1_2]
  fin_cases y
  · show t.val / 32 * 32 + h.val = 32 * (t.val / 32) + h.val; omega
  · show t.val % 32 * 64 + r.val = 64 * (t.val % 32) + r.val; omega
  · show 0 * 128 + d.val = d.val; omega

/-- Operand 3's block at grid point `t`: the rows of its chunk, of its group's heads. -/
theorem iblk1_3_apply (c : Dev nD) (t : Fin cfg1.N) (h : Fin 32) (r : Fin 64) (d : Fin 1) :
    (iblk1 V c 3 t : Vec Ideal S32x64x1 .f32) (ix3 h r d) = (V c main_v17 : Vec Ideal S64x2048x1 .f32) (ix3 (gh t h) (gt t r) d) := by
  unfold iblk1
  blk_simp
  refine congrArg (V c main_v17) (funext fun y => Fin.ext ?_)
  refine (Pipeline.Window.rect_emb_val (w := win1_3) t _ y rfl).trans ?_
  rw [index1_3]
  fin_cases y
  · show t.val / 32 * 32 + h.val = 32 * (t.val / 32) + h.val; omega
  · show t.val % 32 * 64 + r.val = 64 * (t.val % 32) + r.val; omega
  · show 0 * 1 + d.val = d.val; omega

/-- Operand 4's block at grid point `t`: the rows of its chunk, of its group's heads. -/
theorem iblk1_4_apply (c : Dev nD) (t : Fin cfg1.N) (h : Fin 32) (r : Fin 64) (d : Fin 1) :
    (iblk1 V c 4 t : Vec Ideal S32x64x1 .f32) (ix3 h r d) = (V c main_v18 : Vec Ideal S64x2048x1 .f32) (ix3 (gh t h) (gt t r) d) := by
  unfold iblk1
  blk_simp
  refine congrArg (V c main_v18) (funext fun y => Fin.ext ?_)
  refine (Pipeline.Window.rect_emb_val (w := win1_4) t _ y rfl).trans ?_
  rw [index1_4]
  fin_cases y
  · show t.val / 32 * 32 + h.val = 32 * (t.val / 32) + h.val; omega
  · show t.val % 32 * 64 + r.val = 64 * (t.val % 32) + r.val; omega
  · show 0 * 1 + d.val = d.val; omega

/-- Operand 5's block at grid point `t`: every chunk's row, of its group's heads. -/
theorem iblk1_5_apply (c : Dev nD) (t : Fin cfg1.N) (h : Fin 32) (r : Fin 32) (d : Fin 64) :
    (iblk1 V c 5 t : Vec Ideal S32x32x64 .f32) (ix3 h r d) = (V c main_v19 : Vec Ideal S64x32x64 .f32) (ix3 (gh t h) r d) := by
  unfold iblk1
  blk_simp
  refine congrArg (V c main_v19) (funext fun y => Fin.ext ?_)
  refine (Pipeline.Window.rect_emb_val (w := win1_5) t _ y rfl).trans ?_
  rw [index1_5]
  fin_cases y
  · show t.val / 32 * 32 + h.val = 32 * (t.val / 32) + h.val; omega
  · show 0 * 32 + r.val = r.val; omega
  · show 0 * 64 + d.val = d.val; omega

/-- The array of the output holds at `y` of point `t`'s block what lies at the block's place. -/
theorem emb1_7 (t : Fin cfg1.N) (h : Fin 32) (r : Fin 64) (d : Fin 128) :
    (((cfg1.win 7).blk t).view.emb (ix3 h r d) : S64x2048x128.Idx) = ix3 (gh t h) (gt t r) d := by
  refine funext fun y => Fin.ext ?_
  refine (Pipeline.Window.rect_emb_val (w := win1_7) t _ y rfl).trans ?_
  rw [index1_7]
  fin_cases y
  · show t.val / 32 * 32 + h.val = 32 * (t.val / 32) + h.val; omega
  · show t.val % 32 * 64 + r.val = 64 * (t.val % 32) + r.val; omega
  · show 0 * 128 + d.val = d.val; omega

/-- What the scan's operands hold, by head and time: the queries, keys, values and write strengths, and the logarithms of the decays
    summed from the chunk's first time on, as a column and as rows by chunk. -/
structure Operands (c : Dev nD) (q k : Fin 64 → ℕ → Fin 64 → ℝ) (v : Fin 64 → ℕ → Fin 128 → ℝ) (la b : Fin 64 → ℕ → ℝ) : Prop where
  hq : ∀ h (s : Fin 2048) d, (V c main_v14 : Vec Ideal S64x2048x64 .f32) (ix3 h s d) = ((q h s.val d : ℝ) : EReal)
  hk : ∀ h (s : Fin 2048) d, (V c main_v15 : Vec Ideal S64x2048x64 .f32) (ix3 h s d) = ((k h s.val d : ℝ) : EReal)
  hv : ∀ h (s : Fin 2048) d, (V c main_v16 : Vec Ideal S64x2048x128 .f32) (ix3 h s d) = ((v h s.val d : ℝ) : EReal)
  hg : ∀ h (n : Fin 32) (r : Fin 64) (u : Fin 1) (hs : 64 * n.val + r.val < 2048),
    (V c main_v17 : Vec Ideal S64x2048x1 .f32) (ix3 h (⟨64 * n.val + r.val, hs⟩ : Fin 2048) u)
      = ((cum (fun i => la h (64 * n.val + i)) (r.val + 1) : ℝ) : EReal)
  hb : ∀ h (s : Fin 2048) (u : Fin 1), (V c main_v18 : Vec Ideal S64x2048x1 .f32) (ix3 h s u) = ((b h s.val : ℝ) : EReal)
  hgr : ∀ h (n : Fin 32) (r : Fin 64), (V c main_v19 : Vec Ideal S64x32x64 .f32) (ix3 h n r)
      = ((cum (fun i => la h (64 * n.val + i)) (r.val + 1) : ℝ) : EReal)

section
variable {V}
variable {c : Dev nD} {q k : Fin 64 → ℕ → Fin 64 → ℝ} {v : Fin 64 → ℕ → Fin 128 → ℝ} {la b : Fin 64 → ℕ → ℝ}

/-- The state of head `h` before time `s`. -/
abbrev stateAt (k : Fin 64 → ℕ → Fin 64 → ℝ) (v : Fin 64 → ℕ → Fin 128 → ℝ) (la b : Fin 64 → ℕ → ℝ) (h : Fin 64) (s : ℕ) : Fin 64 → Fin 128 → ℝ :=
  state (la h) (b h) (k h) (v h) (fun _ _ => 0) s

/-- One head's output at a grid point whose state is that before its chunk. -/
theorem point_out (H : Operands V c q k v la b) (t : Fin cfg1.N) (h : Fin 32) {s : Vec Ideal S1x64x128 .f32}
    (hs : ∀ d w, s (ix3 (0 : Fin 1) d w) = ((stateAt k v la b (gh t h) (64 * (t.val % 32)) d w : ℝ) : EReal)) (r : Fin 64) (w : Fin 128) :
    outH (grid1.coords t) (iblk1 V c 0 t) (iblk1 V c 1 t) (iblk1 V c 2 t) (iblk1 V c 3 t) (iblk1 V c 4 t) (iblk1 V c 5 t) s h (ix2 r w)
      = ((∑ d, q (gh t h) (64 * (t.val % 32) + r.val) d * stateAt k v la b (gh t h) (64 * (t.val % 32) + r.val + 1) d w : ℝ) : EReal) := by
  refine (outH_real (q := fun r => q (gh t h) (64 * (t.val % 32) + r.val)) (k := fun r => k (gh t h) (64 * (t.val % 32) + r.val))
    (v := fun r => v (gh t h) (64 * (t.val % 32) + r.val)) (g := fun r => cum (fun i => la (gh t h) (64 * (t.val % 32) + i)) (r.val + 1))
    (b := fun r => b (gh t h) (64 * (t.val % 32) + r.val)) (fun r d => ?_) (fun r d => ?_) (fun r d => ?_) (fun r d => ?_) (fun r d => ?_)
    (fun r => ?_) hs r w).trans ?_
  · exact (iblk1_0_apply V c t h r d).trans (H.hq _ _ d)
  · exact (iblk1_1_apply V c t h r d).trans (H.hk _ _ d)
  · exact (iblk1_2_apply V c t h r d).trans (H.hv _ _ d)
  · exact (iblk1_3_apply V c t h r d).trans (H.hg _ (gc t) r d _)
  · exact (iblk1_4_apply V c t h r d).trans (H.hb _ _ d)
  · refine (iblk1_5_apply V c t h _ r).trans ?_
    rw [show (⟨((grid1.coords t) 1).val, ((grid1.coords t) 1).isLt⟩ : Fin 32) = gc t from Fin.ext (coords1 t).2]
    exact H.hgr _ (gc t) r
  · rw [blockO_eq (fun i => la (gh t h) (64 * (t.val % 32) + i)) (fun i => b (gh t h) (64 * (t.val % 32) + i))
      (fun i => q (gh t h) (64 * (t.val % 32) + i)) (fun i => k (gh t h) (64 * (t.val % 32) + i)) (fun i => v (gh t h) (64 * (t.val % 32) + i)), stateAt,
      ← state_shift, Nat.add_assoc]

/-- One head's state at such a point: that before the next chunk. -/
theorem point_state (H : Operands V c q k v la b) (t : Fin cfg1.N) (h : Fin 32) {s : Vec Ideal S1x64x128 .f32}
    (hs : ∀ d w, s (ix3 (0 : Fin 1) d w) = ((stateAt k v la b (gh t h) (64 * (t.val % 32)) d w : ℝ) : EReal)) (d : Fin 64) (w : Fin 128) :
    stateH (grid1.coords t) (iblk1 V c 0 t) (iblk1 V c 1 t) (iblk1 V c 2 t) (iblk1 V c 3 t) (iblk1 V c 4 t) (iblk1 V c 5 t) s h (ix2 d w)
      = ((stateAt k v la b (gh t h) (64 * (t.val % 32) + 64) d w : ℝ) : EReal) := by
  refine (stateH_real (k := fun r => k (gh t h) (64 * (t.val % 32) + r.val))
    (v := fun r => v (gh t h) (64 * (t.val % 32) + r.val)) (g := fun r => cum (fun i => la (gh t h) (64 * (t.val % 32) + i)) (r.val + 1))
    (b := fun r => b (gh t h) (64 * (t.val % 32) + r.val)) (fun r d => ?_) (fun r d => ?_) (fun r d => ?_) (fun r d => ?_)
    (fun r => ?_) hs d w).trans ?_
  · exact (iblk1_1_apply V c t h r d).trans (H.hk _ _ d)
  · exact (iblk1_2_apply V c t h r d).trans (H.hv _ _ d)
  · exact (iblk1_3_apply V c t h r d).trans (H.hg _ (gc t) r d _)
  · exact (iblk1_4_apply V c t h r d).trans (H.hb _ _ d)
  · refine (iblk1_5_apply V c t h _ r).trans ?_
    rw [show (⟨((grid1.coords t) 1).val, ((grid1.coords t) 1).isLt⟩ : Fin 32) = gc t from Fin.ext (coords1 t).2]
    exact H.hgr _ (gc t) r
  · rw [blockS_eq (fun i => la (gh t h) (64 * (t.val % 32) + i)) (fun i => b (gh t h) (64 * (t.val % 32) + i))
      (fun i => k (gh t h) (64 * (t.val % 32) + i)) (fun i => v (gh t h) (64 * (t.val % 32) + i)), stateAt,
      ← state_shift]

/-- What a grid point leaves: its chunk's read-outs, and the state after it. -/
def Holds (V : (c : Dev nD) → (b : Ref sig .tc) → Buf (Elt Ideal) ((c : Thread nD τ).loc b)) (c : Dev nD)
    (q k : Fin 64 → ℕ → Fin 64 → ℝ) (v : Fin 64 → ℕ → Fin 128 → ℝ) (la b : Fin 64 → ℕ → ℝ) (t : Fin cfg1.N) : Prop :=
  (∀ (h : Fin 32) (r : Fin 64) (w : Fin 128), (outsAt1 V c t.val t.isLt).1 (ix3 h r w)
    = ((∑ d, q (gh t h) (64 * (t.val % 32) + r.val) d * stateAt k v la b (gh t h) (64 * (t.val % 32) + r.val + 1) d w : ℝ) : EReal))
  ∧ ∀ (h : Fin 32) (d : Fin 64) (w : Fin 128), (outsAt1 V c t.val t.isLt).2 (ix3 h d w)
    = ((stateAt k v la b (gh t h) (64 * (t.val % 32) + 64) d w : ℝ) : EReal)

/-- A member of a stack of matrices, read at an index. -/
theorem stack_apply {a b : ℕ} (f : Fin 32 → Vec Ideal ⟨2, ![a, b]⟩ .f32) (h : Fin 32) (r : Fin a) (w : Fin b) :
    (stackAlong0 f : Vec Ideal ⟨3, ![32, a, b]⟩ .f32) (ix3 h r w) = f h (ix2 r w) := by
  refine congrArg (f h) (funext fun y => ?_)
  fin_cases y <;> rfl

/-- At the first chunk the state starts from zero. -/
theorem holds_reset (H : Operands V c q k v la b) (t : Fin cfg1.N) (h0 : t.val % 32 = 0) : Holds V c q k v la b t := by
  have hs : ∀ (h : Fin 32) d w, (View.ld (Val := Elt Ideal) (k1_pay7 (F := Ideal)) (rectH 64 128 h) : Vec Ideal S1x64x128 .f32) (ix3 (0 : Fin 1) d w)
      = ((stateAt k v la b (gh t h) (64 * (t.val % 32)) d w : ℝ) : EReal) := fun h d w => by
    refine (ld_rectH (k1_pay7 (F := Ideal)) h d w).trans ?_
    rw [h0]
    exact Ideal.ofBits_zero_f32
  constructor
  · intro h r w
    rw [outsAt1_A V c t h0]
    dsimp only
    rw [out1_A_eq]
    exact (stack_apply _ h r w).trans (point_out H t h (hs h) r w)
  · intro h r w
    rw [outsAt1_A V c t h0]
    dsimp only
    rw [sout1_A_eq]
    exact (stack_apply _ h r w).trans (point_state H t h (hs h) r w)

/-- At any other chunk it goes on from the chunk before. -/
theorem holds_next (H : Operands V c q k v la b) (t : Fin cfg1.N) (h0 : ¬t.val % 32 = 0)
    (ih : Holds V c q k v la b ⟨t.val - 1, by omega⟩) : Holds V c q k v la b t := by
  have hs : ∀ (h : Fin 32) d w, View.ld (outsAt1 V c (t.val - 1) (by omega)).2 (rectH 64 128 h) (ix3 (0 : Fin 1) d w)
      = ((stateAt k v la b (gh t h) (64 * (t.val % 32)) d w : ℝ) : EReal) := fun h d w => by
    refine (ld_rectH _ h d w).trans ((ih.2 h d w).trans ?_)
    rw [show gh ⟨t.val - 1, by omega⟩ h = gh t h from Fin.ext (by show 32 * ((t.val - 1) / 32) + h.val = 32 * (t.val / 32) + h.val; omega),
      show 64 * ((t.val - 1) % 32) + 64 = 64 * (t.val % 32) by omega]
  constructor
  · intro h r w
    rw [outsAt1_B V c t h0]
    dsimp only
    rw [out1_B_eq]
    exact (stack_apply _ h r w).trans (point_out H t h (hs h) r w)
  · intro h r w
    rw [outsAt1_B V c t h0]
    dsimp only
    rw [sout1_B_eq]
    exact (stack_apply _ h r w).trans (point_state H t h (hs h) r w)

/-- Every grid point leaves its chunk's read-outs and the state after it. -/
theorem holds (H : Operands V c q k v la b) (n : ℕ) (hn : n < cfg1.N) : Holds V c q k v la b ⟨n, hn⟩ := by
  induction n with
  | zero => exact holds_reset H _ rfl
  | succ n ih =>
    by_cases h0 : (n + 1) % 32 = 0
    · exact holds_reset H _ h0
    · exact holds_next H _ h0 (ih (by omega))

/-- The read-outs of all heads and times, as one array. -/
def readouts (q k : Fin 64 → ℕ → Fin 64 → ℝ) (v : Fin 64 → ℕ → Fin 128 → ℝ) (la b : Fin 64 → ℕ → ℝ) : Vec Ideal S64x2048x128 .f32 :=
  fun y => ((∑ d, q (y 0) (y 1).val d * stateAt k v la b (y 0) ((y 1).val + 1) d (y 2) : ℝ) : EReal)

/-- THE SCAN'S OUTPUT: at every head and time, the query's read-out of the state after that time. -/
theorem scan_value (H : Operands V c q k v la b) : (dat1 V c).arrAt 7 cfg1.N = readouts q k v la b := by
  refine (dat1 V c).arrAt_eq_of_covers 7 _ (by decide +kernel) fun t hf y => ?_
  have hy : y = (ix3 (y 0) (y 1) (y 2) : S32x64x128.Idx) := funext fun a => by fin_cases a <;> rfl
  rw [hy]
  generalize y 0 = h, y 1 = r, y 2 = w
  blk_simp
  rw [after1_7]
  exact ((holds H t.val t.isLt).1 h r w).trans (congrArg (readouts q k v la b) (emb1_7 t h r w)).symm
end

end Cert.KernelIdeal.Run

end
-- ==== Proof.KernelIdeal.OutValue.lean ====
/- The output call's array: the gated projection of the read-outs. -/
module

public import proofs.«01_k».proof.Proof.KernelIdeal.Region2
public import Idealize.ShloMosaic.Lib.Pointwise
public import Idealize.ShloMosaic.Lib.Pipeline.ValueKit
@[expose] public section

set_option maxRecDepth 16384

noncomputable section

namespace Cert.KernelIdeal.Run

open Cert.KernelIdeal Cert.KernelIdeal.Gen
open Idealize.ShloMosaic Idealize.ShloMosaic.TcCoe Idealize.ShloMosaic.Tactic

/-- Head `h`'s block of the read-outs lies inside them. -/
theorem inbC (h : Fin 16) : ∀ x, (![0, h.val, 0, 0] : Fin 4 → ℕ) x + S1x1x256x128.size x ≤ S1x16x256x128.size x := by
  intro x
  fin_cases x
  · show 0 + 1 ≤ 1; omega
  · show h.val + 1 ≤ 16; omega
  · show 0 + 256 ≤ 256; omega
  · show 0 + 128 ≤ 128; omega

/-- Head `h`'s read-outs, as the kernel loads them. -/
def headOf (x0 : Vec Ideal S1x16x256x128 .f32) (h : Fin 16) : FVec Ideal S256x128 .f32 :=
  shapeCast S256x128 (View.ld x0 (Rect.unit (s := S1x16x256x128) ![0, h.val, 0, 0] S1x1x256x128.size (inbC h))) shapeCasts_S1x1x256x128_S256x128

/-- Two leading axes of one entry dropped. -/
theorem drop_two (x : Vec Ideal S1x1x256x128 .f32) (r : Fin 256) (d : Fin 128) :
    shapeCast S256x128 x shapeCasts_S1x1x256x128_S256x128 (ix2 r d) = x (ix4 (0 : Fin 1) (0 : Fin 1) r d) := by
  pointwise

/-- One head's rows. -/
theorem headOf_apply (x0 : Vec Ideal S1x16x256x128 .f32) (h : Fin 16) (r : Fin 256) (d : Fin 128) :
    headOf x0 h (ix2 r d) = x0 (ix4 (0 : Fin 1) h r d) := by
  refine (drop_two _ r d).trans (congrArg x0 (funext fun y => Fin.ext ?_))
  fin_cases y
  · show 0 + 1 * 0 = 0; rfl
  · show h.val + 1 * 0 = h.val; omega
  · show 0 + 1 * r.val = r.val; omega
  · show 0 + 1 * d.val = d.val; omega

/-- The heads' read-outs side by side. -/
def sideBySide (x0 : Vec Ideal S1x16x256x128 .f32) : FVec Ideal S256x2048 .f32 :=
  concatenate S256x2048 1 (List.ofFn fun h : Fin 16 => (⟨S256x128, headOf x0 h⟩ : (s : Shape) × (s.Idx → Ideal .f32)))
    concatenates_S256x128_S256x128_S256x128_S256x128_S256x128_S256x128_S256x128_S256x128_S256x128_S256x128_S256x128_S256x128_S256x128_S256x128_S256x128_S256x128_S256x2048_d1

/-- The heads side by side: column `kk` is column `kk % 128` of head `kk / 128`. -/
theorem sideBySide_apply (x0 : Vec Ideal S1x16x256x128 .f32) (r : Fin 256) (kk : Fin 2048) :
    sideBySide x0 (ix2 r kk) = x0 (ix4 (0 : Fin 1) (⟨kk.val / 128, by omega⟩ : Fin 16) r (⟨kk.val % 128, by omega⟩ : Fin 128)) := by
  unfold sideBySide
  refine (concatenate_ofFn_apply (t := S256x2048) (1 : Fin 2) (headOf x0) _ rfl 128 rfl (ix2 r kk) (⟨kk.val / 128, by omega⟩ : Fin 16) rfl
    (ix2 r (⟨kk.val % 128, by omega⟩ : Fin 128)) rfl fun b hb => ?_).trans (headOf_apply _ _ _ _)
  fin_cases b
  · rfl
  · exact absurd rfl hb

/-- The heads' read-outs side by side, against the projection. -/
theorem heads_dot (x0 : Vec Ideal S1x16x256x128 .f32) (x2 : Vec Ideal S2048x1024 .bf16) (r : Fin 256) (n : Fin 1024) :
    k2_pay11 (k2_pay2 (View.ld x0 r2_0)) (k2_pay3 (View.ld x0 r2_1)) (k2_pay4 (View.ld x0 r2_2)) (k2_pay5 (View.ld x0 r2_3)) (k2_pay6 (View.ld x0 r2_4)) (k2_pay7 (View.ld x0 r2_5)) (k2_pay8 (View.ld x0 r2_6)) (k2_pay9 (View.ld x0 r2_7)) (k2_pay10 (View.ld x0 r2_8)) (View.ld x0 r2_9) (View.ld x0 r2_10) (View.ld x0 r2_11) (View.ld x0 r2_12) (View.ld x0 r2_13) (View.ld x0 r2_14) (View.ld x0 r2_15) x2 (ix2 r n)
      = ∑ kk : Fin 2048, x0 (ix4 (0 : Fin 1) (⟨kk.val / 128, by omega⟩ : Fin 16) r (⟨kk.val % 128, by omega⟩ : Fin 128)) * x2 (ix2 kk n) := by
  have e : k2_pay11 (k2_pay2 (View.ld x0 r2_0)) (k2_pay3 (View.ld x0 r2_1)) (k2_pay4 (View.ld x0 r2_2)) (k2_pay5 (View.ld x0 r2_3)) (k2_pay6 (View.ld x0 r2_4)) (k2_pay7 (View.ld x0 r2_5)) (k2_pay8 (View.ld x0 r2_6)) (k2_pay9 (View.ld x0 r2_7)) (k2_pay10 (View.ld x0 r2_8)) (View.ld x0 r2_9) (View.ld x0 r2_10) (View.ld x0 r2_11) (View.ld x0 r2_12) (View.ld x0 r2_13) (View.ld x0 r2_14) (View.ld x0 r2_15) x2
      = matmul dot_S256x2048_S2048x1024_S256x1024_1_0_0_1_n_n none (truncf .bf16 (sideBySide x0) bitsLt_bf16_f32)
          (shapeCast S2048x1024 x2 shapeCasts_S2048x1024_S2048x1024 : FVec Ideal S2048x1024 .bf16) (constant S256x1024 .f32 0x00000000#32) := by sl_kernel_rfl
  rw [e]
  pointwise
  exact Finset.sum_congr rfl fun kk _ => congrArg₂ (· * ·) (sideBySide_apply x0 r kk) rfl

/-- The gate of a row of activations. -/
theorem gate_apply (x1 : Vec Ideal S1x256x1024 .f32) (x3 : Vec Ideal S1024x1024 .bf16) (r : Fin 256) (n : Fin 1024) :
    k2_pay12 x1 x3 (ix2 r n) = Ideal.logistic (∑ d : Fin 1024, x1 (ix3 (0 : Fin 1) r d) * x3 (ix2 d n)) := by
  pointwise [k2_pay12]

variable (V : (c : Dev nD) → (b : Ref sig .tc) → Buf (Elt Ideal) ((c : Thread nD τ).loc b))

/-- The batch of grid point `t`. -/
def ob (t : Fin cfg2.N) : Fin 4 := ⟨t.val / 8, by have := lt_of_lt_of_eq t.isLt (show cfg2.N = 32 from N_2); omega⟩

/-- The time of row `r` of grid point `t`'s block. -/
def ot (t : Fin cfg2.N) (r : Fin 256) : Fin 2048 := ⟨256 * (t.val % 8) + r.val, by omega⟩

/-- The block of the scan's output at each point. -/
theorem index2_0 : ∀ t : Fin grid2.N, win2_0.index t = ![t.val / 8, 0, t.val % 8, 0] := by decide +kernel
/-- The input's block. -/
theorem index2_1 : ∀ t : Fin grid2.N, win2_1.index t = ![t.val / 8, t.val % 8, 0] := by decide +kernel
/-- The output matrix is one block. -/
theorem index2_2 : ∀ t : Fin grid2.N, win2_2.index t = ![0, 0] := by decide +kernel
/-- The gate's matrix is one block. -/
theorem index2_3 : ∀ t : Fin grid2.N, win2_3.index t = ![0, 0] := by decide +kernel
/-- The result's block. -/
theorem index2_4 : ∀ t : Fin grid2.N, win2_4.index t = ![t.val / 8, t.val % 8, 0] := by decide +kernel

/-- The scan's output, read through its block. -/
theorem iblk2_0_apply (c : Dev nD) (t : Fin cfg2.N) (h : Fin 16) (r : Fin 256) (d : Fin 128) :
    (iblk2 V c 0 t : Vec Ideal S1x16x256x128 .f32) (ix4 (0 : Fin 1) h r d) = (V c main_v22 : Vec Ideal S4x16x2048x128 .f32) (ix4 (ob t) h (ot t r) d) := by
  unfold iblk2
  blk_simp
  refine congrArg (V c main_v22) (funext fun y => Fin.ext ?_)
  refine (Pipeline.Window.rect_emb_val (w := win2_0) t _ y rfl).trans ?_
  rw [index2_0]
  fin_cases y
  · show t.val / 8 * 1 + 0 = t.val / 8; omega
  · show 0 * 16 + h.val = h.val; omega
  · show t.val % 8 * 256 + r.val = 256 * (t.val % 8) + r.val; omega
  · show 0 * 128 + d.val = d.val; omega

/-- The input, read through its block. -/
theorem iblk2_1_apply (c : Dev nD) (t : Fin cfg2.N) (r : Fin 256) (d : Fin 1024) :
    (iblk2 V c 1 t : Vec Ideal S1x256x1024 .f32) (ix3 (0 : Fin 1) r d) = (V c main_arg0 : Vec Ideal S4x2048x1024 .f32) (ix3 (ob t) (ot t r) d) := by
  unfold iblk2
  blk_simp
  refine congrArg (V c main_arg0) (funext fun y => Fin.ext ?_)
  refine (Pipeline.Window.rect_emb_val (w := win2_1) t _ y rfl).trans ?_
  rw [index2_1]
  fin_cases y
  · show t.val / 8 * 1 + 0 = t.val / 8; omega
  · show t.val % 8 * 256 + r.val = 256 * (t.val % 8) + r.val; omega
  · show 0 * 1024 + d.val = d.val; omega

/-- The output matrix, read through its block. -/
theorem iblk2_2_apply (c : Dev nD) (t : Fin cfg2.N) (r : Fin 2048) (d : Fin 1024) :
    (iblk2 V c 2 t : Vec Ideal S2048x1024 .bf16) (ix2 r d) = (V c main_v5 : Vec Ideal S2048x1024 .bf16) (ix2 r d) := by
  unfold iblk2
  blk_simp
  refine congrArg (V c main_v5) (funext fun y => Fin.ext ?_)
  refine (Pipeline.Window.rect_emb_val (w := win2_2) t _ y rfl).trans ?_
  rw [index2_2]
  fin_cases y
  · show 0 * 2048 + r.val = r.val; omega
  · show 0 * 1024 + d.val = d.val; omega

/-- The gate's matrix, read through its block. -/
theorem iblk2_3_apply (c : Dev nD) (t : Fin cfg2.N) (r : Fin 1024) (d : Fin 1024) :
    (iblk2 V c 3 t : Vec Ideal S1024x1024 .bf16) (ix2 r d) = (V c main_v6 : Vec Ideal S1024x1024 .bf16) (ix2 r d) := by
  unfold iblk2
  blk_simp
  refine congrArg (V c main_v6) (funext fun y => Fin.ext ?_)
  refine (Pipeline.Window.rect_emb_val (w := win2_3) t _ y rfl).trans ?_
  rw [index2_3]
  fin_cases y
  · show 0 * 1024 + r.val = r.val; omega
  · show 0 * 1024 + d.val = d.val; omega

/-- Where an entry of the result's block lies in the result. -/
theorem emb2_4 (t : Fin cfg2.N) (r : Fin 256) (d : Fin 1024) :
    (((cfg2.win 4).blk t).view.emb (ix3 (0 : Fin 1) r d) : S4x2048x1024.Idx) = ix3 (ob t) (ot t r) d := by
  refine funext fun y => Fin.ext ?_
  refine (Pipeline.Window.rect_emb_val (w := win2_4) t _ y rfl).trans ?_
  rw [index2_4]
  fin_cases y
  · show t.val / 8 * 1 + 0 = t.val / 8; omega
  · show t.val % 8 * 256 + r.val = 256 * (t.val % 8) + r.val; omega
  · show 0 * 1024 + d.val = d.val; omega

/-- The gated projection of the read-outs. -/
def gated (core : Vec Ideal S4x16x2048x128 .f32) (x : Vec Ideal S4x2048x1024 .f32) (ow : Vec Ideal S2048x1024 .bf16) (gw : Vec Ideal S1024x1024 .bf16) :
    Vec Ideal S4x2048x1024 .f32 := fun y =>
  (∑ kk : Fin 2048, core (ix4 (y 0) (⟨kk.val / 128, by omega⟩ : Fin 16) (y 1) (⟨kk.val % 128, by omega⟩ : Fin 128)) * ow (ix2 kk (y 2)))
    * Ideal.logistic (∑ d : Fin 1024, x (ix3 (y 0) (y 1) d) * gw (ix2 d (y 2)))

/-- What is stored: the product times the gate. -/
theorem pay_apply (a b : FVec Ideal S256x1024 .f32) (r : Fin 256) (n : Fin 1024) :
    k2_pay1 a b (ix3 (0 : Fin 1) r n) = a (ix2 r n) * b (ix2 r n) := by
  pointwise [k2_pay1]

/-- THE OUTPUT CALL'S ARRAY is the gated projection of its operands. -/
theorem out_value (c : Dev nD) : (dat2 V c).arrAt 4 cfg2.N = gated (V c main_v22) (V c main_arg0) (V c main_v5) (V c main_v6) := by
  refine (dat2 V c).arrAt_eq_of_covers 4 _ (by decide +kernel) fun t hf y => ?_
  have hy : y = (ix3 (0 : Fin 1) (y 1) (y 2) : S1x256x1024.Idx) := funext fun a => by
    fin_cases a
    · exact Subsingleton.elim (α := Fin 1) _ _
    · rfl
    · rfl
  rw [hy]
  generalize y 1 = r, y 2 = n
  blk_simp
  rw [after2_4]
  frame_out
  refine (pay_apply _ _ r n).trans ?_
  refine Eq.trans ?_ (congrArg (gated (V c main_v22) (V c main_arg0) (V c main_v5) (V c main_v6)) (emb2_4 t r n)).symm
  refine (congrArg₂ (· * ·) (heads_dot (iblk2 V c 0 t) (iblk2 V c 2 t) r n) (gate_apply (iblk2 V c 1 t) (iblk2 V c 3 t) r n)).trans ?_
  refine congrArg₂ (· * ·) (Finset.sum_congr rfl fun kk _ => ?_) (congrArg Ideal.logistic (Finset.sum_congr rfl fun d _ => ?_))
  · exact congrArg₂ (· * ·) (iblk2_0_apply V c t _ r _) (iblk2_2_apply V c t kk n)
  · exact congrArg₂ (· * ·) (iblk2_1_apply V c t r d) (iblk2_3_apply V c t d n)

end Cert.KernelIdeal.Run

end
-- ==== Proof.Layer.Whole.lean ====
/- The whole layer: what it computes of its inputs, the recurrence over the real numbers that finite
   inputs give. -/
module

public import proofs.«01_k».proof.Proof.Layer.Real
public import proofs.«01_k».proof.Proof.Delta.Algebra
@[expose] public section

noncomputable section

namespace Cert.Layer

open Idealize.ShloMosaic Cert.Delta

/-- The layer's inputs. -/
@[ext] structure Inputs where
  x : Fin 4 → Fin 2048 → Fin 1024 → EReal
  qw : Fin 1024 → Fin 1024 → EReal
  kw : Fin 1024 → Fin 1024 → EReal
  vw : Fin 1024 → Fin 2048 → EReal
  qs : Fin 1024 → EReal
  ks : Fin 1024 → EReal
  vs : Fin 2048 → EReal
  qk : Fin 4 → Fin 1024 → EReal
  qb : Fin 1024 → EReal
  kk : Fin 4 → Fin 1024 → EReal
  kb : Fin 1024 → EReal
  vk : Fin 4 → Fin 2048 → EReal
  vb : Fin 2048 → EReal
  aw : Fin 1024 → Fin 16 → EReal
  bw : Fin 1024 → Fin 16 → EReal
  ow : Fin 2048 → Fin 1024 → EReal
  gw : Fin 1024 → Fin 1024 → EReal

namespace Inputs

variable (I : Inputs)

/-- The queries, keys and values, by batch, time and column. -/
def query (b : Fin 4) : Fin 2048 → Fin 1024 → EReal := branch (Ideal.ofBits .f32 0x44800000#32) (I.x b) I.qw I.qs I.qk I.qb

/-- The keys. -/
def key (b : Fin 4) : Fin 2048 → Fin 1024 → EReal := branch (Ideal.ofBits .f32 0x44800000#32) (I.x b) I.kw I.ks I.kk I.kb

/-- The values. -/
def value (b : Fin 4) : Fin 2048 → Fin 2048 → EReal := branch (Ideal.ofBits .f32 0x45000000#32) (I.x b) I.vw I.vs I.vk I.vb

/-- The decay, its logarithm, and the write strength, by batch, time and head. -/
def alpha (b : Fin 4) (t : Fin 2048) (h : Fin 16) : EReal := Ideal.logistic (dotRow (I.x b t) I.aw h)

/-- The decay's logarithm. -/
def logAlpha (b : Fin 4) (t : Fin 2048) (h : Fin 16) : EReal := logDecay (dotRow (I.x b t) I.aw h)

/-- The write strength. -/
def beta (b : Fin 4) (t : Fin 2048) (h : Fin 16) : EReal := Ideal.logistic (dotRow (I.x b t) I.bw h)

/-- The inputs that the recurrence depends on are real numbers; the matrices of the projections, of the write strengths and of the output may be anything. -/
structure Finite : Prop where
  x : ∀ b t d, Re (I.x b t d)
  qs : ∀ n, Re (I.qs n)
  ks : ∀ n, Re (I.ks n)
  vs : ∀ n, Re (I.vs n)
  qk : ∀ i n, Re (I.qk i n)
  qb : ∀ n, Re (I.qb n)
  kk : ∀ i n, Re (I.kk i n)
  kb : ∀ n, Re (I.kb n)
  vk : ∀ i n, Re (I.vk i n)
  vb : ∀ n, Re (I.vb n)
  aw : ∀ d n, Re (I.aw d n)

/-- The batch and the head of one of the 64 sequences. -/
def batch (g : Fin 64) : Fin 4 := ⟨g.val / 16, by omega⟩

/-- The head of a sequence. -/
def head (g : Fin 64) : Fin 16 := ⟨g.val % 16, by omega⟩

/-- The sequence of a batch and a head. -/
def seqOf (b : Fin 4) (h : Fin 16) : Fin 64 := ⟨16 * b.val + h.val, by omega⟩

/-- A sequence's batch. -/
theorem batch_seqOf (b : Fin 4) (h : Fin 16) : batch (seqOf b h) = b := Fin.ext (show (16 * b.val + h.val) / 16 = b.val by omega)

/-- A sequence's head. -/
theorem head_seqOf (b : Fin 4) (h : Fin 16) : head (seqOf b h) = h := Fin.ext (show (16 * b.val + h.val) % 16 = h.val by omega)

/-- Head `h`'s column `d` among the columns of all heads. -/
def colQ (h : Fin 16) (d : Fin 64) : Fin 1024 := ⟨64 * h.val + d.val, by omega⟩

/-- The same among the values' columns. -/
def colV (h : Fin 16) (d : Fin 128) : Fin 2048 := ⟨128 * h.val + d.val, by omega⟩

/-- A value of a time as a real number, zero past the last time. -/
def realAt (f : Fin 2048 → EReal) (s : ℕ) : ℝ := if h : s < 2048 then (f ⟨s, h⟩).toReal else 0

/-- Where the values are real, that is the value. -/
theorem realAt_eq (f : Fin 2048 → EReal) (hf : ∀ t, Re (f t)) (t : Fin 2048) : ((realAt f t.val : ℝ) : EReal) = f t := by
  obtain ⟨r, hr⟩ := hf t
  rw [realAt, dif_pos t.isLt]
  show (((f t).toReal : ℝ) : EReal) = f t
  rw [hr, EReal.toReal_coe]

/-- The sequences' real queries, keys, values, logarithms of decays and write strengths. -/
def qR (g : Fin 64) (s : ℕ) (d : Fin 64) : ℝ := realAt (fun t => I.query (batch g) t (colQ (head g) d)) s

/-- The real keys. -/
def kR (g : Fin 64) (s : ℕ) (d : Fin 64) : ℝ := realAt (fun t => I.key (batch g) t (colQ (head g) d)) s

/-- The real values. -/
def vR (g : Fin 64) (s : ℕ) (d : Fin 128) : ℝ := realAt (fun t => I.value (batch g) t (colV (head g) d)) s

/-- The real logarithms of decays. -/
def laR (g : Fin 64) (s : ℕ) : ℝ := realAt (fun t => I.logAlpha (batch g) t (head g)) s

/-- The real write strengths. -/
def bR (g : Fin 64) (s : ℕ) : ℝ := realAt (fun t => I.beta (batch g) t (head g)) s

/-- The state of sequence `g` before time `s`. -/
def stateR (g : Fin 64) (s : ℕ) : Fin 64 → Fin 128 → ℝ := state (I.laR g) (I.bR g) (I.kR g) (I.vR g) (fun _ _ => 0) s

/-- The read-out of sequence `g` at time `s`. -/
def readR (g : Fin 64) (s : ℕ) (w : Fin 128) : ℝ := ∑ d, I.qR g s d * I.stateR g (s + 1) d w

/-- The layer's output. -/
def out (b : Fin 4) (t : Fin 2048) (n : Fin 1024) : EReal :=
  (∑ kk : Fin 2048, ((I.readR (seqOf b ⟨kk.val / 128, by omega⟩) t.val ⟨kk.val % 128, by omega⟩ : ℝ) : EReal) * I.ow kk n)
    * Ideal.logistic (dotRow (I.x b t) I.gw n)

section
variable {I} (hI : I.Finite)
include hI

/-- The queries are real. -/
theorem re_query (b : Fin 4) (t : Fin 2048) (n : Fin 1024) : Re (I.query b t n) := by
  unfold query
  rw [count_q]
  exact re_branch (by norm_num) hI.qs hI.qk hI.qb t n

/-- The keys are real. -/
theorem re_key (b : Fin 4) (t : Fin 2048) (n : Fin 1024) : Re (I.key b t n) := by
  unfold key
  rw [count_q]
  exact re_branch (by norm_num) hI.ks hI.kk hI.kb t n

/-- The values are real. -/
theorem re_value (b : Fin 4) (t : Fin 2048) (n : Fin 2048) : Re (I.value b t n) := by
  unfold value
  rw [count_v]
  exact re_branch (by norm_num) hI.vs hI.vk hI.vb t n

/-- The logarithms of the decays are real. -/
theorem re_logAlpha (b : Fin 4) (t : Fin 2048) (h : Fin 16) : Re (I.logAlpha b t h) := by
  obtain ⟨z, hz⟩ := re_dotRow (hI.x b t) hI.aw h
  obtain ⟨l, hl, _⟩ := logDecay_coe z
  exact ⟨l, by rw [logAlpha, hz, hl]⟩

/-- The real queries are the queries. -/
theorem qR_eq (g : Fin 64) (t : Fin 2048) (d : Fin 64) : ((I.qR g t.val d : ℝ) : EReal) = I.query (batch g) t (colQ (head g) d) :=
  realAt_eq _ (fun t => re_query hI _ t _) t

/-- The real keys are the keys. -/
theorem kR_eq (g : Fin 64) (t : Fin 2048) (d : Fin 64) : ((I.kR g t.val d : ℝ) : EReal) = I.key (batch g) t (colQ (head g) d) :=
  realAt_eq _ (fun t => re_key hI _ t _) t

/-- The real values are the values. -/
theorem vR_eq (g : Fin 64) (t : Fin 2048) (d : Fin 128) : ((I.vR g t.val d : ℝ) : EReal) = I.value (batch g) t (colV (head g) d) :=
  realAt_eq _ (fun t => re_value hI _ t _) t

/-- The real logarithms are the logarithms. -/
theorem laR_eq (g : Fin 64) (t : Fin 2048) : ((I.laR g t.val : ℝ) : EReal) = I.logAlpha (batch g) t (head g) :=
  realAt_eq _ (fun t => re_logAlpha hI _ t _) t

omit hI in
/-- The real write strengths are the write strengths. -/
theorem bR_eq (g : Fin 64) (t : Fin 2048) : ((I.bR g t.val : ℝ) : EReal) = I.beta (batch g) t (head g) :=
  realAt_eq _ (fun t => re_logistic _) t

/-- The decay is the exponential of its logarithm. -/
theorem exp_laR (g : Fin 64) (t : Fin 2048) : ((Real.exp (I.laR g t.val) : ℝ) : EReal) = I.alpha (batch g) t (head g) := by
  obtain ⟨z, hz⟩ := re_dotRow (hI.x (batch g) t) hI.aw (head g)
  obtain ⟨l, hl, he⟩ := logDecay_coe z
  have h := laR_eq hI g t
  rw [logAlpha, hz, hl, EReal.coe_eq_coe_iff] at h
  rw [h, alpha, hz, he]
end

end Inputs

/-- A sum over a tile's rows not after row `r` within its chunk is the sum from the chunk's start. -/
theorem chunk_sum (F : ℕ → ℝ) (r : Fin 256) :
    (∑ x : Fin 256, (if x.val ≤ r.val ∧ r.val / 64 = x.val / 64 then 1 else 0) * F x.val) = ∑ i ∈ Finset.range (r.val % 64 + 1), F (64 * (r.val / 64) + i) := by
  rw [Fin.sum_univ_eq_sum_range (fun x => (if x ≤ r.val ∧ r.val / 64 = x / 64 then (1 : ℝ) else 0) * F x) 256]
  simp only [ite_mul, one_mul, zero_mul]
  rw [← Finset.sum_filter]
  symm
  refine Finset.sum_nbij (fun i => 64 * (r.val / 64) + i) (fun i hi => ?_) (fun i _ j _ h => by simpa using h) (fun x hx => ?_) fun i _ => rfl
  · have hi' := Finset.mem_range.mp hi
    refine Finset.mem_filter.mpr ⟨Finset.mem_range.mpr ?_, ?_, ?_⟩ <;> omega
  · obtain ⟨h1, h2, h3⟩ := Finset.mem_filter.mp hx
    exact ⟨x - 64 * (r.val / 64), Finset.mem_coe.mpr (Finset.mem_range.mpr (by omega)), by show 64 * (r.val / 64) + (x - 64 * (r.val / 64)) = x; omega⟩

end Cert.Layer

end
-- ==== Proof.KernelIdeal.Chain.lean ====
/- The whole kernel: what its result array holds, call after call. -/
module

public import proofs.«01_k».proof.Proof.KernelIdeal.Run
public import proofs.«01_k».proof.Proof.KernelIdeal.ProjValue
public import proofs.«01_k».proof.Proof.KernelIdeal.ScanFold
public import proofs.«01_k».proof.Proof.KernelIdeal.OutValue
public import proofs.«01_k».proof.Proof.Layer.Whole
public import Idealize.ShloMosaic.Lib.Claim
@[expose] public section

set_option maxRecDepth 16384

noncomputable section

namespace Cert.KernelIdeal.Run

open Cert.KernelIdeal Cert.KernelIdeal.Gen Cert.Layer Cert.Layer.Inputs Cert.Delta
open Idealize.ShloMosaic Idealize.ShloMosaic.TcCoe Idealize.ShloMosaic.Tactic

/-- A vector as a function of its index. -/
abbrev vecFn {N : ℕ} (x : (⟨1, ![N]⟩ : Shape).Idx → EReal) (n : Fin N) : EReal := x (ix1 n)

/-- An array of three axes as a function of its indices. -/
abbrev arrFn {A B C : ℕ} (x : (⟨3, ![A, B, C]⟩ : Shape).Idx → EReal) (a : Fin A) (b : Fin B) (c : Fin C) : EReal := x (ix3 a b c)

variable (m : (ℓ : Loc nD τ sig) → Buf (Elt Ideal) ℓ) (ρ : Dev nD → PrngReg) (c : Dev nD)

/-- The layer's inputs that the arguments hold. -/
def inputs : Inputs where
  x := arrFn (m ((c : Thread nD τ).loc main_arg0) : Vec Ideal S4x2048x1024 .f32)
  qw := matFn (m ((c : Thread nD τ).loc main_arg1) : Vec Ideal S1024x1024 .f32)
  kw := matFn (m ((c : Thread nD τ).loc main_arg2) : Vec Ideal S1024x1024 .f32)
  vw := matFn (m ((c : Thread nD τ).loc main_arg3) : Vec Ideal S1024x2048 .f32)
  qs := vecFn (m ((c : Thread nD τ).loc main_arg4) : Vec Ideal S1024 .f32)
  ks := vecFn (m ((c : Thread nD τ).loc main_arg5) : Vec Ideal S1024 .f32)
  vs := vecFn (m ((c : Thread nD τ).loc main_arg6) : Vec Ideal S2048 .f32)
  qk := matFn (m ((c : Thread nD τ).loc main_arg7) : Vec Ideal S4x1024 .f32)
  qb := vecFn (m ((c : Thread nD τ).loc main_arg8) : Vec Ideal S1024 .f32)
  kk := matFn (m ((c : Thread nD τ).loc main_arg9) : Vec Ideal S4x1024 .f32)
  kb := vecFn (m ((c : Thread nD τ).loc main_arg10) : Vec Ideal S1024 .f32)
  vk := matFn (m ((c : Thread nD τ).loc main_arg11) : Vec Ideal S4x2048 .f32)
  vb := vecFn (m ((c : Thread nD τ).loc main_arg12) : Vec Ideal S2048 .f32)
  aw := matFn (m ((c : Thread nD τ).loc main_arg13) : Vec Ideal S1024x16 .f32)
  bw := matFn (m ((c : Thread nD τ).loc main_arg14) : Vec Ideal S1024x16 .f32)
  ow := matFn (m ((c : Thread nD τ).loc main_arg15) : Vec Ideal S2048x1024 .f32)
  gw := matFn (m ((c : Thread nD τ).loc main_arg16) : Vec Ideal S1024x1024 .f32)

/-! What the first stretch of host operations leaves: the matrices cast, the vectors as rows. -/

/-- A buffer that the first stretch does not write is as at the start. -/
theorem V1_arg (a : Ref sig .tc) (ha : a ∉ hostOps0_W) : V1 m ρ c a = m ((c : Thread nD τ).loc a) := W1_of m ρ c a ha

/-- The queries' matrix. -/
theorem V1_v0 : matFn (V1 m ρ c main_v0 : Vec Ideal S1024x1024 .bf16) = (inputs m c).qw := by
  funext d n
  unfold_abbrev_sides
  after_results
  rfl

/-- The keys' matrix. -/
theorem V1_v1 : matFn (V1 m ρ c main_v1 : Vec Ideal S1024x1024 .bf16) = (inputs m c).kw := by
  funext d n
  unfold_abbrev_sides
  after_results
  rfl

/-- The values' matrix. -/
theorem V1_v2 : matFn (V1 m ρ c main_v2 : Vec Ideal S1024x2048 .bf16) = (inputs m c).vw := by
  funext d n
  unfold_abbrev_sides
  after_results
  rfl

/-- The decays' matrix. -/
theorem V1_v3 : matFn (V1 m ρ c main_v3 : Vec Ideal S1024x16 .bf16) = (inputs m c).aw := by
  funext d n
  unfold_abbrev_sides
  after_results
  rfl

/-- The write strengths' matrix. -/
theorem V1_v4 : matFn (V1 m ρ c main_v4 : Vec Ideal S1024x16 .bf16) = (inputs m c).bw := by
  funext d n
  unfold_abbrev_sides
  after_results
  rfl

/-- The output's matrix. -/
theorem V1_v5 : matFn (V1 m ρ c main_v5 : Vec Ideal S2048x1024 .bf16) = (inputs m c).ow := by
  funext d n
  unfold_abbrev_sides
  after_results
  rfl

/-- The output gate's matrix. -/
theorem V1_v6 : matFn (V1 m ρ c main_v6 : Vec Ideal S1024x1024 .bf16) = (inputs m c).gw := by
  funext d n
  unfold_abbrev_sides
  after_results
  rfl

/-- The queries' scale, as a row. -/
theorem V1_v7 : rowFn (V1 m ρ c main_v7 : Vec Ideal S1x1024 .f32) = (inputs m c).qs := by
  funext n
  show (V1 m ρ c main_v7 : Vec Ideal S1x1024 .f32) (ix2 (0 : Fin 1) n) = (m ((c : Thread nD τ).loc main_arg4) : Vec Ideal S1024 .f32) (ix1 n)
  unfold_abbrev_sides
  after_results
  pointwise

/-- The keys' scale, as a row. -/
theorem V1_v8 : rowFn (V1 m ρ c main_v8 : Vec Ideal S1x1024 .f32) = (inputs m c).ks := by
  funext n
  show (V1 m ρ c main_v8 : Vec Ideal S1x1024 .f32) (ix2 (0 : Fin 1) n) = (m ((c : Thread nD τ).loc main_arg5) : Vec Ideal S1024 .f32) (ix1 n)
  unfold_abbrev_sides
  after_results
  pointwise

/-- The values' scale, as a row. -/
theorem V1_v9 : rowFn (V1 m ρ c main_v9 : Vec Ideal S1x2048 .f32) = (inputs m c).vs := by
  funext n
  show (V1 m ρ c main_v9 : Vec Ideal S1x2048 .f32) (ix2 (0 : Fin 1) n) = (m ((c : Thread nD τ).loc main_arg6) : Vec Ideal S2048 .f32) (ix1 n)
  unfold_abbrev_sides
  after_results
  pointwise

/-- The queries' bias, as a row. -/
theorem V1_v10 : rowFn (V1 m ρ c main_v10 : Vec Ideal S1x1024 .f32) = (inputs m c).qb := by
  funext n
  show (V1 m ρ c main_v10 : Vec Ideal S1x1024 .f32) (ix2 (0 : Fin 1) n) = (m ((c : Thread nD τ).loc main_arg8) : Vec Ideal S1024 .f32) (ix1 n)
  unfold_abbrev_sides
  after_results
  pointwise

/-- The keys' bias, as a row. -/
theorem V1_v11 : rowFn (V1 m ρ c main_v11 : Vec Ideal S1x1024 .f32) = (inputs m c).kb := by
  funext n
  show (V1 m ρ c main_v11 : Vec Ideal S1x1024 .f32) (ix2 (0 : Fin 1) n) = (m ((c : Thread nD τ).loc main_arg10) : Vec Ideal S1024 .f32) (ix1 n)
  unfold_abbrev_sides
  after_results
  pointwise

/-- The values' bias, as a row. -/
theorem V1_v12 : rowFn (V1 m ρ c main_v12 : Vec Ideal S1x2048 .f32) = (inputs m c).vb := by
  funext n
  show (V1 m ρ c main_v12 : Vec Ideal S1x2048 .f32) (ix2 (0 : Fin 1) n) = (m ((c : Thread nD τ).loc main_arg12) : Vec Ideal S2048 .f32) (ix1 n)
  unfold_abbrev_sides
  after_results
  pointwise

/-- The queries' taps. -/
theorem V1_arg7 : matFn (V1 m ρ c main_arg7 : Vec Ideal S4x1024 .f32) = (inputs m c).qk := by rw [V1_arg m ρ c main_arg7 (by decide)]; rfl

/-- The keys' taps. -/
theorem V1_arg9 : matFn (V1 m ρ c main_arg9 : Vec Ideal S4x1024 .f32) = (inputs m c).kk := by rw [V1_arg m ρ c main_arg9 (by decide)]; rfl

/-- The values' taps. -/
theorem V1_arg11 : matFn (V1 m ρ c main_arg11 : Vec Ideal S4x2048 .f32) = (inputs m c).vk := by rw [V1_arg m ρ c main_arg11 (by decide)]; rfl

/-- The input. -/
theorem V1_x : xOf (V1 m ρ) c = (inputs m c).x := by
  funext b t d
  show (V1 m ρ c main_arg0 : Vec Ideal S4x2048x1024 .f32) (ix3 b t d) = _
  rw [V1_arg m ρ c main_arg0 (by decide)]
  rfl

/-! What the projection call leaves. -/

/-- After the projection call: the queries, by head. -/
theorem V2_q (b : Fin 4) (h : Fin 16) (t : Fin 2048) (d : Fin 64) :
    (V2 m ρ c main_v13_0 : Vec Ideal S4x16x2048x64 .f32) (ix4 b h t d) = (inputs m c).query b t (colQ h d) := by
  refine (congrFun ((W2_arr m ρ c 16).trans (q_value (V1 m ρ) c)) (ix4 b h t d)).trans ?_
  rw [V1_x, V1_v0, V1_v7, V1_arg7, V1_v10]
  rfl

/-- The keys, by head. -/
theorem V2_k (b : Fin 4) (h : Fin 16) (t : Fin 2048) (d : Fin 64) :
    (V2 m ρ c main_v13_1 : Vec Ideal S4x16x2048x64 .f32) (ix4 b h t d) = (inputs m c).key b t (colQ h d) := by
  refine (congrFun ((W2_arr m ρ c 17).trans (k_value (V1 m ρ) c)) (ix4 b h t d)).trans ?_
  rw [V1_x, V1_v1, V1_v8, V1_arg9, V1_v11]
  rfl

/-- The values, by head. -/
theorem V2_v (b : Fin 4) (h : Fin 16) (t : Fin 2048) (d : Fin 128) :
    (V2 m ρ c main_v13_2 : Vec Ideal S4x16x2048x128 .f32) (ix4 b h t d) = (inputs m c).value b t (colV h d) := by
  refine (congrFun ((W2_arr m ρ c 18).trans (v_value (V1 m ρ) c)) (ix4 b h t d)).trans ?_
  rw [V1_x, V1_v2, V1_v9, V1_arg11, V1_v12]
  rfl

/-- The write strengths. -/
theorem V2_b (b : Fin 4) (h : Fin 16) (t : Fin 2048) :
    (V2 m ρ c main_v13_4 : Vec Ideal S4x16x2048x1 .f32) (ix4 b h t (0 : Fin 1)) = (inputs m c).beta b t h := by
  refine (congrFun ((W2_arr m ρ c 20).trans (b_value (V1 m ρ) c)) (ix4 b h t (0 : Fin 1))).trans ?_
  rw [V1_x, V1_v4]
  exact congrArg ((inputs m c).beta b t) (Fin.ext (show 1 * h.val + 0 = h.val by omega))

section
variable (hI : (inputs m c).Finite)
include hI

/-- The logarithms of the decays, summed within each chunk of 64 times. -/
theorem V2_g (g : Fin 64) (n : Fin 32) (r : Fin 64) :
    (V2 m ρ c main_v13_3 : Vec Ideal S4x16x2048x1 .f32) (ix4 (batch g) (head g) (⟨64 * n.val + r.val, by omega⟩ : Fin 2048) (0 : Fin 1))
      = ((cum (fun i => (inputs m c).laR g (64 * n.val + i)) (r.val + 1) : ℝ) : EReal) := by
  have hl : ∀ b t h, logDecay (dotRow (xOf (V1 m ρ) c b t) (matFn (V1 m ρ c main_v3 : Vec Ideal S1024x16 .bf16)) h)
      = (((inputs m c).laR (seqOf b h) t.val : ℝ) : EReal) := fun b t h => by
    rw [V1_x, V1_v3, laR_eq hI, batch_seqOf, head_seqOf, logAlpha]
  refine (congrFun ((W2_arr m ρ c 19).trans (g_value (V1 m ρ) c (fun b t h => (inputs m c).laR (seqOf b h) t.val) hl)) (ix4 (batch g) (head g) (⟨64 * n.val + r.val, by omega⟩ : Fin 2048) (0 : Fin 1))).trans ?_
  have eg : seqOf (batch g) ⟨1 * (head g).val + 0, by have := (head g).isLt; omega⟩ = g :=
    Fin.ext (show 16 * (g.val / 16) + (1 * (g.val % 16) + 0) = g.val by omega)
  show chunkSum (fun b t h => (inputs m c).laR (seqOf b h) t.val) (batch g) ⟨64 * n.val + r.val, by omega⟩ ⟨1 * (head g).val + 0, by have := (head g).isLt; omega⟩ = _
  unfold chunkSum
  simp only [eg]
  refine congrArg (fun z : ℝ => (z : EReal)) ?_
  refine (chunk_sum (fun x => (inputs m c).laR g (256 * ((64 * n.val + r.val) / 256) + x)) ⟨(64 * n.val + r.val) % 256, by omega⟩).trans ?_
  show ∑ i ∈ Finset.range ((64 * n.val + r.val) % 256 % 64 + 1), _ = _
  rw [show (64 * n.val + r.val) % 256 % 64 + 1 = r.val + 1 by omega]
  refine Finset.sum_congr rfl fun i _ => congrArg ((inputs m c).laR g) ?_
  show 256 * ((64 * n.val + r.val) / 256) + (64 * ((64 * n.val + r.val) % 256 / 64) + i) = 64 * n.val + i
  omega
end

/-! What the second stretch of host operations leaves: the same arrays, batch and head as one axis. -/

/-- The queries by sequence are those by batch and head. -/
theorem V3_v14 (g : Fin 64) (t : Fin 2048) (d : Fin 64) : (V3 m ρ c main_v14 : Vec Ideal S64x2048x64 .f32) (ix3 g t d)
    = (V2 m ρ c main_v13_0 : Vec Ideal S4x16x2048x64 .f32) (ix4 (batch g) (head g) t d) := by
  unfold_abbrev_sides
  after_results
  pointwise
  try rfl

/-- The keys by sequence. -/
theorem V3_v15 (g : Fin 64) (t : Fin 2048) (d : Fin 64) : (V3 m ρ c main_v15 : Vec Ideal S64x2048x64 .f32) (ix3 g t d)
    = (V2 m ρ c main_v13_1 : Vec Ideal S4x16x2048x64 .f32) (ix4 (batch g) (head g) t d) := by
  unfold_abbrev_sides
  after_results
  pointwise
  try rfl

/-- The values by sequence. -/
theorem V3_v16 (g : Fin 64) (t : Fin 2048) (d : Fin 128) : (V3 m ρ c main_v16 : Vec Ideal S64x2048x128 .f32) (ix3 g t d)
    = (V2 m ρ c main_v13_2 : Vec Ideal S4x16x2048x128 .f32) (ix4 (batch g) (head g) t d) := by
  unfold_abbrev_sides
  after_results
  pointwise
  try rfl

/-- The summed logarithms by sequence, as a column. -/
theorem V3_v17 (g : Fin 64) (t : Fin 2048) (u : Fin 1) : (V3 m ρ c main_v17 : Vec Ideal S64x2048x1 .f32) (ix3 g t u)
    = (V2 m ρ c main_v13_3 : Vec Ideal S4x16x2048x1 .f32) (ix4 (batch g) (head g) t (0 : Fin 1)) := by
  rw [Subsingleton.elim u 0]
  unfold_abbrev_sides
  after_results
  pointwise
  try rfl

/-- The write strengths by sequence, as a column. -/
theorem V3_v18 (g : Fin 64) (t : Fin 2048) (u : Fin 1) : (V3 m ρ c main_v18 : Vec Ideal S64x2048x1 .f32) (ix3 g t u)
    = (V2 m ρ c main_v13_4 : Vec Ideal S4x16x2048x1 .f32) (ix4 (batch g) (head g) t (0 : Fin 1)) := by
  rw [Subsingleton.elim u 0]
  unfold_abbrev_sides
  after_results
  pointwise
  try rfl

/-- The summed logarithms by sequence, chunk by chunk, as a row. -/
theorem V3_v19 (g : Fin 64) (n : Fin 32) (r : Fin 64) : (V3 m ρ c main_v19 : Vec Ideal S64x32x64 .f32) (ix3 g n r)
    = (V2 m ρ c main_v13_3 : Vec Ideal S4x16x2048x1 .f32) (ix4 (batch g) (head g) (⟨64 * n.val + r.val, by omega⟩ : Fin 2048) (0 : Fin 1)) := by
  unfold_abbrev_sides
  after_results
  pointwise
  exact congrArg (fun t : Fin 2048 => (V2 m ρ c main_v13_3 : Vec Ideal S4x16x2048x1 .f32) (ix4 (batch g) (head g) t (0 : Fin 1)))
    (Fin.ext (show n.val * 64 + r.val = 64 * n.val + r.val by omega))

/-- The scan's operands are the layer's real sequences. -/
theorem operands (hI : (inputs m c).Finite) :
    Operands (V3 m ρ) c (inputs m c).qR (inputs m c).kR (inputs m c).vR (inputs m c).laR (inputs m c).bR where
  hq g t d := (V3_v14 m ρ c g t d).trans ((V2_q m ρ c _ _ t d).trans (qR_eq hI g t d).symm)
  hk g t d := (V3_v15 m ρ c g t d).trans ((V2_k m ρ c _ _ t d).trans (kR_eq hI g t d).symm)
  hv g t d := (V3_v16 m ρ c g t d).trans ((V2_v m ρ c _ _ t d).trans (vR_eq hI g t d).symm)
  hg g n r u _ := (V3_v17 m ρ c g _ u).trans (V2_g m ρ c hI g n r)
  hb g t u := (V3_v18 m ρ c g t u).trans ((V2_b m ρ c _ _ t).trans (bR_eq g t).symm)
  hgr g n r := (V3_v19 m ρ c g n r).trans (V2_g m ρ c hI g n r)

/-- The read-outs, batch and head apart again. -/
theorem V5_v22 (hI : (inputs m c).Finite) (b : Fin 4) (h : Fin 16) (t : Fin 2048) (w : Fin 128) :
    (V5 m ρ c main_v22 : Vec Ideal S4x16x2048x128 .f32) (ix4 b h t w) = (((inputs m c).readR (seqOf b h) t.val w : ℝ) : EReal) := by
  have e : (V5 m ρ c main_v22 : Vec Ideal S4x16x2048x128 .f32) (ix4 b h t w) = (V4 m ρ c main_v21 : Vec Ideal S64x2048x128 .f32) (ix3 (seqOf b h) t w) := by
    unfold_abbrev_sides
    after_results
    pointwise
    exact congrArg (fun g : Fin 64 => (V4 m ρ c main_v21 : Vec Ideal S64x2048x128 .f32) (ix3 g t w))
      (Fin.ext (show b.val * 16 + h.val = 16 * b.val + h.val by omega))
  refine e.trans ?_
  exact congrFun ((W4_arr m ρ c 7).trans (scan_value (operands m ρ c hI))) (ix3 (seqOf b h) t w)

/-- An array that no call and no later stretch writes holds at the last call what the first stretch left. -/
theorem V5_keep (a : Ref sig .tc) (h2 : a ∉ hostOps2_W) (h1 : a ∉ hostOps1_W)
    (k1 : ∀ w : Fin cfg1.W, Pipeline.arrRef spec1 w = a → (cfg1.win w).isOut = false) (k0 : ∀ w : Fin cfg0.W, Pipeline.arrRef spec0 w = a → (cfg0.win w).isOut = false) :
    V5 m ρ c a = V1 m ρ c a :=
  (W5_of m ρ c a h2).trans ((W4_of m ρ c a k1).trans ((W3_of m ρ c a h1).trans (W2_of m ρ c a k0)))

/-- THE KERNEL'S RESULT is the layer's output. -/
theorem result_value (hI : (inputs m c).Finite) (b : Fin 4) (t : Fin 2048) (n : Fin 1024) :
    (W6 m ρ c (Proc.devRef .tc main_v23) : Vec Ideal S4x2048x1024 .f32) (ix3 b t n) = (inputs m c).out b t n := by
  refine (congrFun ((W6_arr m ρ c 4).trans (out_value (V5 m ρ) c)) (ix3 b t n)).trans ?_
  have e0 : V5 m ρ c main_arg0 = V1 m ρ c main_arg0 := V5_keep m ρ c main_arg0 (by decide) (by decide) (by decide +kernel) (by decide +kernel)
  have e5 : V5 m ρ c main_v5 = V1 m ρ c main_v5 := V5_keep m ρ c main_v5 (by decide) (by decide) (by decide +kernel) (by decide +kernel)
  have e6 : V5 m ρ c main_v6 = V1 m ρ c main_v6 := V5_keep m ρ c main_v6 (by decide) (by decide) (by decide +kernel) (by decide +kernel)
  rw [e0, e5, e6]
  refine congrArg₂ (· * ·) (Finset.sum_congr rfl fun kk _ => ?_) (congrArg Ideal.logistic (Finset.sum_congr rfl fun d _ => ?_))
  · exact congrArg₂ (· * ·) (V5_v22 m ρ c hI _ _ _ _) (congrFun (congrFun (V1_v5 m ρ c) kk) n)
  · exact congrArg₂ (· * ·) (congrFun (congrFun (congrFun (V1_x m ρ c) b) t) d) (congrFun (congrFun (V1_v6 m ρ c) d) n)

end Cert.KernelIdeal.Run

end
-- ==== Proof.Reference.Branch.lean ====
/- The reference's three projections: what each stretch of its host operations makes, read entry by entry. -/
module

public import proofs.«01_k».proof.Proof.Gen.ReferenceIdeal.Run
public import proofs.«01_k».proof.Proof.Layer.Spec
public import Idealize.ShloMosaic.Lib.Pointwise
public import Idealize.ShloMosaic.Lib.Claim
@[expose] public section

set_option maxRecDepth 16384

noncomputable section

namespace Cert.ReferenceIdeal.Read

open Cert.ReferenceIdeal Cert.ReferenceIdeal.Gen Cert.ReferenceIdeal.Value Cert.Layer
open Idealize.ShloMosaic Idealize.ShloMosaic.TcCoe Idealize.ShloMosaic.Tactic Idealize.ShloMosaic.StableHlo

/-- An array of three axes, of its indices. -/
abbrev at3 {A B C : ℕ} (x : (⟨3, ![A, B, C]⟩ : Shape).Idx → EReal) (a : Fin A) (b : Fin B) (c : Fin C) : EReal := x (ix3 a b c)

/-- A matrix, of its indices. -/
abbrev at2 {A B : ℕ} (x : (⟨2, ![A, B]⟩ : Shape).Idx → EReal) (a : Fin A) (b : Fin B) : EReal := x (ix2 a b)

/-- A vector, of its index. -/
abbrev at1 {A : ℕ} (x : (⟨1, ![A]⟩ : Shape).Idx → EReal) (a : Fin A) : EReal := x (ix1 a)

/-- Rows with three rows of zeros before them. -/
def led {N : ℕ} (z : Fin 2048 → Fin N → EReal) (s : ℕ) (n : Fin N) : EReal :=
  if h : 3 ≤ s ∧ s - 3 < 2048 then z ⟨s - 3, h.2⟩ n else 0

/-- A tap reads the rows so led, `i` on. -/
theorem tap_eq_led {N : ℕ} (z : Fin 2048 → Fin N → EReal) (t : Fin 2048) (i : Fin 4) (n : Fin N) (s : ℕ) (hs : s = t.val + i.val) :
    tap z t i n = led z s n := by
  subst hs
  unfold tap led
  by_cases h : 3 ≤ t.val + i.val
  · rw [dif_pos h, dif_pos ⟨h, by omega⟩]
  · rw [dif_neg h, dif_neg fun h' => h h'.1]

/-- The convolution over the rows so led. -/
theorem conv_eq_led {N : ℕ} (z : Fin 2048 → Fin N → EReal) (ck : Fin 4 → Fin N → EReal) (bias : Fin N → EReal) (t : Fin 2048) (n : Fin N) :
    conv z ck bias t n = bias n + led z t.val n * ck 0 n + led z (1 + t.val) n * ck 1 n + led z (2 + t.val) n * ck 2 n + led z (3 + t.val) n * ck 3 n := by
  unfold conv
  rw [tap_eq_led z t 0 n t.val rfl, tap_eq_led z t 1 n (1 + t.val) (by simp; omega), tap_eq_led z t 2 n (2 + t.val) (by simp; omega),
    tap_eq_led z t 3 n (3 + t.val) (by simp; omega)]

/-- The integer zero as a number. -/
theorem zero_of_int : (FloatOps.sitofp .f32 (0#32 : BitVec 32) : Ideal .f32) = (0 : EReal) := by
  show (((0#32 : BitVec 32).toInt : ℝ) : EReal) = 0
  simp

variable (V : Valuation τ sig (Elt Ideal))

/-! ### The query projection -/

/-- The product, normalised. -/
theorem query_norm (b : Fin 4) (t : Fin 2048) (n : Fin 1024) :
    (after hostOps0 V (Proc.devRef .tc main_v19) : Vec Ideal S4x2048x1024 .f32) (ix3 b t n)
      = normed (Ideal.ofBits .f32 0x44800000#32) (dotRow (at3 (V (Proc.devRef .tc main_arg0) : Vec Ideal S4x2048x1024 .f32) b t)
          (at2 (V (Proc.devRef .tc main_arg1) : Vec Ideal S1024x1024 .f32))) (at1 (V (Proc.devRef .tc main_arg4) : Vec Ideal S1024 .f32)) n := by
  unfold_abbrev_sides
  after_results
  pointwise
  rfl

/-- The rows, three rows of zeros put before them. -/
theorem query_pad (b : Fin 4) (s : Fin 2051) (n : Fin 1024) (z : Fin 2048 → Fin 1024 → EReal)
    (hc : (V (Proc.devRef .tc main_c) : Vec Ideal S_ .i32) = fun _ => (0#32 : BitVec 32))
    (hz : ∀ t, (V (Proc.devRef .tc main_v19) : Vec Ideal S4x2048x1024 .f32) (ix3 b t n) = z t n) :
    (after hostOps0_1 V (Proc.devRef .tc main_v20) : Vec Ideal S4x2051x1024 .f32) (ix3 b s n) = led z s.val n := by
  unfold_abbrev_sides
  after_results
  simp only [TRef.ofBuf_toBuf, TRef.toBuf, TRef.ofBuf, cast_eq]
  pointwise
  rw [hc, zero_of_int]
  simp only [hz]
  rfl

/-- The convolution of the padded rows, activated. -/
theorem query_act (b : Fin 4) (t : Fin 2048) (n : Fin 1024) (z : Fin 2048 → Fin 1024 → EReal)
    (hz : ∀ s : Fin 2051, (V (Proc.devRef .tc main_v20) : Vec Ideal S4x2051x1024 .f32) (ix3 b s n) = led z s.val n) :
    (after hostOps0_3 (after hostOps0_2 V) (Proc.devRef .tc main_v51) : Vec Ideal S4x2048x1024 .f32) (ix3 b t n)
      = conv z (at2 (V (Proc.devRef .tc main_arg7) : Vec Ideal S4x1024 .f32)) (at1 (V (Proc.devRef .tc main_arg8) : Vec Ideal S1024 .f32)) t n
        * Ideal.logistic (conv z (at2 (V (Proc.devRef .tc main_arg7) : Vec Ideal S4x1024 .f32)) (at1 (V (Proc.devRef .tc main_arg8) : Vec Ideal S1024 .f32)) t n) := by
  unfold_abbrev_sides
  after_results
  simp only [TRef.ofBuf_toBuf, TRef.toBuf, TRef.ofBuf, cast_eq]
  pointwise
  rw [conv_eq_led]
  simp only [hz]
  rfl

/-- The buffers after the projection's operations. -/
abbrev query_after : Valuation τ sig (Elt Ideal) := after hostOps0_3 (after hostOps0_2 (after hostOps0_1 (after hostOps0 V)))

/-- The projection leaves what it does not write. -/
theorem query_kept (r : Ref sig .tc) (h0 : r ∉ hostOps0_W) (h1 : r ∉ hostOps0_1_W) (h2 : r ∉ hostOps0_2_W) (h3 : r ∉ hostOps0_3_W) :
    query_after V (Proc.devRef .tc r) = V (Proc.devRef .tc r) :=
  (after_of_writes_sub hostOps0_3 _ hostOps0_3_writes h3).trans ((after_of_writes_sub hostOps0_2 _ hostOps0_2_writes h2).trans
    ((after_of_writes_sub hostOps0_1 _ hostOps0_1_writes h1).trans (after_of_writes_sub hostOps0 V hostOps0_writes h0)))

/-- The projection's result is the layer's branch of the arguments. -/
theorem query_branch (b : Fin 4) (t : Fin 2048) (n : Fin 1024) :
    (query_after V (Proc.devRef .tc main_v51) : Vec Ideal S4x2048x1024 .f32) (ix3 b t n)
      = branch (Ideal.ofBits .f32 0x44800000#32) (at3 (V (Proc.devRef .tc main_arg0) : Vec Ideal S4x2048x1024 .f32) b)
          (at2 (V (Proc.devRef .tc main_arg1) : Vec Ideal S1024x1024 .f32)) (at1 (V (Proc.devRef .tc main_arg4) : Vec Ideal S1024 .f32))
          (at2 (V (Proc.devRef .tc main_arg7) : Vec Ideal S4x1024 .f32)) (at1 (V (Proc.devRef .tc main_arg8) : Vec Ideal S1024 .f32)) t n := by
  have hk : ∀ r : Ref sig .tc, r ∉ hostOps0_W → r ∉ hostOps0_1_W →
      after hostOps0_1 (after hostOps0 V) (Proc.devRef .tc r) = V (Proc.devRef .tc r) := fun r h0 h1 =>
    (after_of_writes_sub hostOps0_1 _ hostOps0_1_writes h1).trans (after_of_writes_sub hostOps0 V hostOps0_writes h0)
  have hc : (after hostOps0 V (Proc.devRef .tc main_c) : Vec Ideal S_ .i32) = fun _ => (0#32 : BitVec 32) := by
    unfold_abbrev_sides
    after_results
    rfl
  have h := query_act (after hostOps0_1 (after hostOps0 V)) b t n _
    (fun s => query_pad (after hostOps0 V) b s n _ hc (fun t => query_norm V b t n))
  rw [hk main_arg7 (by decide +kernel) (by decide +kernel), hk main_arg8 (by decide +kernel) (by decide +kernel)] at h
  exact h

/-! ### The key projection -/

/-- The product, normalised. -/
theorem key_norm (b : Fin 4) (t : Fin 2048) (n : Fin 1024) :
    (after hostOps0_4 V (Proc.devRef .tc main_v71) : Vec Ideal S4x2048x1024 .f32) (ix3 b t n)
      = normed (Ideal.ofBits .f32 0x44800000#32) (dotRow (at3 (V (Proc.devRef .tc main_arg0) : Vec Ideal S4x2048x1024 .f32) b t)
          (at2 (V (Proc.devRef .tc main_arg2) : Vec Ideal S1024x1024 .f32))) (at1 (V (Proc.devRef .tc main_arg5) : Vec Ideal S1024 .f32)) n := by
  unfold_abbrev_sides
  after_results
  pointwise
  rfl

/-- The rows, three rows of zeros put before them. -/
theorem key_pad (b : Fin 4) (s : Fin 2051) (n : Fin 1024) (z : Fin 2048 → Fin 1024 → EReal)
    (hc : (V (Proc.devRef .tc main_c_9) : Vec Ideal S_ .i32) = fun _ => (0#32 : BitVec 32))
    (hz : ∀ t, (V (Proc.devRef .tc main_v71) : Vec Ideal S4x2048x1024 .f32) (ix3 b t n) = z t n) :
    (after hostOps0_5 V (Proc.devRef .tc main_v72) : Vec Ideal S4x2051x1024 .f32) (ix3 b s n) = led z s.val n := by
  unfold_abbrev_sides
  after_results
  simp only [TRef.ofBuf_toBuf, TRef.toBuf, TRef.ofBuf, cast_eq]
  pointwise
  rw [hc, zero_of_int]
  simp only [hz]
  rfl

/-- The convolution of the padded rows, activated. -/
theorem key_act (b : Fin 4) (t : Fin 2048) (n : Fin 1024) (z : Fin 2048 → Fin 1024 → EReal)
    (hz : ∀ s : Fin 2051, (V (Proc.devRef .tc main_v72) : Vec Ideal S4x2051x1024 .f32) (ix3 b s n) = led z s.val n) :
    (after hostOps0_7 (after hostOps0_6 V) (Proc.devRef .tc main_v103) : Vec Ideal S4x2048x1024 .f32) (ix3 b t n)
      = conv z (at2 (V (Proc.devRef .tc main_arg9) : Vec Ideal S4x1024 .f32)) (at1 (V (Proc.devRef .tc main_arg10) : Vec Ideal S1024 .f32)) t n
        * Ideal.logistic (conv z (at2 (V (Proc.devRef .tc main_arg9) : Vec Ideal S4x1024 .f32)) (at1 (V (Proc.devRef .tc main_arg10) : Vec Ideal S1024 .f32)) t n) := by
  unfold_abbrev_sides
  after_results
  simp only [TRef.ofBuf_toBuf, TRef.toBuf, TRef.ofBuf, cast_eq]
  pointwise
  rw [conv_eq_led]
  simp only [hz]
  rfl

/-- The buffers after the projection's operations. -/
abbrev key_after : Valuation τ sig (Elt Ideal) := after hostOps0_7 (after hostOps0_6 (after hostOps0_5 (after hostOps0_4 V)))

/-- The projection leaves what it does not write. -/
theorem key_kept (r : Ref sig .tc) (h0 : r ∉ hostOps0_4_W) (h1 : r ∉ hostOps0_5_W) (h2 : r ∉ hostOps0_6_W) (h3 : r ∉ hostOps0_7_W) :
    key_after V (Proc.devRef .tc r) = V (Proc.devRef .tc r) :=
  (after_of_writes_sub hostOps0_7 _ hostOps0_7_writes h3).trans ((after_of_writes_sub hostOps0_6 _ hostOps0_6_writes h2).trans
    ((after_of_writes_sub hostOps0_5 _ hostOps0_5_writes h1).trans (after_of_writes_sub hostOps0_4 V hostOps0_4_writes h0)))

/-- The projection's result is the layer's branch of the arguments. -/
theorem key_branch (b : Fin 4) (t : Fin 2048) (n : Fin 1024) :
    (key_after V (Proc.devRef .tc main_v103) : Vec Ideal S4x2048x1024 .f32) (ix3 b t n)
      = branch (Ideal.ofBits .f32 0x44800000#32) (at3 (V (Proc.devRef .tc main_arg0) : Vec Ideal S4x2048x1024 .f32) b)
          (at2 (V (Proc.devRef .tc main_arg2) : Vec Ideal S1024x1024 .f32)) (at1 (V (Proc.devRef .tc main_arg5) : Vec Ideal S1024 .f32))
          (at2 (V (Proc.devRef .tc main_arg9) : Vec Ideal S4x1024 .f32)) (at1 (V (Proc.devRef .tc main_arg10) : Vec Ideal S1024 .f32)) t n := by
  have hk : ∀ r : Ref sig .tc, r ∉ hostOps0_4_W → r ∉ hostOps0_5_W →
      after hostOps0_5 (after hostOps0_4 V) (Proc.devRef .tc r) = V (Proc.devRef .tc r) := fun r h0 h1 =>
    (after_of_writes_sub hostOps0_5 _ hostOps0_5_writes h1).trans (after_of_writes_sub hostOps0_4 V hostOps0_4_writes h0)
  have hc : (after hostOps0_4 V (Proc.devRef .tc main_c_9) : Vec Ideal S_ .i32) = fun _ => (0#32 : BitVec 32) := by
    unfold_abbrev_sides
    after_results
    rfl
  have h := key_act (after hostOps0_5 (after hostOps0_4 V)) b t n _
    (fun s => key_pad (after hostOps0_4 V) b s n _ hc (fun t => key_norm V b t n))
  rw [hk main_arg9 (by decide +kernel) (by decide +kernel), hk main_arg10 (by decide +kernel) (by decide +kernel)] at h
  exact h

/-! ### The value projection -/

/-- The product, normalised. -/
theorem value_norm (b : Fin 4) (t : Fin 2048) (n : Fin 2048) :
    (after hostOps0_8 V (Proc.devRef .tc main_v123) : Vec Ideal S4x2048x2048 .f32) (ix3 b t n)
      = normed (Ideal.ofBits .f32 0x45000000#32) (dotRow (at3 (V (Proc.devRef .tc main_arg0) : Vec Ideal S4x2048x1024 .f32) b t)
          (at2 (V (Proc.devRef .tc main_arg3) : Vec Ideal S1024x2048 .f32))) (at1 (V (Proc.devRef .tc main_arg6) : Vec Ideal S2048 .f32)) n := by
  unfold_abbrev_sides
  after_results
  pointwise
  rfl

/-- The rows, three rows of zeros put before them. -/
theorem value_pad (b : Fin 4) (s : Fin 2051) (n : Fin 2048) (z : Fin 2048 → Fin 2048 → EReal)
    (hc : (V (Proc.devRef .tc main_c_15) : Vec Ideal S_ .i32) = fun _ => (0#32 : BitVec 32))
    (hz : ∀ t, (V (Proc.devRef .tc main_v123) : Vec Ideal S4x2048x2048 .f32) (ix3 b t n) = z t n) :
    (after hostOps0_9 V (Proc.devRef .tc main_v124) : Vec Ideal S4x2051x2048 .f32) (ix3 b s n) = led z s.val n := by
  unfold_abbrev_sides
  after_results
  simp only [TRef.ofBuf_toBuf, TRef.toBuf, TRef.ofBuf, cast_eq]
  pointwise
  rw [hc, zero_of_int]
  simp only [hz]
  rfl

/-- The convolution of the padded rows, activated. -/
theorem value_act (b : Fin 4) (t : Fin 2048) (n : Fin 2048) (z : Fin 2048 → Fin 2048 → EReal)
    (hz : ∀ s : Fin 2051, (V (Proc.devRef .tc main_v124) : Vec Ideal S4x2051x2048 .f32) (ix3 b s n) = led z s.val n) :
    (after hostOps0_11 (after hostOps0_10 V) (Proc.devRef .tc main_v155) : Vec Ideal S4x2048x2048 .f32) (ix3 b t n)
      = conv z (at2 (V (Proc.devRef .tc main_arg11) : Vec Ideal S4x2048 .f32)) (at1 (V (Proc.devRef .tc main_arg12) : Vec Ideal S2048 .f32)) t n
        * Ideal.logistic (conv z (at2 (V (Proc.devRef .tc main_arg11) : Vec Ideal S4x2048 .f32)) (at1 (V (Proc.devRef .tc main_arg12) : Vec Ideal S2048 .f32)) t n) := by
  unfold_abbrev_sides
  after_results
  simp only [TRef.ofBuf_toBuf, TRef.toBuf, TRef.ofBuf, cast_eq]
  pointwise
  rw [conv_eq_led]
  simp only [hz]
  rfl

/-- The buffers after the projection's operations. -/
abbrev value_after : Valuation τ sig (Elt Ideal) := after hostOps0_11 (after hostOps0_10 (after hostOps0_9 (after hostOps0_8 V)))

/-- The projection leaves what it does not write. -/
theorem value_kept (r : Ref sig .tc) (h0 : r ∉ hostOps0_8_W) (h1 : r ∉ hostOps0_9_W) (h2 : r ∉ hostOps0_10_W) (h3 : r ∉ hostOps0_11_W) :
    value_after V (Proc.devRef .tc r) = V (Proc.devRef .tc r) :=
  (after_of_writes_sub hostOps0_11 _ hostOps0_11_writes h3).trans ((after_of_writes_sub hostOps0_10 _ hostOps0_10_writes h2).trans
    ((after_of_writes_sub hostOps0_9 _ hostOps0_9_writes h1).trans (after_of_writes_sub hostOps0_8 V hostOps0_8_writes h0)))

/-- The projection's result is the layer's branch of the arguments. -/
theorem value_branch (b : Fin 4) (t : Fin 2048) (n : Fin 2048) :
    (value_after V (Proc.devRef .tc main_v155) : Vec Ideal S4x2048x2048 .f32) (ix3 b t n)
      = branch (Ideal.ofBits .f32 0x45000000#32) (at3 (V (Proc.devRef .tc main_arg0) : Vec Ideal S4x2048x1024 .f32) b)
          (at2 (V (Proc.devRef .tc main_arg3) : Vec Ideal S1024x2048 .f32)) (at1 (V (Proc.devRef .tc main_arg6) : Vec Ideal S2048 .f32))
          (at2 (V (Proc.devRef .tc main_arg11) : Vec Ideal S4x2048 .f32)) (at1 (V (Proc.devRef .tc main_arg12) : Vec Ideal S2048 .f32)) t n := by
  have hk : ∀ r : Ref sig .tc, r ∉ hostOps0_8_W → r ∉ hostOps0_9_W →
      after hostOps0_9 (after hostOps0_8 V) (Proc.devRef .tc r) = V (Proc.devRef .tc r) := fun r h0 h1 =>
    (after_of_writes_sub hostOps0_9 _ hostOps0_9_writes h1).trans (after_of_writes_sub hostOps0_8 V hostOps0_8_writes h0)
  have hc : (after hostOps0_8 V (Proc.devRef .tc main_c_15) : Vec Ideal S_ .i32) = fun _ => (0#32 : BitVec 32) := by
    unfold_abbrev_sides
    after_results
    rfl
  have h := value_act (after hostOps0_9 (after hostOps0_8 V)) b t n _
    (fun s => value_pad (after hostOps0_8 V) b s n _ hc (fun t => value_norm V b t n))
  rw [hk main_arg11 (by decide +kernel) (by decide +kernel), hk main_arg12 (by decide +kernel) (by decide +kernel)] at h
  exact h

end Cert.ReferenceIdeal.Read

end
-- ==== Proof.Reference.Rows.lean ====
/- Reading, and overwriting, one time's row of an array whose first axis is the time. -/
module

public import Idealize.ShloMosaic.Lib.Pointwise
public import Idealize.ShloMosaic.Lib.DynamicIndex
public import Idealize.ShloMosaic.Lib.Pipeline.Value
@[expose] public section

noncomputable section

namespace Cert.ReferenceIdeal.Read

open Idealize.ShloMosaic

variable {α : Type} {A B C D : ℕ} (t : Fin A)

/-- A block of one row at row `t` is that row: an array of four axes. -/
theorem slice_row4 (x : (⟨4, ![A, B, C, D]⟩ : Shape).Idx → α) (start : Fin 4 → ℤ)
    (h : (⟨4, ![A, B, C, D]⟩ : Shape).Slices (fun _ => 0) ⟨4, ![1, B, C, D]⟩)
    (hs : ∀ a, start a = ((![t.val, 0, 0, 0] : Fin 4 → ℕ) a : ℤ)) :
    Host.dynamicSlice ⟨4, ![1, B, C, D]⟩ x start h = fun i => x (ix4 t (i 1) (i 2) (i 3)) := by
  have ht := t.isLt
  rw [Host.dynamicSlice_eq_extractStridedSlice ⟨4, ![1, B, C, D]⟩ x start ![t.val, 0, 0, 0] h
    ⟨rfl, fun a => by fin_cases a <;> simp <;> omega⟩ hs]
  funext i
  have h0 : (i 0).val = 0 := by have := (i 0).isLt; simp at this; omega
  unfold extractStridedSlice
  refine congrArg x (funext fun a => Fin.ext ?_)
  fin_cases a
  · show t.val + (i 0).val = t.val; omega
  · show 0 + (i 1).val = (i 1).val; omega
  · show 0 + (i 2).val = (i 2).val; omega
  · show 0 + (i 3).val = (i 3).val; omega

/-- A block of one row at row `t` is that row: an array of three axes. -/
theorem slice_row3 (x : (⟨3, ![A, B, C]⟩ : Shape).Idx → α) (start : Fin 3 → ℤ)
    (h : (⟨3, ![A, B, C]⟩ : Shape).Slices (fun _ => 0) ⟨3, ![1, B, C]⟩)
    (hs : ∀ a, start a = ((![t.val, 0, 0] : Fin 3 → ℕ) a : ℤ)) :
    Host.dynamicSlice ⟨3, ![1, B, C]⟩ x start h = fun i => x (ix3 t (i 1) (i 2)) := by
  have ht := t.isLt
  rw [Host.dynamicSlice_eq_extractStridedSlice ⟨3, ![1, B, C]⟩ x start ![t.val, 0, 0] h
    ⟨rfl, fun a => by fin_cases a <;> simp <;> omega⟩ hs]
  funext i
  have h0 : (i 0).val = 0 := by have := (i 0).isLt; simp at this; omega
  unfold extractStridedSlice
  refine congrArg x (funext fun a => Fin.ext ?_)
  fin_cases a
  · show t.val + (i 0).val = t.val; omega
  · show 0 + (i 1).val = (i 1).val; omega
  · show 0 + (i 2).val = (i 2).val; omega

/-- Overwriting row `t` puts the block there and leaves the other rows. -/
theorem update_row4 (x : (⟨4, ![A, B, C, D]⟩ : Shape).Idx → α) (u : (⟨4, ![1, B, C, D]⟩ : Shape).Idx → α) (start : Fin 4 → ℤ)
    (h : (⟨4, ![A, B, C, D]⟩ : Shape).Slices (fun _ => 0) ⟨4, ![1, B, C, D]⟩)
    (hs : ∀ a, start a = ((![t.val, 0, 0, 0] : Fin 4 → ℕ) a : ℤ)) :
    Host.dynamicUpdateSlice x u start h = fun i => if (i 0).val = t.val then u (ix4 0 (i 1) (i 2) (i 3)) else x i := by
  have ht := t.isLt
  rw [Host.dynamicUpdateSlice_eq_updateSlice x u start h ![t.val, 0, 0, 0]
    (fun a => by rw [hs a]; fin_cases a <;> simp <;> omega) ⟨rfl, fun a => by fin_cases a <;> simp <;> omega⟩]
  funext i
  by_cases hi : (i 0).val = t.val
  · refine Eq.trans (dif_pos fun a => ?_) (Eq.trans (congrArg u (funext fun a => Fin.ext ?_)) (if_pos hi).symm)
    · fin_cases a
      · show t.val ≤ (i 0).val ∧ (i 0).val < t.val + 1; omega
      · exact ⟨Nat.zero_le _, by show (i 1).val < 0 + B; have := (i 1).isLt; simp at this; omega⟩
      · exact ⟨Nat.zero_le _, by show (i 2).val < 0 + C; have := (i 2).isLt; simp at this; omega⟩
      · exact ⟨Nat.zero_le _, by show (i 3).val < 0 + D; have := (i 3).isLt; simp at this; omega⟩
    · fin_cases a
      · show (i 0).val - t.val = 0; omega
      · rfl
      · rfl
      · rfl
  · refine Eq.trans (dif_neg fun h' => hi ?_) (if_neg hi).symm
    have h0 : t.val ≤ (i 0).val ∧ (i 0).val < t.val + 1 := h' 0
    omega

end Cert.ReferenceIdeal.Read

end
-- ==== Proof.Reference.Loop.lean ====
/- One trip of the reference's loop over the times, read entry by entry. -/
module

public import proofs.«01_k».proof.Proof.Reference.Branch
public import proofs.«01_k».proof.Proof.Reference.Rows
@[expose] public section

set_option maxRecDepth 16384

noncomputable section

namespace Cert.ReferenceIdeal.Read

open Cert.ReferenceIdeal Cert.ReferenceIdeal.Gen Cert.ReferenceIdeal.Value Cert.Layer
open Idealize.ShloMosaic Idealize.ShloMosaic.TcCoe Idealize.ShloMosaic.Tactic Idealize.ShloMosaic.StableHlo

/-- An array of four axes, of its indices. -/
abbrev at4 {A B C D : ℕ} (x : (⟨4, ![A, B, C, D]⟩ : Shape).Idx → EReal) (a : Fin A) (b : Fin B) (c : Fin C) (d : Fin D) : EReal := x (ix4 a b c d)

/-- The counter's word at a trip, read signed, is the trip. -/
theorem counter_int (t : Fin 2048) : (BitVec.ofNat 32 t.val).toInt = (t.val : ℤ) := by
  have := t.isLt
  rw [BitVec.toInt_ofNat']
  simp only [Int.bmod]
  omega

variable (V : Valuation τ sig (Elt Ideal)) (t : Fin 2048)

/-- The loop's counter stands at `t`. -/
abbrev AtTrip : Prop := (V (Proc.devRef .tc main_v180_5) : Vec Ideal S_ .i32) = fun _ => (BitVec.ofNat 32 t.val : BitVec 32)

variable {V t} (hc : AtTrip V t)

include hc in
/-- Where the trip's rows start: four axes. -/
theorem starts4 (a : Fin 4) :
    (((![V (Proc.devRef .tc main_v180_5), constantI S_ 32 0#32, constantI S_ 32 0#32, constantI S_ 32 0#32] :
      Fin 4 → (⟨S_, .i32⟩ : BufTy).Contents (Elt Ideal))) a (Shape.Idx.first h_S_)).toInt = ((![t.val, 0, 0, 0] : Fin 4 → ℕ) a : ℤ) := by
  fin_cases a
  · show ((V (Proc.devRef .tc main_v180_5) : Vec Ideal S_ .i32) (Shape.Idx.first h_S_)).toInt = (t.val : ℤ)
    rw [show (V (Proc.devRef .tc main_v180_5) : Vec Ideal S_ .i32) = _ from hc]
    exact counter_int t
  all_goals rfl

include hc in
/-- Where the trip's rows start: three axes. -/
theorem starts3 (a : Fin 3) :
    (((![V (Proc.devRef .tc main_v180_5), constantI S_ 32 0#32, constantI S_ 32 0#32] :
      Fin 3 → (⟨S_, .i32⟩ : BufTy).Contents (Elt Ideal))) a (Shape.Idx.first h_S_)).toInt = ((![t.val, 0, 0] : Fin 3 → ℕ) a : ℤ) := by
  fin_cases a
  · show ((V (Proc.devRef .tc main_v180_5) : Vec Ideal S_ .i32) (Shape.Idx.first h_S_)).toInt = (t.val : ℤ)
    rw [show (V (Proc.devRef .tc main_v180_5) : Vec Ideal S_ .i32) = _ from hc]
    exact counter_int t
  all_goals rfl

include hc in
/-- The trip's key. -/
theorem key_read (b : Fin 4) (h : Fin 16) (d : Fin 64) :
    (res_main_while0b_v193 V : Vec Ideal S4x16x64 .f32) (ix3 b h d) = at4 (V (Proc.devRef .tc main_v180_1) : Vec Ideal S2048x4x16x64 .f32) t b h d := by
  unfold res_main_while0b_v193
  erw [slice_row4 t _ _ _ (starts4 hc)]
  pointwise

include hc in
/-- The state, decayed. -/
theorem decayed_read (b : Fin 4) (h : Fin 16) (d : Fin 64) (w : Fin 128) :
    (res_main_while0b_v199 V : Vec Ideal S4x16x64x128 .f32) (ix4 b h d w)
      = at3 (V (Proc.devRef .tc main_v180_3) : Vec Ideal S2048x4x16 .f32) t b h * at4 (V (Proc.devRef .tc main_v180_6) : Vec Ideal S4x16x64x128 .f32) b h d w := by
  unfold res_main_while0b_v199
  erw [slice_row3 t _ _ _ (starts3 hc)]
  pointwise

include hc in
/-- The state after the trip: the decayed one and the delta rule's correction. -/
theorem state_read (b : Fin 4) (h : Fin 16) (d : Fin 64) (w : Fin 128) :
    (step_main_v180_6 V : Vec Ideal S4x16x64x128 .f32) (ix4 b h d w)
      = at4 (res_main_while0b_v199 V : Vec Ideal S4x16x64x128 .f32) b h d w
        + at3 (V (Proc.devRef .tc main_v180_4) : Vec Ideal S2048x4x16 .f32) t b h
          * (at3 (res_main_while0b_v193 V : Vec Ideal S4x16x64 .f32) b h d
            * (at4 (V (Proc.devRef .tc main_v180_2) : Vec Ideal S2048x4x16x128 .f32) t b h w
              - ∑ e, at3 (res_main_while0b_v193 V : Vec Ideal S4x16x64 .f32) b h e * at4 (res_main_while0b_v199 V : Vec Ideal S4x16x64x128 .f32) b h e w)) := by
  unfold step_main_v180_6 res_main_while0b_v210
  erw [slice_row3 t _ _ _ (starts3 hc), slice_row4 t _ _ _ (starts4 hc), id_eq]
  pointwise

include hc in
/-- The read-outs after the trip: the trip's own row is written, the others stay. -/
theorem out_read (s : Fin 2048) (b : Fin 4) (h : Fin 16) (w : Fin 128) :
    (step_main_v180_7 V : Vec Ideal S2048x4x16x128 .f32) (ix4 s b h w)
      = if s.val = t.val then ∑ d, at4 (V (Proc.devRef .tc main_v180_0) : Vec Ideal S2048x4x16x64 .f32) t b h d
          * at4 (step_main_v180_6 V : Vec Ideal S4x16x64x128 .f32) b h d w
        else at4 (V (Proc.devRef .tc main_v180_7) : Vec Ideal S2048x4x16x128 .f32) s b h w := by
  unfold step_main_v180_7 step_main_v180_6
  erw [update_row4 t _ _ _ _ (starts4 hc), slice_row4 t _ _ _ (starts4 hc)]
  pointwise
  rfl

end Cert.ReferenceIdeal.Read

end
-- ==== Proof.Reference.Trips.lean ====
/- The reference's loop: what its buffers hold after each trip, and after the last. -/
module

public import proofs.«01_k».proof.Proof.Reference.Loop
public import proofs.«01_k».proof.Proof.Layer.Whole
@[expose] public section

set_option maxRecDepth 16384

noncomputable section

namespace Cert.ReferenceIdeal.Read

open Cert.ReferenceIdeal Cert.ReferenceIdeal.Gen Cert.ReferenceIdeal.Value Cert.Layer Cert.Layer.Inputs Cert.Delta
open Idealize.ShloMosaic Idealize.ShloMosaic.TcCoe Idealize.ShloMosaic.Tactic Idealize.ShloMosaic.StableHlo

/-- A finite sum of real numbers, as extended reals. -/
theorem sum_coe {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- What the loop's buffers hold before trip `n`. -/
structure Holds (I : Inputs) (n : ℕ) (V : Valuation τ sig (Elt Ideal)) : Prop where
  counter : (V (Proc.devRef .tc main_v180_5) : Vec Ideal S_ .i32) = fun _ => (BitVec.ofNat 32 n : BitVec 32)
  query : ∀ t b h d, at4 (V (Proc.devRef .tc main_v180_0) : Vec Ideal S2048x4x16x64 .f32) t b h d = I.query b t (colQ h d)
  key : ∀ t b h d, at4 (V (Proc.devRef .tc main_v180_1) : Vec Ideal S2048x4x16x64 .f32) t b h d = I.key b t (colQ h d)
  value : ∀ t b h w, at4 (V (Proc.devRef .tc main_v180_2) : Vec Ideal S2048x4x16x128 .f32) t b h w = I.value b t (colV h w)
  alpha : ∀ t b h, at3 (V (Proc.devRef .tc main_v180_3) : Vec Ideal S2048x4x16 .f32) t b h = I.alpha b t h
  beta : ∀ t b h, at3 (V (Proc.devRef .tc main_v180_4) : Vec Ideal S2048x4x16 .f32) t b h = I.beta b t h
  state : ∀ b h d w, at4 (V (Proc.devRef .tc main_v180_6) : Vec Ideal S4x16x64x128 .f32) b h d w = ((I.stateR (seqOf b h) n d w : ℝ) : EReal)
  read : ∀ (t : Fin 2048) b h w, t.val < n →
    at4 (V (Proc.devRef .tc main_v180_7) : Vec Ideal S2048x4x16x128 .f32) t b h w = ((I.readR (seqOf b h) t.val w : ℝ) : EReal)

section
variable {I : Inputs} (hI : I.Finite) {V : Valuation τ sig (Elt Ideal)} {t : Fin 2048} (hV : Holds I t.val V)
include hI hV

/-- The trip's key, a real number. -/
theorem key_coe (b : Fin 4) (h : Fin 16) (d : Fin 64) :
    at3 (res_main_while0b_v193 V : Vec Ideal S4x16x64 .f32) b h d = ((I.kR (seqOf b h) t.val d : ℝ) : EReal) := by
  rw [kR_eq hI, batch_seqOf, head_seqOf]
  exact (key_read hV.counter b h d).trans (hV.key t b h d)

/-- The decayed state, a real number. -/
theorem decayed_coe (b : Fin 4) (h : Fin 16) (d : Fin 64) (w : Fin 128) :
    at4 (res_main_while0b_v199 V : Vec Ideal S4x16x64x128 .f32) b h d w
      = ((Real.exp (I.laR (seqOf b h) t.val) * I.stateR (seqOf b h) t.val d w : ℝ) : EReal) := by
  rw [EReal.coe_mul, exp_laR hI, batch_seqOf, head_seqOf, ← hV.state b h d w, ← hV.alpha t b h]
  exact decayed_read hV.counter b h d w

/-- The state after the trip is the delta rule's next. -/
theorem state_coe (b : Fin 4) (h : Fin 16) (d : Fin 64) (w : Fin 128) :
    at4 (step_main_v180_6 V : Vec Ideal S4x16x64x128 .f32) b h d w = ((I.stateR (seqOf b h) (t.val + 1) d w : ℝ) : EReal) := by
  refine (state_read hV.counter b h d w).trans ?_
  rw [decayed_coe hI hV, key_coe hI hV, hV.beta, hV.value]
  simp only [key_coe hI hV, decayed_coe hI hV]
  have hv := vR_eq hI (seqOf b h) t w
  have hb := bR_eq (I := I) (seqOf b h) t
  rw [batch_seqOf, head_seqOf] at hv hb
  rw [← hv, ← hb]
  simp only [← EReal.coe_mul]
  rw [sum_coe]
  simp only [← EReal.coe_sub, ← EReal.coe_mul, ← EReal.coe_add]
  rfl

/-- What the trip reads out. -/
theorem read_coe (b : Fin 4) (h : Fin 16) (w : Fin 128) :
    (∑ d, at4 (V (Proc.devRef .tc main_v180_0) : Vec Ideal S2048x4x16x64 .f32) t b h d * at4 (step_main_v180_6 V : Vec Ideal S4x16x64x128 .f32) b h d w)
      = ((I.readR (seqOf b h) t.val w : ℝ) : EReal) := by
  have hq : ∀ d, at4 (V (Proc.devRef .tc main_v180_0) : Vec Ideal S2048x4x16x64 .f32) t b h d = ((I.qR (seqOf b h) t.val d : ℝ) : EReal) := fun d => by
    rw [hV.query, qR_eq hI, batch_seqOf, head_seqOf]
  simp only [hq, state_coe hI hV, ← EReal.coe_mul]
  rw [sum_coe]
  rfl

/-- One trip takes the buffers to what they hold before the next. -/
theorem holds_succ : Holds I (t.val + 1) (STEP V) where
  counter := by
    rw [STEP_main_v180_5]
    unfold step_main_v180_5
    rw [id_eq, show (V (Proc.devRef .tc main_v180_5) : Vec Ideal S_ .i32) = _ from hV.counter]
    funext i
    show BitVec.ofNat 32 t.val + 1#32 = BitVec.ofNat 32 (t.val + 1)
    rw [BitVec.ofNat_add]
  query := by rw [STEP_main_v180_0]; exact hV.query
  key := by rw [STEP_main_v180_1]; exact hV.key
  value := by rw [STEP_main_v180_2]; exact hV.value
  alpha := by rw [STEP_main_v180_3]; exact hV.alpha
  beta := by rw [STEP_main_v180_4]; exact hV.beta
  state := by rw [STEP_main_v180_6]; exact state_coe hI hV
  read := by
    intro s b h w hs
    rw [STEP_main_v180_7]
    refine (out_read hV.counter s b h w).trans ?_
    by_cases e : s.val = t.val
    · rw [if_pos e, read_coe hI hV, e]
    · rw [if_neg e]
      exact hV.read s b h w (by omega)

end

/-- From the loop's entry on, the buffers hold what they should before every trip, and after the last. -/
theorem holds_iterate {I : Inputs} (hI : I.Finite) {V : Valuation τ sig (Elt Ideal)} (h0 : Holds I 0 V) : ∀ n ≤ 2048, Holds I n (STEP^[n] V)
  | 0, _ => h0
  | n + 1, hn => by
    rw [Function.iterate_succ_apply']
    exact holds_succ (t := ⟨n, by omega⟩) hI (holds_iterate hI h0 n (by omega))

end Cert.ReferenceIdeal.Read

end
-- ==== Proof.Reference.Entry.lean ====
/- What the reference's loop starts from, and what the whole reference computes. -/
module

public import proofs.«01_k».proof.Proof.Reference.Trips
@[expose] public section

set_option maxRecDepth 16384

noncomputable section

namespace Cert.ReferenceIdeal.Read

open Cert.ReferenceIdeal Cert.ReferenceIdeal.Gen Cert.ReferenceIdeal.Value Cert.Layer Cert.Layer.Inputs
open Idealize.ShloMosaic Idealize.ShloMosaic.TcCoe Idealize.ShloMosaic.Tactic Idealize.ShloMosaic.StableHlo

section
variable (V : Valuation τ sig (Elt Ideal))

/-! ### The stretch just before the loop -/

/-- The queries by time, batch and head. -/
theorem entry_query (t : Fin 2048) (b : Fin 4) (h : Fin 16) (d : Fin 64) :
    at4 (after hostOps0_12 V (Proc.devRef .tc main_v180_0) : Vec Ideal S2048x4x16x64 .f32) t b h d
      = at3 (V (Proc.devRef .tc main_v51) : Vec Ideal S4x2048x1024 .f32) b t (colQ h d) := by
  unfold_abbrev_sides
  after_results
  rw [id_eq]
  pointwise
  refine congrArg (fun n => (V (Proc.devRef .tc main_v51) : Vec Ideal S4x2048x1024 .f32) (ix3 b t n)) (Fin.ext ?_)
  show h.val * 64 + d.val = 64 * h.val + d.val
  omega

/-- The keys by time, batch and head. -/
theorem entry_key (t : Fin 2048) (b : Fin 4) (h : Fin 16) (d : Fin 64) :
    at4 (after hostOps0_12 V (Proc.devRef .tc main_v180_1) : Vec Ideal S2048x4x16x64 .f32) t b h d
      = at3 (V (Proc.devRef .tc main_v103) : Vec Ideal S4x2048x1024 .f32) b t (colQ h d) := by
  unfold_abbrev_sides
  after_results
  rw [id_eq]
  pointwise
  refine congrArg (fun n => (V (Proc.devRef .tc main_v103) : Vec Ideal S4x2048x1024 .f32) (ix3 b t n)) (Fin.ext ?_)
  show h.val * 64 + d.val = 64 * h.val + d.val
  omega

/-- The values by time, batch and head. -/
theorem entry_value (t : Fin 2048) (b : Fin 4) (h : Fin 16) (w : Fin 128) :
    at4 (after hostOps0_12 V (Proc.devRef .tc main_v180_2) : Vec Ideal S2048x4x16x128 .f32) t b h w
      = at3 (V (Proc.devRef .tc main_v155) : Vec Ideal S4x2048x2048 .f32) b t (colV h w) := by
  unfold_abbrev_sides
  after_results
  rw [id_eq]
  pointwise
  refine congrArg (fun n => (V (Proc.devRef .tc main_v155) : Vec Ideal S4x2048x2048 .f32) (ix3 b t n)) (Fin.ext ?_)
  show h.val * 128 + w.val = 128 * h.val + w.val
  omega

/-- The decays by time. -/
theorem entry_alpha (t : Fin 2048) (b : Fin 4) (h : Fin 16) :
    at3 (after hostOps0_12 V (Proc.devRef .tc main_v180_3) : Vec Ideal S2048x4x16 .f32) t b h
      = Ideal.logistic (dotRow (at3 (V (Proc.devRef .tc main_arg0) : Vec Ideal S4x2048x1024 .f32) b t)
          (at2 (V (Proc.devRef .tc main_arg13) : Vec Ideal S1024x16 .f32)) h) := by
  unfold_abbrev_sides
  after_results
  rw [id_eq]
  pointwise
  rfl

/-- The write strengths by time. -/
theorem entry_beta (t : Fin 2048) (b : Fin 4) (h : Fin 16) :
    at3 (after hostOps0_12 V (Proc.devRef .tc main_v180_4) : Vec Ideal S2048x4x16 .f32) t b h
      = Ideal.logistic (dotRow (at3 (V (Proc.devRef .tc main_arg0) : Vec Ideal S4x2048x1024 .f32) b t)
          (at2 (V (Proc.devRef .tc main_arg14) : Vec Ideal S1024x16 .f32)) h) := by
  unfold_abbrev_sides
  after_results
  rw [id_eq]
  pointwise
  rfl

/-- The counter starts at zero. -/
theorem entry_counter :
    (after hostOps0_12 V (Proc.devRef .tc main_v180_5) : Vec Ideal S_ .i32) = fun _ => (BitVec.ofNat 32 0 : BitVec 32) := by
  unfold_abbrev_sides
  after_results
  rfl

/-- The state starts at zero. -/
theorem entry_state (b : Fin 4) (h : Fin 16) (d : Fin 64) (w : Fin 128) :
    at4 (after hostOps0_12 V (Proc.devRef .tc main_v180_6) : Vec Ideal S4x16x64x128 .f32) b h d w = 0 := by
  unfold_abbrev_sides
  after_results
  rw [id_eq]
  pointwise
  rfl

/-! ### The stretch after the loop -/

/-- The result: the read-outs of all heads against the output's matrix, gated. -/
theorem result_read (b : Fin 4) (t : Fin 2048) (n : Fin 1024) :
    (out_main_v191 V : Vec Ideal S4x2048x1024 .f32) (ix3 b t n)
      = (∑ k : Fin 2048, at4 (V (Proc.devRef .tc main_v180_7) : Vec Ideal S2048x4x16x128 .f32) t b ⟨k.val / 128, by omega⟩ ⟨k.val % 128, by omega⟩
            * at2 (V (Proc.devRef .tc main_arg15) : Vec Ideal S2048x1024 .f32) k n)
        * Ideal.logistic (dotRow (at3 (V (Proc.devRef .tc main_arg0) : Vec Ideal S4x2048x1024 .f32) b t)
          (at2 (V (Proc.devRef .tc main_arg16) : Vec Ideal S1024x1024 .f32)) n) := by
  unfold out_main_v191
  pointwise
  rfl

end

end Cert.ReferenceIdeal.Read

end
-- ==== Proof.Reference.Value.lean ====
/- The whole reference: its result is the layer's output. -/
module

public import proofs.«01_k».proof.Proof.Reference.Entry
@[expose] public section

set_option maxRecDepth 16384

noncomputable section

namespace Cert.ReferenceIdeal.Read

open Cert.ReferenceIdeal Cert.ReferenceIdeal.Gen Cert.ReferenceIdeal.Value Cert.Layer Cert.Layer.Inputs
open Idealize.ShloMosaic Idealize.ShloMosaic.TcCoe Idealize.ShloMosaic.Tactic Idealize.ShloMosaic.StableHlo

variable (m : (ℓ : Loc nD τ sig) → Buf (Elt Ideal) ℓ) (c : Dev nD)

/-- The layer's inputs that the arguments hold. -/
def inputs : Inputs where
  x := at3 (m ((c.tc : Thread nD τ).loc main_arg0) : Vec Ideal S4x2048x1024 .f32)
  qw := at2 (m ((c.tc : Thread nD τ).loc main_arg1) : Vec Ideal S1024x1024 .f32)
  kw := at2 (m ((c.tc : Thread nD τ).loc main_arg2) : Vec Ideal S1024x1024 .f32)
  vw := at2 (m ((c.tc : Thread nD τ).loc main_arg3) : Vec Ideal S1024x2048 .f32)
  qs := at1 (m ((c.tc : Thread nD τ).loc main_arg4) : Vec Ideal S1024 .f32)
  ks := at1 (m ((c.tc : Thread nD τ).loc main_arg5) : Vec Ideal S1024 .f32)
  vs := at1 (m ((c.tc : Thread nD τ).loc main_arg6) : Vec Ideal S2048 .f32)
  qk := at2 (m ((c.tc : Thread nD τ).loc main_arg7) : Vec Ideal S4x1024 .f32)
  qb := at1 (m ((c.tc : Thread nD τ).loc main_arg8) : Vec Ideal S1024 .f32)
  kk := at2 (m ((c.tc : Thread nD τ).loc main_arg9) : Vec Ideal S4x1024 .f32)
  kb := at1 (m ((c.tc : Thread nD τ).loc main_arg10) : Vec Ideal S1024 .f32)
  vk := at2 (m ((c.tc : Thread nD τ).loc main_arg11) : Vec Ideal S4x2048 .f32)
  vb := at1 (m ((c.tc : Thread nD τ).loc main_arg12) : Vec Ideal S2048 .f32)
  aw := at2 (m ((c.tc : Thread nD τ).loc main_arg13) : Vec Ideal S1024x16 .f32)
  bw := at2 (m ((c.tc : Thread nD τ).loc main_arg14) : Vec Ideal S1024x16 .f32)
  ow := at2 (m ((c.tc : Thread nD τ).loc main_arg15) : Vec Ideal S2048x1024 .f32)
  gw := at2 (m ((c.tc : Thread nD τ).loc main_arg16) : Vec Ideal S1024x1024 .f32)

/-- The buffers before the loop: the three projections, then the stretch that lays them out by time. -/
theorem entry_eq : entryContents preI m c
    = after hostOps0_12 (value_after (key_after (query_after (launchContents m c)))) := rfl

/-- A buffer that no projection writes is as at the start. -/
theorem start_kept (r : Ref sig .tc) (hq : r ∉ hostOps0_W ++ hostOps0_1_W ++ hostOps0_2_W ++ hostOps0_3_W)
    (hk : r ∉ hostOps0_4_W ++ hostOps0_5_W ++ hostOps0_6_W ++ hostOps0_7_W)
    (hv : r ∉ hostOps0_8_W ++ hostOps0_9_W ++ hostOps0_10_W ++ hostOps0_11_W) (V : Valuation τ sig (Elt Ideal)) :
    query_after V (Proc.devRef .tc r) = V (Proc.devRef .tc r) ∧ key_after V (Proc.devRef .tc r) = V (Proc.devRef .tc r)
      ∧ value_after V (Proc.devRef .tc r) = V (Proc.devRef .tc r) := by
  simp only [List.mem_append, not_or] at hq hk hv
  exact ⟨query_kept V r hq.1.1.1 hq.1.1.2 hq.1.2 hq.2, key_kept V r hk.1.1.1 hk.1.1.2 hk.1.2 hk.2, value_kept V r hv.1.1.1 hv.1.1.2 hv.1.2 hv.2⟩

/-- Before the first trip the loop's buffers hold what they should. -/
theorem holds_entry : Holds (inputs m c) 0 (entryContents preI m c) := by
  rw [entry_eq]
  refine ⟨entry_counter _, fun t b h d => (entry_query _ t b h d).trans ?_, fun t b h d => (entry_key _ t b h d).trans ?_,
    fun t b h w => (entry_value _ t b h w).trans ?_, fun t b h => (entry_alpha _ t b h).trans ?_, fun t b h => (entry_beta _ t b h).trans ?_,
    fun b h d w => (entry_state _ b h d w).trans EReal.coe_zero.symm, fun t b h w ht => absurd ht (Nat.not_lt_zero _)⟩
  · rw [value_kept _ main_v51 (by decide +kernel) (by decide +kernel) (by decide +kernel) (by decide +kernel),
      key_kept _ main_v51 (by decide +kernel) (by decide +kernel) (by decide +kernel) (by decide +kernel)]
    exact query_branch (launchContents m c) b t (colQ h d)
  · rw [value_kept _ main_v103 (by decide +kernel) (by decide +kernel) (by decide +kernel) (by decide +kernel)]
    refine (key_branch _ b t (colQ h d)).trans ?_
    rw [(start_kept main_arg0 (by decide +kernel) (by decide +kernel) (by decide +kernel) _).1,
      (start_kept main_arg2 (by decide +kernel) (by decide +kernel) (by decide +kernel) _).1,
      (start_kept main_arg5 (by decide +kernel) (by decide +kernel) (by decide +kernel) _).1,
      (start_kept main_arg9 (by decide +kernel) (by decide +kernel) (by decide +kernel) _).1,
      (start_kept main_arg10 (by decide +kernel) (by decide +kernel) (by decide +kernel) _).1]
    rfl
  · refine (value_branch _ b t (colV h w)).trans ?_
    have e : ∀ r, r ∉ hostOps0_W ++ hostOps0_1_W ++ hostOps0_2_W ++ hostOps0_3_W → r ∉ hostOps0_4_W ++ hostOps0_5_W ++ hostOps0_6_W ++ hostOps0_7_W →
        r ∉ hostOps0_8_W ++ hostOps0_9_W ++ hostOps0_10_W ++ hostOps0_11_W →
        key_after (query_after (launchContents m c)) (Proc.devRef .tc r) = launchContents m c (Proc.devRef .tc r) := fun r hq hk hv =>
      (start_kept r hq hk hv _).2.1.trans (start_kept r hq hk hv _).1
    rw [e main_arg0 (by decide +kernel) (by decide +kernel) (by decide +kernel), e main_arg3 (by decide +kernel) (by decide +kernel) (by decide +kernel),
      e main_arg6 (by decide +kernel) (by decide +kernel) (by decide +kernel), e main_arg11 (by decide +kernel) (by decide +kernel) (by decide +kernel),
      e main_arg12 (by decide +kernel) (by decide +kernel) (by decide +kernel)]
    rfl
  all_goals
    have e : ∀ r, r ∉ hostOps0_W ++ hostOps0_1_W ++ hostOps0_2_W ++ hostOps0_3_W → r ∉ hostOps0_4_W ++ hostOps0_5_W ++ hostOps0_6_W ++ hostOps0_7_W →
        r ∉ hostOps0_8_W ++ hostOps0_9_W ++ hostOps0_10_W ++ hostOps0_11_W →
        value_after (key_after (query_after (launchContents m c))) (Proc.devRef .tc r) = launchContents m c (Proc.devRef .tc r) := fun r hq hk hv =>
      (start_kept r hq hk hv _).2.2.trans ((start_kept r hq hk hv _).2.1.trans (start_kept r hq hk hv _).1)
  · rw [e main_arg0 (by decide +kernel) (by decide +kernel) (by decide +kernel), e main_arg13 (by decide +kernel) (by decide +kernel) (by decide +kernel)]
    rfl
  · rw [e main_arg0 (by decide +kernel) (by decide +kernel) (by decide +kernel), e main_arg14 (by decide +kernel) (by decide +kernel) (by decide +kernel)]
    rfl

/-- The reference's result is the layer's output, entry by entry. -/
theorem result_value (hI : (inputs m c).Finite) (b : Fin 4) (t : Fin 2048) (n : Fin 1024) :
    (out_main_v191 (STEP^[2048] (entryContents preI m c)) : Vec Ideal S4x2048x1024 .f32) (ix3 b t n) = (inputs m c).out b t n := by
  have hV := holds_iterate hI (holds_entry m c) 2048 le_rfl
  refine (result_read _ b t n).trans ?_
  rw [iter_main_arg0, iter_main_arg15, iter_main_arg16]
  simp only [hV.read _ _ _ _ t.isLt]
  rfl

end Cert.ReferenceIdeal.Read

end
-- ==== Proof.Agree.lean ====
/- The equation of the results: the kernel and the reference, over the reals, both end with the layer's output. -/
module

public import proofs.«01_k».proof.Defs
public import proofs.«01_k».proof.Proof.Finite
public import proofs.«01_k».proof.Proof.KernelIdeal.Chain
public import proofs.«01_k».proof.Proof.Reference.Value
public import proofs.«01_k».proof.Proof.Gen.ReferenceIdeal.Run
@[expose] public section

set_option maxRecDepth 16384

noncomputable section

namespace Cert.Agree

open Cert.Layer Idealize.ShloMosaic Idealize.ShloMosaic.TcCoe

variable [Cert.Pre_finite_inputs.Facts]

/-- Under the precondition the layer's inputs are real where the layer needs them to be. -/
theorem inputs_finite (m : (ℓ : Loc Cert.KernelIdeal.nD Cert.KernelIdeal.τ Cert.KernelIdeal.sig) → Buf (Elt Ideal) ℓ) (c : Dev Cert.KernelIdeal.nD)
    (h : Cert.Pre_KernelIdeal_finite_inputs m) : (Cert.KernelIdeal.Run.inputs m c).Finite := by
  obtain ⟨h0, h4, h5, h6, h7, h8, h9, h10, h11, h12, h13⟩ :=
    Cert.Pre_finite_inputs.finite_args _ _ _ _ _ _ _ _ _ _ _ _ _ _ _ _ _ (h c)
  exact { x := fun _ _ _ => h0 _, qs := fun _ => h4 _,
          ks := fun _ => h5 _, vs := fun _ => h6 _, qk := fun _ _ => h7 _, qb := fun _ => h8 _, kk := fun _ _ => h9 _,
          kb := fun _ => h10 _, vk := fun _ _ => h11 _, vb := fun _ => h12 _, aw := fun _ _ => h13 _ }

omit [Cert.Pre_finite_inputs.Facts] in
/-- An index of a rank-three array is its three coordinates. -/
theorem eq_ix3 (i : (Cert.KernelIdeal.S4x2048x1024).Idx) : i = ix3 (i 0) (i 1) (i 2) := by
  funext k
  fin_cases k <;> rfl

omit [Cert.Pre_finite_inputs.Facts] in
/-- From the same arguments, under the precondition, both programs end with the same result. -/
theorem algebraic : @Cert.algebraic_KernelIdeal_ReferenceIdeal_pre_finite_inputs Cert.KernelIdeal.Gen.facts Cert.ReferenceIdeal.Gen.facts
    Cert.Pre_finite_inputs.shapes := by
  intro m g m' g' hpre hargs
  refine ⟨fun c => Cert.KernelIdeal.Run.W6 m g c (Proc.devRef .tc Cert.KernelIdeal.main_v23), Cert.KernelIdeal.Run.valued m g, ?_⟩
  refine (θ_run _ _ _).mono (fun r hr c => ⟨(hr c).1.trans ?_, (hr c).2⟩) (Cert.ReferenceIdeal.Value.run m' g')
  have same : Cert.ReferenceIdeal.Read.inputs m' c = Cert.KernelIdeal.Run.inputs m c := by
    obtain ⟨a0, a1, a2, a3, a4, a5, a6, a7, a8, a9, a10, a11, a12, a13, a14, a15, a16⟩ := hargs c
    unfold Cert.ReferenceIdeal.Read.inputs
    rw [a0, a1, a2, a3, a4, a5, a6, a7, a8, a9, a10, a11, a12, a13, a14, a15, a16]
    rfl
  have real := @inputs_finite Cert.Pre_finite_inputs.shapes m c hpre
  funext i
  have hk := Cert.KernelIdeal.Run.result_value m g c real (i 0) (i 1) (i 2)
  have hr' := Cert.ReferenceIdeal.Read.result_value m' c (same ▸ real) (i 0) (i 1) (i 2)
  rw [same] at hr'
  rw [eq_ix3 i]
  exact hr'.trans hk.symm

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Agree

@[expose] public section

namespace Cert.Proof

open Idealize.ShloMosaic

/-- The reference over the reals leaves its arguments unchanged; it declares no semaphore. -/
theorem frame_reference : Cert.quiescent_ReferenceIdeal := fun m ρ _ =>
  (θ_run _ _ _).mono (fun r h => ⟨fun c => (h c).2,
    Idealize.ShloMosaic.sem_eq_zero_of_no_sems (by decide) r.2⟩) (Cert.ReferenceIdeal.Value.run m ρ)

/-- Everything the certificate claims: the frames, with and without the precondition, the named mask, the equation of the results. -/
theorem claim : Cert.Claim := ⟨Cert.Kernel.Gen.facts, Cert.KernelIdeal.Gen.facts, Cert.ReferenceIdeal.Gen.facts, Cert.Pre_finite_inputs.shapes,
  fun m ρ _ => Cert.Kernel.Run.frame m ρ, fun m ρ _ => Cert.KernelIdeal.Run.frame m ρ, fun m ρ _ => Cert.KernelIdeal.Run.frame m ρ,
  frame_reference, fun m ρ _ => frame_reference m ρ trivial,
  IdealRules.named_const.statement Cert.KernelIdeal.κ "mask" .f32 0xF149F2CA#32 ⊥ rfl, Cert.Agree.algebraic⟩

end Cert.Proof
